-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2x512x2048 : Shape := ⟨3, ![2, 512, 2048]⟩
abbrev S2x512x4096 : Shape := ⟨3, ![2, 512, 4096]⟩
abbrev S8x128 : Shape := ⟨2, ![8, 128]⟩
abbrev S1x128 : Shape := ⟨2, ![1, 128]⟩
abbrev S2 : Shape := ⟨1, ![2]⟩
abbrev S8 : Shape := ⟨1, ![8]⟩
abbrev S4 : Shape := ⟨1, ![4]⟩
abbrev S_ : Shape := ⟨0, ![]⟩
abbrev S512x512 : Shape := ⟨2, ![512, 512]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩
abbrev S1x8x128 : Shape := ⟨3, ![1, 8, 128]⟩
abbrev S1x512x4096 : Shape := ⟨3, ![1, 512, 4096]⟩
abbrev S512x4096 : Shape := ⟨2, ![512, 4096]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S4096x8192, .f32⟩
  | .local _ .vmem, ⟨0, _⟩ => ⟨S4096x512, .f32⟩
  | .local _ .vmem, ⟨1, _⟩ => ⟨S512x8192, .f32⟩
  | .local _ .vmem, ⟨2, _⟩ => ⟨S2x512x2048, .f32⟩
  | .local _ .vmem, ⟨3, _⟩ => ⟨S2x512x2048, .f32⟩
  | .local _ .vmem, ⟨4, _⟩ => ⟨S2x512x4096, .i8⟩
  | .local _ .vmem, ⟨5, _⟩ => ⟨S2x512x4096, .i8⟩
  | .local _ .vmem, ⟨6, _⟩ => ⟨S8x128, .f32⟩
  | .local _ .vmem, ⟨7, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 3 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_21 : BitVec 32 := 8#32
  let v35 : BitVec 32 := Scalar.addi v2 c8_i32_21
  let c1_i32_22 : BitVec 32 := 1#32
  let v36 : BitVec 32 := Scalar.subi v35 c1_i32_22
  let c8_i32_23 : BitVec 32 := 8#32
  let c0_i32_24 : BitVec 32 := 0#32
  let v37 : BitVec 1 := Scalar.cmpi .eq c8_i32_23 c0_i32_24
  let c1_i32_25 : BitVec 32 := 1#32
  let v38 : BitVec 32 := Scalar.select v37 c1_i32_25 c8_i32_23
  let v39 : BitVec 32 := Scalar.remsi v36 v38
  let c0_i32_27 : BitVec 32 := 0#32
  let v41 : BitVec 1 := Scalar.cmpi .slt v39 c0_i32_27
  let c0_i32_28 : BitVec 32 := 0#32
  let v42 : BitVec 1 := Scalar.cmpi .slt v38 c0_i32_28
  let v43 : BitVec 1 := Scalar.xori v41 v42
  let c0_i32_26 : BitVec 32 := 0#32
  let v40 : BitVec 1 := Scalar.cmpi .ne v39 c0_i32_26
  let v44 : BitVec 1 := Scalar.andi v43 v40
  let v45 : BitVec 32 := Scalar.addi v39 v38
  let v46 : BitVec 32 := Scalar.select v44 v45 v39
  let c512_i32 : BitVec 32 := 512#32
  let v47 : BitVec 32 := Scalar.muli v46 c512_i32
  let v48 : Index := Scalar.indexCast v47
  let c0_29 : Index := 0#32
  ![v48.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v57 : BitVec 32 := Scalar.addi v2 c1_i32_36
  let c8_i32_37 : BitVec 32 := 8#32
  let c0_i32_38 : BitVec 32 := 0#32
  let v58 : BitVec 1 := Scalar.cmpi .eq c8_i32_37 c0_i32_38
  let c1_i32_39 : BitVec 32 := 1#32
  let v59 : BitVec 32 := Scalar.select v58 c1_i32_39 c8_i32_37
  let v60 : BitVec 32 := Scalar.remsi v57 v59
  let c0_i32_41 : BitVec 32 := 0#32
  let v62 : BitVec 1 := Scalar.cmpi .slt v60 c0_i32_41
  let c0_i32_42 : BitVec 32 := 0#32
  let v63 : BitVec 1 := Scalar.cmpi .slt v59 c0_i32_42
  let v64 : BitVec 1 := Scalar.xori v62 v63
  let c0_i32_40 : BitVec 32 := 0#32
  let v61 : BitVec 1 := Scalar.cmpi .ne v60 c0_i32_40
  let v65 : BitVec 1 := Scalar.andi v64 v61
  let v66 : BitVec 32 := Scalar.addi v60 v59
  let v67 : BitVec 32 := Scalar.select v65 v66 v60
  let c512_i32_43 : BitVec 32 := 512#32
  let v68 : BitVec 32 := Scalar.muli v67 c512_i32_43
  let v69 : Index := Scalar.indexCast v68
  let c0_44 : Index := 0#32
  ![v69.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_54 : BitVec 32 := 1#32
  let v78 : BitVec 32 := Scalar.muli v13 c1_i32_54
  let v79 : BitVec 32 := Scalar.addi c0_i32_55 v78
  v79.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_64 : BitVec 32 := 1#32
  let v88 : BitVec 32 := Scalar.muli v25 c1_i32_64
  let v89 : BitVec 32 := Scalar.addi c0_i32_65 v88
  v89.toNat
def k0_off3 (d0 : Dev nD) (c0_i32_70 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v98 : BitVec 32 := Scalar.addi v2 c16_i32
  let v99 : BitVec 32 := Scalar.subi v98 c0_i32_70
  let c2_i32_71 : BitVec 32 := 2#32
  let v100 : BitVec 32 := Scalar.subi v99 c2_i32_71
  let c8_i32_72 : BitVec 32 := 8#32
  let c0_i32_73 : BitVec 32 := 0#32
  let v101 : BitVec 1 := Scalar.cmpi .eq c8_i32_72 c0_i32_73
  let c1_i32_74 : BitVec 32 := 1#32
  let v102 : BitVec 32 := Scalar.select v101 c1_i32_74 c8_i32_72
  let v103 : BitVec 32 := Scalar.remsi v100 v102
  let c0_i32_76 : BitVec 32 := 0#32
  let v105 : BitVec 1 := Scalar.cmpi .slt v103 c0_i32_76
  let c0_i32_77 : BitVec 32 := 0#32
  let v106 : BitVec 1 := Scalar.cmpi .slt v102 c0_i32_77
  let v107 : BitVec 1 := Scalar.xori v105 v106
  let c0_i32_75 : BitVec 32 := 0#32
  let v104 : BitVec 1 := Scalar.cmpi .ne v103 c0_i32_75
  let v108 : BitVec 1 := Scalar.andi v107 v104
  let v109 : BitVec 32 := Scalar.addi v103 v102
  let v110 : BitVec 32 := Scalar.select v108 v109 v103
  let c512_i32_86 : BitVec 32 := 512#32
  let v123 : BitVec 32 := Scalar.muli v110 c512_i32_86
  let v124 : Index := Scalar.indexCast v123
  let c0_87 : Index := 0#32
  ![v124.toNat, 0]
def k0_off4 (d0 : Dev nD) (c0_i32_78 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v111 : BitVec 32 := Scalar.addi v2 c0_i32_78
  let c2_i32_79 : BitVec 32 := 2#32
  let v112 : BitVec 32 := Scalar.addi v111 c2_i32_79
  let c8_i32_80 : BitVec 32 := 8#32
  let c0_i32_81 : BitVec 32 := 0#32
  let v113 : BitVec 1 := Scalar.cmpi .eq c8_i32_80 c0_i32_81
  let c1_i32_82 : BitVec 32 := 1#32
  let v114 : BitVec 32 := Scalar.select v113 c1_i32_82 c8_i32_80
  let v115 : BitVec 32 := Scalar.remsi v112 v114
  let c0_i32_84 : BitVec 32 := 0#32
  let v117 : BitVec 1 := Scalar.cmpi .slt v115 c0_i32_84
  let c0_i32_85 : BitVec 32 := 0#32
  let v118 : BitVec 1 := Scalar.cmpi .slt v114 c0_i32_85
  let v119 : BitVec 1 := Scalar.xori v117 v118
  let c0_i32_83 : BitVec 32 := 0#32
  let v116 : BitVec 1 := Scalar.cmpi .ne v115 c0_i32_83
  let v120 : BitVec 1 := Scalar.andi v119 v116
  let v121 : BitVec 32 := Scalar.addi v115 v114
  let v122 : BitVec 32 := Scalar.select v120 v121 v115
  let c512_i32_91 : BitVec 32 := 512#32
  let v130 : BitVec 32 := Scalar.muli v122 c512_i32_91
  let v131 : Index := Scalar.indexCast v130
  let c0_92 : Index := 0#32
  ![v131.toNat, 0]
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_135 : BitVec 32 := 1#32
  let v165 : BitVec 32 := Scalar.muli v25 c1_i32_135
  let v166 : BitVec 32 := Scalar.addi c0_i32_136 v165
  v166.toNat
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_138 : BitVec 32 := 1#32
  let v167 : BitVec 32 := Scalar.muli v13 c1_i32_138
  let v168 : BitVec 32 := Scalar.addi c0_i32_139 v167
  v168.toNat
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v181 : BitVec 32 := Scalar.muli v13 c1_i32_159
  let v182 : BitVec 32 := Scalar.addi c0_i32_160 v181
  v182.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_169 : BitVec 32 := 1#32
  let v191 : BitVec 32 := Scalar.muli v25 c1_i32_169
  let v192 : BitVec 32 := Scalar.addi c0_i32_170 v191
  v192.toNat
def k0_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_241 : BitVec 32 := 1#32
  let v268 : BitVec 32 := Scalar.muli v25 c1_i32_241
  let v269 : BitVec 32 := Scalar.addi c0_i32_242 v268
  v269.toNat
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_244 : BitVec 32 := 1#32
  let v270 : BitVec 32 := Scalar.muli v13 c1_i32_244
  let v271 : BitVec 32 := Scalar.addi c0_i32_245 v270
  v271.toNat
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_266 : BitVec 32 := 1#32
  let v284 : BitVec 32 := Scalar.muli v13 c1_i32_266
  let v285 : BitVec 32 := Scalar.addi c0_i32_267 v284
  v285.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_276 : BitVec 32 := 1#32
  let v294 : BitVec 32 := Scalar.muli v25 c1_i32_276
  let v295 : BitVec 32 := Scalar.addi c0_i32_277 v294
  v295.toNat
def k0_dev13 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_348 : BitVec 32 := 1#32
  let v371 : BitVec 32 := Scalar.muli v25 c1_i32_348
  let v372 : BitVec 32 := Scalar.addi c0_i32_349 v371
  v372.toNat
def k0_dev14 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_351 : BitVec 32 := 1#32
  let v373 : BitVec 32 := Scalar.muli v13 c1_i32_351
  let v374 : BitVec 32 := Scalar.addi c0_i32_352 v373
  v374.toNat
def k0_dev15 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_373 : BitVec 32 := 1#32
  let v387 : BitVec 32 := Scalar.muli v13 c1_i32_373
  let v388 : BitVec 32 := Scalar.addi c0_i32_374 v387
  v388.toNat
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_383 : BitVec 32 := 1#32
  let v397 : BitVec 32 := Scalar.muli v25 c1_i32_383
  let v398 : BitVec 32 := Scalar.addi c0_i32_384 v397
  v398.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_454 : BitVec 32 := 1#32
  let v474 : BitVec 32 := Scalar.muli v25 c1_i32_454
  let v475 : BitVec 32 := Scalar.addi c0_i32_455 v474
  v475.toNat
def k0_dev18 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v476 : BitVec 32 := Scalar.muli v13 c1_i32_457
  let v477 : BitVec 32 := Scalar.addi c0_i32_458 v476
  v477.toNat
def k0_dev19 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_479 : BitVec 32 := 1#32
  let v490 : BitVec 32 := Scalar.muli v13 c1_i32_479
  let v491 : BitVec 32 := Scalar.addi c0_i32_480 v490
  v491.toNat
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v500 : BitVec 32 := Scalar.muli v25 c1_i32_489
  let v501 : BitVec 32 := Scalar.addi c0_i32_490 v500
  v501.toNat
def k0_dev21 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_560 : BitVec 32 := 1#32
  let v577 : BitVec 32 := Scalar.muli v25 c1_i32_560
  let v578 : BitVec 32 := Scalar.addi c0_i32_561 v577
  v578.toNat
def k0_dev22 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_563 : BitVec 32 := 1#32
  let v579 : BitVec 32 := Scalar.muli v13 c1_i32_563
  let v580 : BitVec 32 := Scalar.addi c0_i32_564 v579
  v580.toNat
def k0_dev23 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_585 : BitVec 32 := 1#32
  let v593 : BitVec 32 := Scalar.muli v13 c1_i32_585
  let v594 : BitVec 32 := Scalar.addi c0_i32_586 v593
  v594.toNat
def k0_dev24 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_595 : BitVec 32 := 1#32
  let v603 : BitVec 32 := Scalar.muli v25 c1_i32_595
  let v604 : BitVec 32 := Scalar.addi c0_i32_596 v603
  v604.toNat
def k0_dev25 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_666 : BitVec 32 := 1#32
  let v680 : BitVec 32 := Scalar.muli v25 c1_i32_666
  let v681 : BitVec 32 := Scalar.addi c0_i32_667 v680
  v681.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_669 : BitVec 32 := 1#32
  let v682 : BitVec 32 := Scalar.muli v13 c1_i32_669
  let v683 : BitVec 32 := Scalar.addi c0_i32_670 v682
  v683.toNat
def k0_dev27 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_691 : BitVec 32 := 1#32
  let v696 : BitVec 32 := Scalar.muli v13 c1_i32_691
  let v697 : BitVec 32 := Scalar.addi c0_i32_692 v696
  v697.toNat
def k0_dev28 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_701 : BitVec 32 := 1#32
  let v706 : BitVec 32 := Scalar.muli v25 c1_i32_701
  let v707 : BitVec 32 := Scalar.addi c0_i32_702 v706
  v707.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_707 : BitVec 32 := 512#32
  let v716 : BitVec 32 := Scalar.muli v2 c512_i32_707
  let v717 : Index := Scalar.indexCast v716
  let c0_708 : Index := 0#32
  ![v717.toNat, 0]
def k0_dev29 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_756 : BitVec 32 := 1#32
  let v758 : BitVec 32 := Scalar.muli v25 c1_i32_756
  let v759 : BitVec 32 := Scalar.addi c0_i32_757 v758
  v759.toNat
def k0_dev30 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_759 : BitVec 32 := 1#32
  let v760 : BitVec 32 := Scalar.muli v13 c1_i32_759
  let v761 : BitVec 32 := Scalar.addi c0_i32_760 v760
  v761.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_778 : BitVec 32 := 512#32
  let v788 : BitVec 32 := Scalar.muli v2 c512_i32_778
  let c0_i32_782 : BitVec 32 := 0#32
  ![v788.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_779 : BitVec 32 := 512#32
  let v789 : BitVec 32 := Scalar.muli v2 c512_i32_779
  let c2048_i32 : BitVec 32 := 2048#32
  ![v789.toNat, 2048]
def k0_dev31 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_836 : BitVec 32 := 1#32
  let v853 : BitVec 32 := Scalar.muli v13 c1_i32_836
  let v854 : BitVec 32 := Scalar.addi c0_i32_837 v853
  v854.toNat
def k0_dev32 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_846 : BitVec 32 := 1#32
  let v863 : BitVec 32 := Scalar.muli v25 c1_i32_846
  let v864 : BitVec 32 := Scalar.addi c0_i32_847 v863
  v864.toNat
def k0_dev33 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_918 : BitVec 32 := 1#32
  let v940 : BitVec 32 := Scalar.muli v25 c1_i32_918
  let v941 : BitVec 32 := Scalar.addi c0_i32_919 v940
  v941.toNat
def k0_dev34 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_921 : BitVec 32 := 1#32
  let v942 : BitVec 32 := Scalar.muli v13 c1_i32_921
  let v943 : BitVec 32 := Scalar.addi c0_i32_922 v942
  v943.toNat
def k0_dev35 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_943 : BitVec 32 := 1#32
  let v956 : BitVec 32 := Scalar.muli v13 c1_i32_943
  let v957 : BitVec 32 := Scalar.addi c0_i32_944 v956
  v957.toNat
def k0_dev36 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_953 : BitVec 32 := 1#32
  let v966 : BitVec 32 := Scalar.muli v25 c1_i32_953
  let v967 : BitVec 32 := Scalar.addi c0_i32_954 v966
  v967.toNat
def k0_dev37 (d0 : Dev nD) : Nat :=
  let c0_i32_1026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1025 : BitVec 32 := 1#32
  let v1043 : BitVec 32 := Scalar.muli v25 c1_i32_1025
  let v1044 : BitVec 32 := Scalar.addi c0_i32_1026 v1043
  v1044.toNat
def k0_dev38 (d0 : Dev nD) : Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1028 : BitVec 32 := 1#32
  let v1045 : BitVec 32 := Scalar.muli v13 c1_i32_1028
  let v1046 : BitVec 32 := Scalar.addi c0_i32_1029 v1045
  v1046.toNat
def k0_dev39 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1050 : BitVec 32 := 1#32
  let v1059 : BitVec 32 := Scalar.muli v13 c1_i32_1050
  let v1060 : BitVec 32 := Scalar.addi c0_i32_1051 v1059
  v1060.toNat
def k0_dev40 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1060 : BitVec 32 := 1#32
  let v1069 : BitVec 32 := Scalar.muli v25 c1_i32_1060
  let v1070 : BitVec 32 := Scalar.addi c0_i32_1061 v1069
  v1070.toNat
def k0_dev41 (d0 : Dev nD) : Nat :=
  let c0_i32_1133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1132 : BitVec 32 := 1#32
  let v1146 : BitVec 32 := Scalar.muli v25 c1_i32_1132
  let v1147 : BitVec 32 := Scalar.addi c0_i32_1133 v1146
  v1147.toNat
def k0_dev42 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1135 : BitVec 32 := 1#32
  let v1148 : BitVec 32 := Scalar.muli v13 c1_i32_1135
  let v1149 : BitVec 32 := Scalar.addi c0_i32_1136 v1148
  v1149.toNat
def k0_dev43 (d0 : Dev nD) : Nat :=
  let c0_i32_1158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1157 : BitVec 32 := 1#32
  let v1162 : BitVec 32 := Scalar.muli v13 c1_i32_1157
  let v1163 : BitVec 32 := Scalar.addi c0_i32_1158 v1162
  v1163.toNat
def k0_dev44 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1167 : BitVec 32 := 1#32
  let v1172 : BitVec 32 := Scalar.muli v25 c1_i32_1167
  let v1173 : BitVec 32 := Scalar.addi c0_i32_1168 v1172
  v1173.toNat
def k0_dev45 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1239 : BitVec 32 := 1#32
  let v1249 : BitVec 32 := Scalar.muli v25 c1_i32_1239
  let v1250 : BitVec 32 := Scalar.addi c0_i32_1240 v1249
  v1250.toNat
def k0_dev46 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1242 : BitVec 32 := 1#32
  let v1251 : BitVec 32 := Scalar.muli v13 c1_i32_1242
  let v1252 : BitVec 32 := Scalar.addi c0_i32_1243 v1251
  v1252.toNat
def k0_dev47 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1264 : BitVec 32 := 1#32
  let v1265 : BitVec 32 := Scalar.muli v13 c1_i32_1264
  let v1266 : BitVec 32 := Scalar.addi c0_i32_1265 v1265
  v1266.toNat
def k0_dev48 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1274 : BitVec 32 := 1#32
  let v1275 : BitVec 32 := Scalar.muli v25 c1_i32_1274
  let v1276 : BitVec 32 := Scalar.addi c0_i32_1275 v1275
  v1276.toNat
def k0_dev49 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1346 : BitVec 32 := 1#32
  let v1352 : BitVec 32 := Scalar.muli v25 c1_i32_1346
  let v1353 : BitVec 32 := Scalar.addi c0_i32_1347 v1352
  v1353.toNat
def k0_dev50 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1349 : BitVec 32 := 1#32
  let v1354 : BitVec 32 := Scalar.muli v13 c1_i32_1349
  let v1355 : BitVec 32 := Scalar.addi c0_i32_1350 v1354
  v1355.toNat
def k0_dev51 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1371 : BitVec 32 := 1#32
  let v1368 : BitVec 32 := Scalar.muli v13 c1_i32_1371
  let v1369 : BitVec 32 := Scalar.addi c0_i32_1372 v1368
  v1369.toNat
def k0_dev52 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1381 : BitVec 32 := 1#32
  let v1378 : BitVec 32 := Scalar.muli v25 c1_i32_1381
  let v1379 : BitVec 32 := Scalar.addi c0_i32_1382 v1378
  v1379.toNat
def k0_dev53 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1453 : BitVec 32 := 1#32
  let v1455 : BitVec 32 := Scalar.muli v25 c1_i32_1453
  let v1456 : BitVec 32 := Scalar.addi c0_i32_1454 v1455
  v1456.toNat
def k0_dev54 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1456 : BitVec 32 := 1#32
  let v1457 : BitVec 32 := Scalar.muli v13 c1_i32_1456
  let v1458 : BitVec 32 := Scalar.addi c0_i32_1457 v1457
  v1458.toNat
def k0_dev55 (d0 : Dev nD) : Nat :=
  let c0_i32_1479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1478 : BitVec 32 := 1#32
  let v1471 : BitVec 32 := Scalar.muli v13 c1_i32_1478
  let v1472 : BitVec 32 := Scalar.addi c0_i32_1479 v1471
  v1472.toNat
def k0_dev56 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1488 : BitVec 32 := 1#32
  let v1481 : BitVec 32 := Scalar.muli v25 c1_i32_1488
  let v1482 : BitVec 32 := Scalar.addi c0_i32_1489 v1481
  v1482.toNat
def k0_dev57 (d0 : Dev nD) : Nat :=
  let c0_i32_1544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1543 : BitVec 32 := 1#32
  let v1533 : BitVec 32 := Scalar.muli v25 c1_i32_1543
  let v1534 : BitVec 32 := Scalar.addi c0_i32_1544 v1533
  v1534.toNat
def k0_dev58 (d0 : Dev nD) : Nat :=
  let c0_i32_1547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1546 : BitVec 32 := 1#32
  let v1535 : BitVec 32 := Scalar.muli v13 c1_i32_1546
  let v1536 : BitVec 32 := Scalar.addi c0_i32_1547 v1535
  v1536.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1564 : BitVec 32 := 512#32
  let v1563 : BitVec 32 := Scalar.muli v2 c512_i32_1564
  let c4096_i32 : BitVec 32 := 4096#32
  ![v1563.toNat, 4096]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1565 : BitVec 32 := 512#32
  let v1564 : BitVec 32 := Scalar.muli v2 c512_i32_1565
  let c6144_i32 : BitVec 32 := 6144#32
  ![v1564.toNat, 6144]
def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1596 : BitVec 32 := 0#32
  ![v2.toNat, 0]
def k0_dev59 (d0 : Dev nD) : Nat :=
  let c0_i32_1595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1586 : BitVec 32 := 1#32
  let v1589 : BitVec 32 := Scalar.addi v2 c1_i32_1586
  let c8_i32_1587 : BitVec 32 := 8#32
  let c0_i32_1588 : BitVec 32 := 0#32
  let v1590 : BitVec 1 := Scalar.cmpi .eq c8_i32_1587 c0_i32_1588
  let c1_i32_1589 : BitVec 32 := 1#32
  let v1591 : BitVec 32 := Scalar.select v1590 c1_i32_1589 c8_i32_1587
  let v1592 : BitVec 32 := Scalar.remsi v1589 v1591
  let c0_i32_1591 : BitVec 32 := 0#32
  let v1594 : BitVec 1 := Scalar.cmpi .slt v1592 c0_i32_1591
  let c0_i32_1592 : BitVec 32 := 0#32
  let v1595 : BitVec 1 := Scalar.cmpi .slt v1591 c0_i32_1592
  let v1596 : BitVec 1 := Scalar.xori v1594 v1595
  let c0_i32_1590 : BitVec 32 := 0#32
  let v1593 : BitVec 1 := Scalar.cmpi .ne v1592 c0_i32_1590
  let v1597 : BitVec 1 := Scalar.andi v1596 v1593
  let v1598 : BitVec 32 := Scalar.addi v1592 v1591
  let v1599 : BitVec 32 := Scalar.select v1597 v1598 v1592
  let c1_i32_1594 : BitVec 32 := 1#32
  let v1600 : BitVec 32 := Scalar.muli v1599 c1_i32_1594
  let v1601 : BitVec 32 := Scalar.addi c0_i32_1595 v1600
  v1601.toNat
def k0_dev60 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1597 : BitVec 32 := 2#32
  let v1607 : BitVec 32 := Scalar.addi v2 c2_i32_1597
  let c8_i32_1598 : BitVec 32 := 8#32
  let c0_i32_1599 : BitVec 32 := 0#32
  let v1608 : BitVec 1 := Scalar.cmpi .eq c8_i32_1598 c0_i32_1599
  let c1_i32_1600 : BitVec 32 := 1#32
  let v1609 : BitVec 32 := Scalar.select v1608 c1_i32_1600 c8_i32_1598
  let v1610 : BitVec 32 := Scalar.remsi v1607 v1609
  let c0_i32_1602 : BitVec 32 := 0#32
  let v1612 : BitVec 1 := Scalar.cmpi .slt v1610 c0_i32_1602
  let c0_i32_1603 : BitVec 32 := 0#32
  let v1613 : BitVec 1 := Scalar.cmpi .slt v1609 c0_i32_1603
  let v1614 : BitVec 1 := Scalar.xori v1612 v1613
  let c0_i32_1601 : BitVec 32 := 0#32
  let v1611 : BitVec 1 := Scalar.cmpi .ne v1610 c0_i32_1601
  let v1615 : BitVec 1 := Scalar.andi v1614 v1611
  let v1616 : BitVec 32 := Scalar.addi v1610 v1609
  let v1617 : BitVec 32 := Scalar.select v1615 v1616 v1610
  let c1_i32_1605 : BitVec 32 := 1#32
  let v1618 : BitVec 32 := Scalar.muli v1617 c1_i32_1605
  let v1619 : BitVec 32 := Scalar.addi c0_i32_1606 v1618
  v1619.toNat
def k0_dev61 (d0 : Dev nD) : Nat :=
  let c0_i32_1617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1608 : BitVec 32 := 3#32
  let v1625 : BitVec 32 := Scalar.addi v2 c3_i32_1608
  let c8_i32_1609 : BitVec 32 := 8#32
  let c0_i32_1610 : BitVec 32 := 0#32
  let v1626 : BitVec 1 := Scalar.cmpi .eq c8_i32_1609 c0_i32_1610
  let c1_i32_1611 : BitVec 32 := 1#32
  let v1627 : BitVec 32 := Scalar.select v1626 c1_i32_1611 c8_i32_1609
  let v1628 : BitVec 32 := Scalar.remsi v1625 v1627
  let c0_i32_1613 : BitVec 32 := 0#32
  let v1630 : BitVec 1 := Scalar.cmpi .slt v1628 c0_i32_1613
  let c0_i32_1614 : BitVec 32 := 0#32
  let v1631 : BitVec 1 := Scalar.cmpi .slt v1627 c0_i32_1614
  let v1632 : BitVec 1 := Scalar.xori v1630 v1631
  let c0_i32_1612 : BitVec 32 := 0#32
  let v1629 : BitVec 1 := Scalar.cmpi .ne v1628 c0_i32_1612
  let v1633 : BitVec 1 := Scalar.andi v1632 v1629
  let v1634 : BitVec 32 := Scalar.addi v1628 v1627
  let v1635 : BitVec 32 := Scalar.select v1633 v1634 v1628
  let c1_i32_1616 : BitVec 32 := 1#32
  let v1636 : BitVec 32 := Scalar.muli v1635 c1_i32_1616
  let v1637 : BitVec 32 := Scalar.addi c0_i32_1617 v1636
  v1637.toNat
def k0_dev62 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1619 : BitVec 32 := 4#32
  let v1643 : BitVec 32 := Scalar.addi v2 c4_i32_1619
  let c8_i32_1620 : BitVec 32 := 8#32
  let c0_i32_1621 : BitVec 32 := 0#32
  let v1644 : BitVec 1 := Scalar.cmpi .eq c8_i32_1620 c0_i32_1621
  let c1_i32_1622 : BitVec 32 := 1#32
  let v1645 : BitVec 32 := Scalar.select v1644 c1_i32_1622 c8_i32_1620
  let v1646 : BitVec 32 := Scalar.remsi v1643 v1645
  let c0_i32_1624 : BitVec 32 := 0#32
  let v1648 : BitVec 1 := Scalar.cmpi .slt v1646 c0_i32_1624
  let c0_i32_1625 : BitVec 32 := 0#32
  let v1649 : BitVec 1 := Scalar.cmpi .slt v1645 c0_i32_1625
  let v1650 : BitVec 1 := Scalar.xori v1648 v1649
  let c0_i32_1623 : BitVec 32 := 0#32
  let v1647 : BitVec 1 := Scalar.cmpi .ne v1646 c0_i32_1623
  let v1651 : BitVec 1 := Scalar.andi v1650 v1647
  let v1652 : BitVec 32 := Scalar.addi v1646 v1645
  let v1653 : BitVec 32 := Scalar.select v1651 v1652 v1646
  let c1_i32_1627 : BitVec 32 := 1#32
  let v1654 : BitVec 32 := Scalar.muli v1653 c1_i32_1627
  let v1655 : BitVec 32 := Scalar.addi c0_i32_1628 v1654
  v1655.toNat
def k0_dev63 (d0 : Dev nD) : Nat :=
  let c0_i32_1639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1630 : BitVec 32 := 5#32
  let v1661 : BitVec 32 := Scalar.addi v2 c5_i32_1630
  let c8_i32_1631 : BitVec 32 := 8#32
  let c0_i32_1632 : BitVec 32 := 0#32
  let v1662 : BitVec 1 := Scalar.cmpi .eq c8_i32_1631 c0_i32_1632
  let c1_i32_1633 : BitVec 32 := 1#32
  let v1663 : BitVec 32 := Scalar.select v1662 c1_i32_1633 c8_i32_1631
  let v1664 : BitVec 32 := Scalar.remsi v1661 v1663
  let c0_i32_1635 : BitVec 32 := 0#32
  let v1666 : BitVec 1 := Scalar.cmpi .slt v1664 c0_i32_1635
  let c0_i32_1636 : BitVec 32 := 0#32
  let v1667 : BitVec 1 := Scalar.cmpi .slt v1663 c0_i32_1636
  let v1668 : BitVec 1 := Scalar.xori v1666 v1667
  let c0_i32_1634 : BitVec 32 := 0#32
  let v1665 : BitVec 1 := Scalar.cmpi .ne v1664 c0_i32_1634
  let v1669 : BitVec 1 := Scalar.andi v1668 v1665
  let v1670 : BitVec 32 := Scalar.addi v1664 v1663
  let v1671 : BitVec 32 := Scalar.select v1669 v1670 v1664
  let c1_i32_1638 : BitVec 32 := 1#32
  let v1672 : BitVec 32 := Scalar.muli v1671 c1_i32_1638
  let v1673 : BitVec 32 := Scalar.addi c0_i32_1639 v1672
  v1673.toNat
def k0_dev64 (d0 : Dev nD) : Nat :=
  let c0_i32_1649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v1679 : BitVec 32 := Scalar.addi v2 c6_i32
  let c8_i32_1641 : BitVec 32 := 8#32
  let c0_i32_1642 : BitVec 32 := 0#32
  let v1680 : BitVec 1 := Scalar.cmpi .eq c8_i32_1641 c0_i32_1642
  let c1_i32_1643 : BitVec 32 := 1#32
  let v1681 : BitVec 32 := Scalar.select v1680 c1_i32_1643 c8_i32_1641
  let v1682 : BitVec 32 := Scalar.remsi v1679 v1681
  let c0_i32_1645 : BitVec 32 := 0#32
  let v1684 : BitVec 1 := Scalar.cmpi .slt v1682 c0_i32_1645
  let c0_i32_1646 : BitVec 32 := 0#32
  let v1685 : BitVec 1 := Scalar.cmpi .slt v1681 c0_i32_1646
  let v1686 : BitVec 1 := Scalar.xori v1684 v1685
  let c0_i32_1644 : BitVec 32 := 0#32
  let v1683 : BitVec 1 := Scalar.cmpi .ne v1682 c0_i32_1644
  let v1687 : BitVec 1 := Scalar.andi v1686 v1683
  let v1688 : BitVec 32 := Scalar.addi v1682 v1681
  let v1689 : BitVec 32 := Scalar.select v1687 v1688 v1682
  let c1_i32_1648 : BitVec 32 := 1#32
  let v1690 : BitVec 32 := Scalar.muli v1689 c1_i32_1648
  let v1691 : BitVec 32 := Scalar.addi c0_i32_1649 v1690
  v1691.toNat
def k0_dev65 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v1697 : BitVec 32 := Scalar.addi v2 c7_i32
  let c8_i32_1651 : BitVec 32 := 8#32
  let c0_i32_1652 : BitVec 32 := 0#32
  let v1698 : BitVec 1 := Scalar.cmpi .eq c8_i32_1651 c0_i32_1652
  let c1_i32_1653 : BitVec 32 := 1#32
  let v1699 : BitVec 32 := Scalar.select v1698 c1_i32_1653 c8_i32_1651
  let v1700 : BitVec 32 := Scalar.remsi v1697 v1699
  let c0_i32_1655 : BitVec 32 := 0#32
  let v1702 : BitVec 1 := Scalar.cmpi .slt v1700 c0_i32_1655
  let c0_i32_1656 : BitVec 32 := 0#32
  let v1703 : BitVec 1 := Scalar.cmpi .slt v1699 c0_i32_1656
  let v1704 : BitVec 1 := Scalar.xori v1702 v1703
  let c0_i32_1654 : BitVec 32 := 0#32
  let v1701 : BitVec 1 := Scalar.cmpi .ne v1700 c0_i32_1654
  let v1705 : BitVec 1 := Scalar.andi v1704 v1701
  let v1706 : BitVec 32 := Scalar.addi v1700 v1699
  let v1707 : BitVec 32 := Scalar.select v1705 v1706 v1700
  let c1_i32_1658 : BitVec 32 := 1#32
  let v1708 : BitVec 32 := Scalar.muli v1707 c1_i32_1658
  let v1709 : BitVec 32 := Scalar.addi c0_i32_1659 v1708
  v1709.toNat
def k0_off12 (d0 : Dev nD) (c1_i32_1685 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1739 : BitVec 32 := Scalar.addi v2 c1_i32_1685
  let c8_i32_1686 : BitVec 32 := 8#32
  let c0_i32_1687 : BitVec 32 := 0#32
  let v1740 : BitVec 1 := Scalar.cmpi .eq c8_i32_1686 c0_i32_1687
  let c1_i32_1688 : BitVec 32 := 1#32
  let v1741 : BitVec 32 := Scalar.select v1740 c1_i32_1688 c8_i32_1686
  let v1742 : BitVec 32 := Scalar.remsi v1739 v1741
  let c0_i32_1690 : BitVec 32 := 0#32
  let v1744 : BitVec 1 := Scalar.cmpi .slt v1742 c0_i32_1690
  let c0_i32_1691 : BitVec 32 := 0#32
  let v1745 : BitVec 1 := Scalar.cmpi .slt v1741 c0_i32_1691
  let v1746 : BitVec 1 := Scalar.xori v1744 v1745
  let c0_i32_1689 : BitVec 32 := 0#32
  let v1743 : BitVec 1 := Scalar.cmpi .ne v1742 c0_i32_1689
  let v1747 : BitVec 1 := Scalar.andi v1746 v1743
  let v1748 : BitVec 32 := Scalar.addi v1742 v1741
  let v1749 : BitVec 32 := Scalar.select v1747 v1748 v1742
  ![v1749.toNat]
def k0_off13 (d0 : Dev nD) (c1_i32_1685 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1739 : BitVec 32 := Scalar.addi v2 c1_i32_1685
  let c8_i32_1686 : BitVec 32 := 8#32
  let c0_i32_1687 : BitVec 32 := 0#32
  let v1740 : BitVec 1 := Scalar.cmpi .eq c8_i32_1686 c0_i32_1687
  let c1_i32_1688 : BitVec 32 := 1#32
  let v1741 : BitVec 32 := Scalar.select v1740 c1_i32_1688 c8_i32_1686
  let v1742 : BitVec 32 := Scalar.remsi v1739 v1741
  let c0_i32_1690 : BitVec 32 := 0#32
  let v1744 : BitVec 1 := Scalar.cmpi .slt v1742 c0_i32_1690
  let c0_i32_1691 : BitVec 32 := 0#32
  let v1745 : BitVec 1 := Scalar.cmpi .slt v1741 c0_i32_1691
  let v1746 : BitVec 1 := Scalar.xori v1744 v1745
  let c0_i32_1689 : BitVec 32 := 0#32
  let v1743 : BitVec 1 := Scalar.cmpi .ne v1742 c0_i32_1689
  let v1747 : BitVec 1 := Scalar.andi v1746 v1743
  let v1748 : BitVec 32 := Scalar.addi v1742 v1741
  let v1749 : BitVec 32 := Scalar.select v1747 v1748 v1742
  let c0_i32_1695 : BitVec 32 := 0#32
  ![v1749.toNat, 0]
def k0_dev66 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1848 : BitVec 32 := 1#32
  let v1952 : BitVec 32 := Scalar.muli v13 c1_i32_1848
  let v1953 : BitVec 32 := Scalar.addi c0_i32_1849 v1952
  v1953.toNat
def k0_dev67 (d0 : Dev nD) : Nat :=
  let c0_i32_1859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1858 : BitVec 32 := 1#32
  let v1962 : BitVec 32 := Scalar.muli v25 c1_i32_1858
  let v1963 : BitVec 32 := Scalar.addi c0_i32_1859 v1962
  v1963.toNat
def k0_off14 (d0 : Dev nD) (c0_i32_1865 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1864 : BitVec 32 := 16#32
  let v1972 : BitVec 32 := Scalar.addi v2 c16_i32_1864
  let v1973 : BitVec 32 := Scalar.subi v1972 c0_i32_1865
  let c8_i32_1866 : BitVec 32 := 8#32
  let c0_i32_1867 : BitVec 32 := 0#32
  let v1974 : BitVec 1 := Scalar.cmpi .eq c8_i32_1866 c0_i32_1867
  let c1_i32_1868 : BitVec 32 := 1#32
  let v1975 : BitVec 32 := Scalar.select v1974 c1_i32_1868 c8_i32_1866
  let v1976 : BitVec 32 := Scalar.remsi v1973 v1975
  let c0_i32_1870 : BitVec 32 := 0#32
  let v1978 : BitVec 1 := Scalar.cmpi .slt v1976 c0_i32_1870
  let c0_i32_1871 : BitVec 32 := 0#32
  let v1979 : BitVec 1 := Scalar.cmpi .slt v1975 c0_i32_1871
  let v1980 : BitVec 1 := Scalar.xori v1978 v1979
  let c0_i32_1869 : BitVec 32 := 0#32
  let v1977 : BitVec 1 := Scalar.cmpi .ne v1976 c0_i32_1869
  let v1981 : BitVec 1 := Scalar.andi v1980 v1977
  let v1982 : BitVec 32 := Scalar.addi v1976 v1975
  let v1983 : BitVec 32 := Scalar.select v1981 v1982 v1976
  let c512_i32_1885 : BitVec 32 := 512#32
  let v2003 : BitVec 32 := Scalar.muli v1983 c512_i32_1885
  let c0_i32_1888 : BitVec 32 := 0#32
  ![v2003.toNat, 0]
def k0_off15 (d0 : Dev nD) (c0_i32_1865 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1864 : BitVec 32 := 16#32
  let v1972 : BitVec 32 := Scalar.addi v2 c16_i32_1864
  let v1973 : BitVec 32 := Scalar.subi v1972 c0_i32_1865
  let c8_i32_1866 : BitVec 32 := 8#32
  let c0_i32_1867 : BitVec 32 := 0#32
  let v1974 : BitVec 1 := Scalar.cmpi .eq c8_i32_1866 c0_i32_1867
  let c1_i32_1868 : BitVec 32 := 1#32
  let v1975 : BitVec 32 := Scalar.select v1974 c1_i32_1868 c8_i32_1866
  let v1976 : BitVec 32 := Scalar.remsi v1973 v1975
  let c0_i32_1870 : BitVec 32 := 0#32
  let v1978 : BitVec 1 := Scalar.cmpi .slt v1976 c0_i32_1870
  let c0_i32_1871 : BitVec 32 := 0#32
  let v1979 : BitVec 1 := Scalar.cmpi .slt v1975 c0_i32_1871
  let v1980 : BitVec 1 := Scalar.xori v1978 v1979
  let c0_i32_1869 : BitVec 32 := 0#32
  let v1977 : BitVec 1 := Scalar.cmpi .ne v1976 c0_i32_1869
  let v1981 : BitVec 1 := Scalar.andi v1980 v1977
  let v1982 : BitVec 32 := Scalar.addi v1976 v1975
  let v1983 : BitVec 32 := Scalar.select v1981 v1982 v1976
  let c512_i32_1897 : BitVec 32 := 512#32
  let v2017 : BitVec 32 := Scalar.muli v1983 c512_i32_1897
  let c2048_i32_1900 : BitVec 32 := 2048#32
  ![v2017.toNat, 2048]
def k0_off16 (d0 : Dev nD) (c0_i32_1872 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1984 : BitVec 32 := Scalar.addi v2 c0_i32_1872
  let c8_i32_1873 : BitVec 32 := 8#32
  let c0_i32_1874 : BitVec 32 := 0#32
  let v1985 : BitVec 1 := Scalar.cmpi .eq c8_i32_1873 c0_i32_1874
  let c1_i32_1875 : BitVec 32 := 1#32
  let v1986 : BitVec 32 := Scalar.select v1985 c1_i32_1875 c8_i32_1873
  let v1987 : BitVec 32 := Scalar.remsi v1984 v1986
  let c0_i32_1877 : BitVec 32 := 0#32
  let v1989 : BitVec 1 := Scalar.cmpi .slt v1987 c0_i32_1877
  let c0_i32_1878 : BitVec 32 := 0#32
  let v1990 : BitVec 1 := Scalar.cmpi .slt v1986 c0_i32_1878
  let v1991 : BitVec 1 := Scalar.xori v1989 v1990
  let c0_i32_1876 : BitVec 32 := 0#32
  let v1988 : BitVec 1 := Scalar.cmpi .ne v1987 c0_i32_1876
  let v1992 : BitVec 1 := Scalar.andi v1991 v1988
  let v1993 : BitVec 32 := Scalar.addi v1987 v1986
  let v1994 : BitVec 32 := Scalar.select v1992 v1993 v1987
  let c512_i32_1909 : BitVec 32 := 512#32
  let v2031 : BitVec 32 := Scalar.muli v1994 c512_i32_1909
  let c4096_i32_1912 : BitVec 32 := 4096#32
  ![v2031.toNat, 4096]
def k0_off17 (d0 : Dev nD) (c0_i32_1872 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1984 : BitVec 32 := Scalar.addi v2 c0_i32_1872
  let c8_i32_1873 : BitVec 32 := 8#32
  let c0_i32_1874 : BitVec 32 := 0#32
  let v1985 : BitVec 1 := Scalar.cmpi .eq c8_i32_1873 c0_i32_1874
  let c1_i32_1875 : BitVec 32 := 1#32
  let v1986 : BitVec 32 := Scalar.select v1985 c1_i32_1875 c8_i32_1873
  let v1987 : BitVec 32 := Scalar.remsi v1984 v1986
  let c0_i32_1877 : BitVec 32 := 0#32
  let v1989 : BitVec 1 := Scalar.cmpi .slt v1987 c0_i32_1877
  let c0_i32_1878 : BitVec 32 := 0#32
  let v1990 : BitVec 1 := Scalar.cmpi .slt v1986 c0_i32_1878
  let v1991 : BitVec 1 := Scalar.xori v1989 v1990
  let c0_i32_1876 : BitVec 32 := 0#32
  let v1988 : BitVec 1 := Scalar.cmpi .ne v1987 c0_i32_1876
  let v1992 : BitVec 1 := Scalar.andi v1991 v1988
  let v1993 : BitVec 32 := Scalar.addi v1987 v1986
  let v1994 : BitVec 32 := Scalar.select v1992 v1993 v1987
  let c512_i32_1921 : BitVec 32 := 512#32
  let v2045 : BitVec 32 := Scalar.muli v1994 c512_i32_1921
  let c6144_i32_1924 : BitVec 32 := 6144#32
  ![v2045.toNat, 6144]
def k0_dev68 (d0 : Dev nD) : Nat :=
  let c0_i32_1987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1986 : BitVec 32 := 1#32
  let v2099 : BitVec 32 := Scalar.muli v25 c1_i32_1986
  let v2100 : BitVec 32 := Scalar.addi c0_i32_1987 v2099
  v2100.toNat
def k0_dev69 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1989 : BitVec 32 := 1#32
  let v2101 : BitVec 32 := Scalar.muli v13 c1_i32_1989
  let v2102 : BitVec 32 := Scalar.addi c0_i32_1990 v2101
  v2102.toNat
def k0_dev70 (d0 : Dev nD) : Nat :=
  let c0_i32_2000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1999 : BitVec 32 := 1#32
  let v2103 : BitVec 32 := Scalar.muli v13 c1_i32_1999
  let v2104 : BitVec 32 := Scalar.addi c0_i32_2000 v2103
  v2104.toNat
def k0_dev71 (d0 : Dev nD) : Nat :=
  let c0_i32_2010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2009 : BitVec 32 := 1#32
  let v2113 : BitVec 32 := Scalar.muli v25 c1_i32_2009
  let v2114 : BitVec 32 := Scalar.addi c0_i32_2010 v2113
  v2114.toNat
def k0_dev72 (d0 : Dev nD) : Nat :=
  let c0_i32_2138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2137 : BitVec 32 := 1#32
  let v2250 : BitVec 32 := Scalar.muli v25 c1_i32_2137
  let v2251 : BitVec 32 := Scalar.addi c0_i32_2138 v2250
  v2251.toNat
def k0_dev73 (d0 : Dev nD) : Nat :=
  let c0_i32_2141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2140 : BitVec 32 := 1#32
  let v2252 : BitVec 32 := Scalar.muli v13 c1_i32_2140
  let v2253 : BitVec 32 := Scalar.addi c0_i32_2141 v2252
  v2253.toNat
def k0_dev74 (d0 : Dev nD) : Nat :=
  let c0_i32_2151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2150 : BitVec 32 := 1#32
  let v2254 : BitVec 32 := Scalar.muli v13 c1_i32_2150
  let v2255 : BitVec 32 := Scalar.addi c0_i32_2151 v2254
  v2255.toNat
def k0_dev75 (d0 : Dev nD) : Nat :=
  let c0_i32_2161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2160 : BitVec 32 := 1#32
  let v2264 : BitVec 32 := Scalar.muli v25 c1_i32_2160
  let v2265 : BitVec 32 := Scalar.addi c0_i32_2161 v2264
  v2265.toNat
def k0_dev76 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2288 : BitVec 32 := 1#32
  let v2401 : BitVec 32 := Scalar.muli v25 c1_i32_2288
  let v2402 : BitVec 32 := Scalar.addi c0_i32_2289 v2401
  v2402.toNat
def k0_dev77 (d0 : Dev nD) : Nat :=
  let c0_i32_2292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2291 : BitVec 32 := 1#32
  let v2403 : BitVec 32 := Scalar.muli v13 c1_i32_2291
  let v2404 : BitVec 32 := Scalar.addi c0_i32_2292 v2403
  v2404.toNat
def k0_dev78 (d0 : Dev nD) : Nat :=
  let c0_i32_2302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2301 : BitVec 32 := 1#32
  let v2405 : BitVec 32 := Scalar.muli v13 c1_i32_2301
  let v2406 : BitVec 32 := Scalar.addi c0_i32_2302 v2405
  v2406.toNat
def k0_dev79 (d0 : Dev nD) : Nat :=
  let c0_i32_2312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2311 : BitVec 32 := 1#32
  let v2415 : BitVec 32 := Scalar.muli v25 c1_i32_2311
  let v2416 : BitVec 32 := Scalar.addi c0_i32_2312 v2415
  v2416.toNat
def k0_dev80 (d0 : Dev nD) : Nat :=
  let c0_i32_2440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2439 : BitVec 32 := 1#32
  let v2552 : BitVec 32 := Scalar.muli v25 c1_i32_2439
  let v2553 : BitVec 32 := Scalar.addi c0_i32_2440 v2552
  v2553.toNat
def k0_dev81 (d0 : Dev nD) : Nat :=
  let c0_i32_2443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2442 : BitVec 32 := 1#32
  let v2554 : BitVec 32 := Scalar.muli v13 c1_i32_2442
  let v2555 : BitVec 32 := Scalar.addi c0_i32_2443 v2554
  v2555.toNat
def k0_dev82 (d0 : Dev nD) : Nat :=
  let c0_i32_2453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2452 : BitVec 32 := 1#32
  let v2556 : BitVec 32 := Scalar.muli v13 c1_i32_2452
  let v2557 : BitVec 32 := Scalar.addi c0_i32_2453 v2556
  v2557.toNat
def k0_dev83 (d0 : Dev nD) : Nat :=
  let c0_i32_2463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2462 : BitVec 32 := 1#32
  let v2566 : BitVec 32 := Scalar.muli v25 c1_i32_2462
  let v2567 : BitVec 32 := Scalar.addi c0_i32_2463 v2566
  v2567.toNat
def k0_dev84 (d0 : Dev nD) : Nat :=
  let c0_i32_2591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2590 : BitVec 32 := 1#32
  let v2703 : BitVec 32 := Scalar.muli v25 c1_i32_2590
  let v2704 : BitVec 32 := Scalar.addi c0_i32_2591 v2703
  v2704.toNat
def k0_dev85 (d0 : Dev nD) : Nat :=
  let c0_i32_2594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2593 : BitVec 32 := 1#32
  let v2705 : BitVec 32 := Scalar.muli v13 c1_i32_2593
  let v2706 : BitVec 32 := Scalar.addi c0_i32_2594 v2705
  v2706.toNat
def k0_dev86 (d0 : Dev nD) : Nat :=
  let c0_i32_2604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2603 : BitVec 32 := 1#32
  let v2707 : BitVec 32 := Scalar.muli v13 c1_i32_2603
  let v2708 : BitVec 32 := Scalar.addi c0_i32_2604 v2707
  v2708.toNat
def k0_dev87 (d0 : Dev nD) : Nat :=
  let c0_i32_2614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2613 : BitVec 32 := 1#32
  let v2717 : BitVec 32 := Scalar.muli v25 c1_i32_2613
  let v2718 : BitVec 32 := Scalar.addi c0_i32_2614 v2717
  v2718.toNat
def k0_dev88 (d0 : Dev nD) : Nat :=
  let c0_i32_2742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2741 : BitVec 32 := 1#32
  let v2854 : BitVec 32 := Scalar.muli v25 c1_i32_2741
  let v2855 : BitVec 32 := Scalar.addi c0_i32_2742 v2854
  v2855.toNat
def k0_dev89 (d0 : Dev nD) : Nat :=
  let c0_i32_2745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2744 : BitVec 32 := 1#32
  let v2856 : BitVec 32 := Scalar.muli v13 c1_i32_2744
  let v2857 : BitVec 32 := Scalar.addi c0_i32_2745 v2856
  v2857.toNat
def k0_dev90 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2754 : BitVec 32 := 1#32
  let v2858 : BitVec 32 := Scalar.muli v13 c1_i32_2754
  let v2859 : BitVec 32 := Scalar.addi c0_i32_2755 v2858
  v2859.toNat
def k0_dev91 (d0 : Dev nD) : Nat :=
  let c0_i32_2765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2764 : BitVec 32 := 1#32
  let v2868 : BitVec 32 := Scalar.muli v25 c1_i32_2764
  let v2869 : BitVec 32 := Scalar.addi c0_i32_2765 v2868
  v2869.toNat
def k0_dev92 (d0 : Dev nD) : Nat :=
  let c0_i32_2893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2892 : BitVec 32 := 1#32
  let v3005 : BitVec 32 := Scalar.muli v25 c1_i32_2892
  let v3006 : BitVec 32 := Scalar.addi c0_i32_2893 v3005
  v3006.toNat
def k0_dev93 (d0 : Dev nD) : Nat :=
  let c0_i32_2896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2895 : BitVec 32 := 1#32
  let v3007 : BitVec 32 := Scalar.muli v13 c1_i32_2895
  let v3008 : BitVec 32 := Scalar.addi c0_i32_2896 v3007
  v3008.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2897 : BitVec 32 := 8#32
  let v3009 : BitVec 32 := Scalar.addi v2 c8_i32_2897
  let c1_i32_2898 : BitVec 32 := 1#32
  let v3010 : BitVec 32 := Scalar.addi v3009 c1_i32_2898
  let c8_i32_2899 : BitVec 32 := 8#32
  let c0_i32_2900 : BitVec 32 := 0#32
  let v3011 : BitVec 1 := Scalar.cmpi .eq c8_i32_2899 c0_i32_2900
  let c1_i32_2901 : BitVec 32 := 1#32
  let v3012 : BitVec 32 := Scalar.select v3011 c1_i32_2901 c8_i32_2899
  let v3013 : BitVec 32 := Scalar.remsi v3010 v3012
  let c0_i32_2903 : BitVec 32 := 0#32
  let v3015 : BitVec 1 := Scalar.cmpi .slt v3013 c0_i32_2903
  let c0_i32_2904 : BitVec 32 := 0#32
  let v3016 : BitVec 1 := Scalar.cmpi .slt v3012 c0_i32_2904
  let v3017 : BitVec 1 := Scalar.xori v3015 v3016
  let c0_i32_2902 : BitVec 32 := 0#32
  let v3014 : BitVec 1 := Scalar.cmpi .ne v3013 c0_i32_2902
  let v3018 : BitVec 1 := Scalar.andi v3017 v3014
  let v3019 : BitVec 32 := Scalar.addi v3013 v3012
  let v3020 : BitVec 32 := Scalar.select v3018 v3019 v3013
  let c512_i32_2919 : BitVec 32 := 512#32
  let v3041 : BitVec 32 := Scalar.muli v3020 c512_i32_2919
  let c0_i32_2922 : BitVec 32 := 0#32
  ![v3041.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2897 : BitVec 32 := 8#32
  let v3009 : BitVec 32 := Scalar.addi v2 c8_i32_2897
  let c1_i32_2898 : BitVec 32 := 1#32
  let v3010 : BitVec 32 := Scalar.addi v3009 c1_i32_2898
  let c8_i32_2899 : BitVec 32 := 8#32
  let c0_i32_2900 : BitVec 32 := 0#32
  let v3011 : BitVec 1 := Scalar.cmpi .eq c8_i32_2899 c0_i32_2900
  let c1_i32_2901 : BitVec 32 := 1#32
  let v3012 : BitVec 32 := Scalar.select v3011 c1_i32_2901 c8_i32_2899
  let v3013 : BitVec 32 := Scalar.remsi v3010 v3012
  let c0_i32_2903 : BitVec 32 := 0#32
  let v3015 : BitVec 1 := Scalar.cmpi .slt v3013 c0_i32_2903
  let c0_i32_2904 : BitVec 32 := 0#32
  let v3016 : BitVec 1 := Scalar.cmpi .slt v3012 c0_i32_2904
  let v3017 : BitVec 1 := Scalar.xori v3015 v3016
  let c0_i32_2902 : BitVec 32 := 0#32
  let v3014 : BitVec 1 := Scalar.cmpi .ne v3013 c0_i32_2902
  let v3018 : BitVec 1 := Scalar.andi v3017 v3014
  let v3019 : BitVec 32 := Scalar.addi v3013 v3012
  let v3020 : BitVec 32 := Scalar.select v3018 v3019 v3013
  let c512_i32_2931 : BitVec 32 := 512#32
  let v3055 : BitVec 32 := Scalar.muli v3020 c512_i32_2931
  let c2048_i32_2934 : BitVec 32 := 2048#32
  ![v3055.toNat, 2048]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2905 : BitVec 32 := 8#32
  let v3021 : BitVec 32 := Scalar.addi v2 c8_i32_2905
  let c1_i32_2906 : BitVec 32 := 1#32
  let v3022 : BitVec 32 := Scalar.subi v3021 c1_i32_2906
  let c8_i32_2907 : BitVec 32 := 8#32
  let c0_i32_2908 : BitVec 32 := 0#32
  let v3023 : BitVec 1 := Scalar.cmpi .eq c8_i32_2907 c0_i32_2908
  let c1_i32_2909 : BitVec 32 := 1#32
  let v3024 : BitVec 32 := Scalar.select v3023 c1_i32_2909 c8_i32_2907
  let v3025 : BitVec 32 := Scalar.remsi v3022 v3024
  let c0_i32_2911 : BitVec 32 := 0#32
  let v3027 : BitVec 1 := Scalar.cmpi .slt v3025 c0_i32_2911
  let c0_i32_2912 : BitVec 32 := 0#32
  let v3028 : BitVec 1 := Scalar.cmpi .slt v3024 c0_i32_2912
  let v3029 : BitVec 1 := Scalar.xori v3027 v3028
  let c0_i32_2910 : BitVec 32 := 0#32
  let v3026 : BitVec 1 := Scalar.cmpi .ne v3025 c0_i32_2910
  let v3030 : BitVec 1 := Scalar.andi v3029 v3026
  let v3031 : BitVec 32 := Scalar.addi v3025 v3024
  let v3032 : BitVec 32 := Scalar.select v3030 v3031 v3025
  let c512_i32_2943 : BitVec 32 := 512#32
  let v3069 : BitVec 32 := Scalar.muli v3032 c512_i32_2943
  let c4096_i32_2946 : BitVec 32 := 4096#32
  ![v3069.toNat, 4096]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2905 : BitVec 32 := 8#32
  let v3021 : BitVec 32 := Scalar.addi v2 c8_i32_2905
  let c1_i32_2906 : BitVec 32 := 1#32
  let v3022 : BitVec 32 := Scalar.subi v3021 c1_i32_2906
  let c8_i32_2907 : BitVec 32 := 8#32
  let c0_i32_2908 : BitVec 32 := 0#32
  let v3023 : BitVec 1 := Scalar.cmpi .eq c8_i32_2907 c0_i32_2908
  let c1_i32_2909 : BitVec 32 := 1#32
  let v3024 : BitVec 32 := Scalar.select v3023 c1_i32_2909 c8_i32_2907
  let v3025 : BitVec 32 := Scalar.remsi v3022 v3024
  let c0_i32_2911 : BitVec 32 := 0#32
  let v3027 : BitVec 1 := Scalar.cmpi .slt v3025 c0_i32_2911
  let c0_i32_2912 : BitVec 32 := 0#32
  let v3028 : BitVec 1 := Scalar.cmpi .slt v3024 c0_i32_2912
  let v3029 : BitVec 1 := Scalar.xori v3027 v3028
  let c0_i32_2910 : BitVec 32 := 0#32
  let v3026 : BitVec 1 := Scalar.cmpi .ne v3025 c0_i32_2910
  let v3030 : BitVec 1 := Scalar.andi v3029 v3026
  let v3031 : BitVec 32 := Scalar.addi v3025 v3024
  let v3032 : BitVec 32 := Scalar.select v3030 v3031 v3025
  let c512_i32_2955 : BitVec 32 := 512#32
  let v3083 : BitVec 32 := Scalar.muli v3032 c512_i32_2955
  let c6144_i32_2958 : BitVec 32 := 6144#32
  ![v3083.toNat, 6144]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Steps.lean ====
/-
  The kernel's body cut into its steps.

  The printed body is one straight line of memory operations. It is restated here as a sequence of short steps that
  repeat — start the two transfers of a hop, load the operands of the two products of a hop, wait for the two transfers,
  hand the two credits on, add a product to a landed partial sum, … — each written once over what varies between its
  occurrences: the slot of a two-slot buffer, the device addressed, the offsets read or written.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Dist

open Cert.KernelIdeal Cert.KernelIdeal.Gen
open Idealize.ShloMosaic
open Idealize.SL.Sem

variable {F : FTy → Type} [FloatOps F]

/-- A program of the kernel's core. -/
abbrev Pr (F : FTy → Type) [FloatOps F] (α : Type) := Prog (TpuEff nD τ sig (Elt F) Λ₀ .tc) α

/-! ### Buffers and semaphores -/

abbrev xM : Memref sig .tc .vmem S4096x512 .f32 := Memref.whole cc0_stg0_0
abbrev wM : Memref sig .tc .vmem S512x8192 .f32 := Memref.whole cc0_stg1_0
abbrev oM : Memref sig .tc .hbm S4096x8192 .f32 := Memref.whole main_v1
abbrev cwM : Memref sig .tc .vmem S2x512x2048 .f32 := Memref.whole cc0_scratch0
abbrev ccwM : Memref sig .tc .vmem S2x512x2048 .f32 := Memref.whole cc0_scratch1
abbrev cwB : Memref sig .tc .vmem S2x512x4096 .i8 := Memref.whole cc0_scratch2
abbrev ccwB : Memref sig .tc .vmem S2x512x4096 .i8 := Memref.whole cc0_scratch3
abbrev rbM : Memref sig .tc .vmem S8x128 .f32 := Memref.whole cc0_scratch4
abbrev sbM : Memref sig .tc .vmem S1x128 .f32 := Memref.whole cc0_scratch5

/-- There are thirty semaphores of transfers, -/
theorem nDma : sig.nDmaSem = 30 := rfl
/-- and three others. -/
theorem nReg : sig.nSem = 3 := rfl

/-- The transfer semaphores, by their place among the program's. -/
def sndCw (s : Fin 2) : DmaSem sig := ⟨2 + s.val, by have := s.isLt; rw [nDma]; omega⟩
def rcvCw (s : Fin 2) : DmaSem sig := ⟨4 + s.val, by have := s.isLt; rw [nDma]; omega⟩
def sndCcw (s : Fin 2) : DmaSem sig := ⟨6 + s.val, by have := s.isLt; rw [nDma]; omega⟩
def rcvCcw (s : Fin 2) : DmaSem sig := ⟨8 + s.val, by have := s.isLt; rw [nDma]; omega⟩
def sndA (o : Fin 8) : DmaSem sig := ⟨10 + o.val, by have := o.isLt; rw [nDma]; omega⟩
def rcvA (o : Fin 8) : DmaSem sig := ⟨18 + o.val, by have := o.isLt; rw [nDma]; omega⟩
def locS (o : Fin 4) : DmaSem sig := ⟨26 + o.val, by have := o.isLt; rw [nDma]; omega⟩
/-- The credit semaphores and the barrier. -/
def credCw : Sem sig := ⟨0, by decide⟩
def credCcw : Sem sig := ⟨1, by decide⟩
def barS : Sem sig := ⟨2, by decide⟩

/-- Each slot lies in its buffer of sums, -/
theorem slot_inb (s : Fin 2) : ∀ a, (![s.val, 0, 0] : Fin 3 → Nat) a + S1x512x2048.size a ≤ S2x512x2048.size a := by
  revert s; decide
/-- each slot of codes in its buffer, -/
theorem bslot_inb (s : Fin 2) : ∀ a, (![s.val, 0, 0] : Fin 3 → Nat) a + S1x512x4096.size a ≤ S2x512x4096.size a := by
  revert s; decide
/-- and so does each half of such a slot. -/
theorem half_inb (s : Fin 2) (j : Fin 2) :
    ∀ a, (![s.val, 0, 2048 * j.val] : Fin 3 → Nat) a + S1x512x2048.size a ≤ S2x512x4096.size a := by
  revert s j; decide
/-- A slot of codes is made of whole words. -/
theorem bslot_words (s : Fin 2) :
    (Rect.unit (s := S2x512x4096) ![s.val, 0, 0] S1x512x4096.size (bslot_inb s)).WholeWords (EltTy.packing .i8) := by
  match s with
  | ⟨0, _⟩ => exact Facts₀.wordsi8_S2x512x4096_S1x512x4096_0_0_0
  | ⟨1, _⟩ => exact Facts₀.wordsi8_S2x512x4096_S1x512x4096_1_0_0

/-- Slot `s` of a two-slot buffer of partial sums, as a rectangle, -/
abbrev slotR (s : Fin 2) : Rect S2x512x2048 := Rect.unit (s := S2x512x2048) ![s.val, 0, 0] S1x512x2048.size (slot_inb s)
/-- and as the block a transfer moves. -/
abbrev slotM (M : Memref sig .tc .vmem S2x512x2048 .f32) (s : Fin 2) : Memref sig .tc .vmem S512x2048 .f32 :=
  (M.slice (slotR s) (fun _ => rfl)).squeeze S512x2048 Facts₀.squeezes_S1x512x2048_S512x2048
/-- Slot `s` of a two-slot buffer of codes, -/
abbrev bslotR (s : Fin 2) : Rect S2x512x4096 := Rect.unit (s := S2x512x4096) ![s.val, 0, 0] S1x512x4096.size (bslot_inb s)
abbrev bslotM (M : Memref sig .tc .vmem S2x512x4096 .i8) (s : Fin 2) : Memref sig .tc .vmem S512x4096 .i8 :=
  (M.slice (bslotR s) (fun _ => rfl)).squeeze S512x4096 Facts₀.squeezes_S1x512x4096_S512x4096
/-- and half `j` of it. -/
abbrev halfR (s j : Fin 2) : Rect S2x512x4096 :=
  Rect.unit (s := S2x512x4096) ![s.val, 0, 2048 * j.val] S1x512x2048.size (half_inb s j)

/-- A 512 × 2048 block of the result. -/
abbrev outM (o : Fin 2 → Nat) (h : ∀ a, o a + S512x2048.size a ≤ S4096x8192.size a) : Memref sig .tc .hbm S512x2048 .f32 :=
  oM.slice (Rect.unit (s := S4096x8192) o S512x2048.size h) (fun _ => rfl)
/-- A row of the buffer of maxima. -/
abbrev rowM (o : Fin 2 → Nat) (h : ∀ a, o a + S1x128.size a ≤ S8x128.size a) : Memref sig .tc .vmem S1x128 .f32 :=
  rbM.slice (Rect.unit (s := S8x128) o S1x128.size h) (fun _ => rfl)

/-- A slot of sums covers its words exactly, -/
theorem slot_words (M : Memref sig .tc .vmem S2x512x2048 .f32) (s : Fin 2) : (slotM M s).view.WordExact :=
  (View.wordExact_bits rfl).reshape _ _
/-- so does a slot of codes. -/
theorem bslot_wordExact (M : Memref sig .tc .vmem S2x512x4096 .i8) (hM : M.IsWhole) (s : Fin 2) : (bslotM M s).view.WordExact :=
  (hM.wordExact_slice rfl _ (bslot_words s)).reshape _ _

/-! ### The values computed -/

/-- A block of `x` times a block of `w`. -/
def gemm (a : Vec F S512x512 .f32) (b : Vec F S512x2048 .f32) : FVec F S512x2048 .f32 :=
  matmul dot_S512x512_S512x2048_S512x2048_1_0_0_1_n_n none
    (shapeCast S512x512 a Facts₀.shapeCasts_S512x512_S512x512)
    (shapeCast S512x2048 b Facts₀.shapeCasts_S512x2048_S512x2048) (constant S512x2048 .f32 0x00000000#32)
/-- A block as one slot of a buffer, -/
def up {e : EltTy} (v : Vec F S512x2048 e) : Vec F S1x512x2048 e := shapeCast S1x512x2048 v Facts₀.shapeCasts_S512x2048_S1x512x2048
/-- and a slot as a block. -/
def down {e : EltTy} (v : Vec F S1x512x2048 e) : Vec F S512x2048 e := shapeCast S512x2048 v Facts₀.shapeCasts_S1x512x2048_S512x2048
/-- A landed partial sum plus a product, -/
def accum (v : Vec F S1x512x2048 .f32) (g : FVec F S512x2048 .f32) : FVec F S512x2048 .f32 := addf (down (F := F) v) g
/-- and its positive part. -/
def fin (v : Vec F S1x512x2048 .f32) (g : FVec F S512x2048 .f32) : FVec F S512x2048 .f32 :=
  maximumf (accum v g) (broadcast S512x2048 (Scalar.ofBits .f32 0x00000000#32))
/-- The largest element of a block. -/
def blockMax (v : FVec F S512x2048 .f32) : F .f32 :=
  extractAt ![0, 0, 0] (shapeCast S1x1x1
    (multiReduction .maximumf [1, 2] S1 (up (F := F) (e := .f32) v) 0xFF800000#32 Facts₀.reduces_S1x512x2048_S1 (.inl rfl) rfl)
    Facts₀.shapeCasts_S1_S1x1x1) Facts₀.inpos_S1x1x1_p0_0_0
/-- A running maximum taken on over two blocks. -/
def maxStep (a : F .f32) (u v : FVec F S512x2048 .f32) : F .f32 := Scalar.maximumf a (Scalar.maximumf (blockMax u) (blockMax v))
/-- The buffer of maxima cleared. -/
def zeros : FVec F S8x128 .f32 :=
  shapeCast S8x128 (broadcast S8x128 (Scalar.ofBits (F := F) .f32 0x00000000#32)) Facts₀.shapeCasts_S8x128_S8x128
/-- A device's maximum spread over a row. -/
def spread (a : F .f32) : FVec F S1x128 .f32 := shapeCast S1x128 (broadcast S1x128 a) Facts₀.shapeCasts_S1x128_S1x128
/-- The largest of all devices' maxima. -/
def allMax (a : F .f32) (v : Vec F S8x128 .f32) : F .f32 :=
  Scalar.maximumf (extractAt ![0, 0, 0] (shapeCast S1x1x1
    (multiReduction .maximumf [1, 2] S1 (shapeCast S1x8x128 v Facts₀.shapeCasts_S8x128_S1x8x128) 0xFF800000#32
      Facts₀.reduces_S1x8x128_S1 (.inl rfl) rfl)
    Facts₀.shapeCasts_S1_S1x1x1) Facts₀.inpos_S1x1x1_p0_0_0) a
/-- `127 / A` and `A / 127`. -/
def invOf (A : F .f32) : F .f32 := Scalar.divf (Scalar.ofBits .f32 0x42FE0000#32) A
def scaleOf (A : F .f32) : F .f32 := Scalar.divf A (Scalar.ofBits .f32 0x42FE0000#32)
/-- The codes of a block, -/
def quant (i : F .f32) (v : Vec F S1x512x2048 .f32) : IVec S512x2048 8 :=
  fptosi 8 (minimumf (broadcast S512x2048 (Scalar.ofBits .f32 0x42FE0000#32))
    (maximumf (broadcast S512x2048 (Scalar.ofBits .f32 0xC2FE0000#32))
      (roundeven (mulf (down (F := F) (e := .f32) v) (broadcast S512x2048 i)))))
/-- and the block of some codes. -/
def dequant (s : F .f32) (v : Vec F S1x512x2048 .i8) : FVec F S512x2048 .f32 :=
  mulf (sitofp .f32 (down (F := F) (e := .i8) v)) (broadcast S512x2048 s)

/-! ### The steps -/

/-- Load a block of `x`, -/
def ldX (o : Fin 2 → Nat) (h : ∀ a, o a + S512x512.size a ≤ S4096x512.size a) : Pr F (Vec F S512x512 .f32) :=
  Prog.lift (.load xM (Rect.unit (s := S4096x512) o S512x512.size h).toLoadRect (View.loadsAt_vmem Facts₀.h_S512x512))
/-- a block of `w`, -/
def ldW (o : Fin 2 → Nat) (h : ∀ a, o a + S512x2048.size a ≤ S512x8192.size a) : Pr F (Vec F S512x2048 .f32) :=
  Prog.lift (.load wM (Rect.unit (s := S512x8192) o S512x2048.size h).toLoadRect (View.loadsAt_vmem Facts₀.h_S512x2048))
/-- a slot of partial sums; -/
def ldS (M : Memref sig .tc .vmem S2x512x2048 .f32) (s : Fin 2) : Pr F (Vec F S1x512x2048 .f32) :=
  Prog.lift (.load M (slotR s).toLoadRect (View.loadsAt_vmem Facts₀.h_S1x512x2048))
/-- store one. -/
def stS (M : Memref sig .tc .vmem S2x512x2048 .f32) (s : Fin 2) (v : FVec F S512x2048 .f32) : Pr F PUnit := do
  Prog.lift (.store M (slotR s) (up (F := F) (e := .f32) v) Finset.univ (View.stores_vmem_bits_univ Facts₀.h_S1x512x2048 rfl) (.inl rfl))
/-- Load half a slot of codes, -/
def ldB (M : Memref sig .tc .vmem S2x512x4096 .i8) (s j : Fin 2) : Pr F (Vec F S1x512x2048 .i8) :=
  Prog.lift (.load M (halfR s j).toLoadRect (View.loadsAt_vmem Facts₀.h_S1x512x2048))

/-- Wait for the two credits of a hop. -/
def creditWait : Pr F PUnit := do
  semWaitWord credCw 1#32
  semWaitWord credCcw 1#32

/-- Hand the two credits of a hop on. -/
def creditGive (l r : Dev nD) : Pr F PUnit := do
  semSignalWord l credCw 1#32
  semSignalWord r credCcw 1#32

/-- A transfer of slot `s` of a buffer of partial sums to slot `t` on another device. -/
def sendS (M : Memref sig .tc .vmem S2x512x2048 .f32) (hM : M.view.ref.isScScratch = false) (s t : Fin 2) (n : Dev nD) (sa sb : DmaSem sig) : Pr F PUnit :=
  Prog.lift (.enqueueDma (slotM M s) (.remote (Dev.tc n) (slotM M t) (.dma sa) hM) (.dma sb)
    (slot_words M s) (slot_words M t) ⟨⟨rfl, Or.inl rfl⟩, trivial⟩)
/-- The two transfers of a hop of partial sums. -/
def startS (s t : Fin 2) (r l : Dev nD) : Pr F PUnit := do
  sendS cwM rfl s t r (sndCw s) (rcvCw t)
  sendS ccwM rfl s t l (sndCcw s) (rcvCcw t)
/-- The wait for both ends of a transfer of partial sums, -/
def waitSnd (M : Memref sig .tc .vmem S2x512x2048 .f32) (s t : Fin 2) (sa : DmaSem sig) : Pr F PUnit :=
  Prog.lift (.waitDma2 sa (slotM M t) (slotM M s) (slot_words M t) (slot_words M s))
/-- and the waits of a hop of partial sums. -/
def waitS (s t : Fin 2) : Pr F PUnit := do
  waitSnd cwM s t (sndCw s)
  waitSnd cwM t s (rcvCw t)
  waitSnd ccwM s t (sndCcw s)
  waitSnd ccwM t s (rcvCcw t)

/-- The operands of the two products of a hop. -/
def prods (o₁ o₂ : Fin 2 → Nat) (h₁ : ∀ a, o₁ a + S512x512.size a ≤ S4096x512.size a)
    (h₂ : ∀ a, o₂ a + S512x512.size a ≤ S4096x512.size a) (p₁ p₂ : Fin 2 → Nat)
    (k₁ : ∀ a, p₁ a + S512x2048.size a ≤ S512x8192.size a) (k₂ : ∀ a, p₂ a + S512x2048.size a ≤ S512x8192.size a) :
    Pr F (FVec F S512x2048 .f32 × FVec F S512x2048 .f32) := do
  let a ← ldX o₁ h₁
  let b ← ldW p₁ k₁
  let a' ← ldX o₂ h₂
  let b' ← ldW p₂ k₂
  pure (gemm a b, gemm a' b')

/-- A product put in a slot. -/
def firstS (M : Memref sig .tc .vmem S2x512x2048 .f32) (s : Fin 2) (o : Fin 2 → Nat) (h : ∀ a, o a + S512x512.size a ≤ S4096x512.size a)
    (p : Fin 2 → Nat) (k : ∀ a, p a + S512x2048.size a ≤ S512x8192.size a) : Pr F PUnit := do
  let a ← ldX o h
  let b ← ldW p k
  let _ ← ldS M s
  stS M s (gemm a b)

/-- A product added to a landed partial sum. -/
def accS (M : Memref sig .tc .vmem S2x512x2048 .f32) (s : Fin 2) (g : FVec F S512x2048 .f32) : Pr F PUnit := do
  let v ← ldS M s
  let _ ← ldS M s
  stS M s (accum v g)

/-- The last products added, the positive parts stored; their maximum taken on from `a`. -/
def lastS (s : Fin 2) (g₁ g₂ : FVec F S512x2048 .f32) (a : F .f32) : Pr F (F .f32) := do
  let u ← ldS cwM s
  let v ← ldS ccwM s
  let _ ← ldS cwM s
  stS cwM s (fin u g₁)
  let _ ← ldS ccwM s
  stS ccwM s (fin v g₂)
  pure (maxStep a (fin u g₁) (fin v g₂))

/-- Start copying a slot to a block of the result, -/
def outStart (M : Memref sig .tc .vmem S2x512x2048 .f32) (s : Fin 2) (o : Fin 2 → Nat)
    (h : ∀ a, o a + S512x2048.size a ≤ S4096x8192.size a) (q : DmaSem sig) : Pr F PUnit :=
  Prog.lift (.enqueueDma (slotM M s) (.here (outM o h)) (.dma q) (slot_words M s) (View.wordExact_bits rfl) ⟨Or.inl rfl, trivial⟩)
/-- and wait for it. -/
def outWait (M : Memref sig .tc .vmem S2x512x2048 .f32) (s : Fin 2) (o : Fin 2 → Nat)
    (h : ∀ a, o a + S512x2048.size a ≤ S4096x8192.size a) (q : DmaSem sig) : Pr F PUnit :=
  Prog.lift (.waitDma2 q (slotM M s) (outM o h) (slot_words M s) (View.wordExact_bits rfl))

/-- Two slots copied out. -/
def outPair (s : Fin 2) (o₁ o₂ : Fin 2 → Nat) (h₁ : ∀ a, o₁ a + S512x2048.size a ≤ S4096x8192.size a)
    (h₂ : ∀ a, o₂ a + S512x2048.size a ≤ S4096x8192.size a) : Pr F PUnit := do
  outStart cwM s o₁ h₁ (locS 0)
  outStart ccwM s o₂ h₂ (locS 1)
  outWait cwM s o₁ h₁ (locS 0)
  outWait ccwM s o₂ h₂ (locS 1)

/-- Start copying a block of the result back into a slot, -/
def backStart (M : Memref sig .tc .vmem S2x512x2048 .f32) (s : Fin 2) (o : Fin 2 → Nat)
    (h : ∀ a, o a + S512x2048.size a ≤ S4096x8192.size a) (q : DmaSem sig) : Pr F PUnit :=
  Prog.lift (.enqueueDma (outM o h) (.here (slotM M s)) (.dma q) (View.wordExact_bits rfl) (slot_words M s) ⟨Or.inl rfl, trivial⟩)
/-- wait for it, and store its codes. -/
def backCodes (M : Memref sig .tc .vmem S2x512x2048 .f32) (B : Memref sig .tc .vmem S2x512x4096 .i8) (s j : Fin 2) (o : Fin 2 → Nat)
    (h : ∀ a, o a + S512x2048.size a ≤ S4096x8192.size a) (q : DmaSem sig) (i : F .f32)
    (hst : (B.access (halfR 0 j) : View sig .tc _ _ _).Stores Finset.univ) : Pr F PUnit := do
  Prog.lift (.waitDma2 q (outM o h) (slotM M s) (View.wordExact_bits rfl) (slot_words M s))
  let v ← ldS M s
  let _ ← ldB B 0 j
  Prog.lift (.store B (halfR 0 j) (up (F := F) (e := .i8) (quant i v)) Finset.univ hst (.inl rfl))

/-- The transfer of a device's maximum to another device's row for it, -/
def sendA (o : Fin 2 → Nat) (h : ∀ a, o a + S1x128.size a ≤ S8x128.size a) (n : Dev nD) (sa sb : DmaSem sig) : Pr F PUnit :=
  Prog.lift (.enqueueDma sbM (.remote (Dev.tc n) (rowM o h) (.dma sa)) (.dma sb)
    (Memref.isWhole_whole cc0_scratch5).wordExact (View.wordExact_bits rfl) ⟨⟨rfl, Or.inl rfl⟩, trivial⟩)
/-- the wait for another device's, -/
def waitArr (o : Fin 2 → Nat) (h : ∀ a, o a + S1x128.size a ≤ S8x128.size a) (q : DmaSem sig) : Pr F PUnit :=
  Prog.lift (.waitDma2 q sbM (rowM o h) (Memref.isWhole_whole cc0_scratch5).wordExact (View.wordExact_bits rfl))
/-- and the wait for a transfer of its own to have left. -/
def waitDep (o : Fin 2 → Nat) (h : ∀ a, o a + S1x128.size a ≤ S8x128.size a) (q : DmaSem sig) : Pr F PUnit :=
  Prog.lift (.waitDma2 q (rowM o h) sbM (View.wordExact_bits rfl) (Memref.isWhole_whole cc0_scratch5).wordExact)

/-- A transfer of a slot of codes, -/
def sendB (M : Memref sig .tc .vmem S2x512x4096 .i8) (hw : M.IsWhole) (hM : M.view.ref.isScScratch = false) (s t : Fin 2) (n : Dev nD) (sa sb : DmaSem sig) : Pr F PUnit :=
  Prog.lift (.enqueueDma (bslotM M s) (.remote (Dev.tc n) (bslotM M t) (.dma sa) hM) (.dma sb)
    (bslot_wordExact M hw s) (bslot_wordExact M hw t) ⟨⟨rfl, Or.inl rfl⟩, trivial⟩)
def startB (s t : Fin 2) (r l : Dev nD) : Pr F PUnit := do
  sendB cwB (Memref.isWhole_whole _) rfl s t r (sndCw s) (rcvCw t)
  sendB ccwB (Memref.isWhole_whole _) rfl s t l (sndCcw s) (rcvCcw t)
/-- the wait for one end of it. -/
def waitSndB (M : Memref sig .tc .vmem S2x512x4096 .i8) (hw : M.IsWhole) (s t : Fin 2) (sa : DmaSem sig) : Pr F PUnit :=
  Prog.lift (.waitDma2 sa (bslotM M t) (bslotM M s) (bslot_wordExact M hw t) (bslot_wordExact M hw s))
def waitB (s t : Fin 2) : Pr F PUnit := do
  waitSndB cwB (Memref.isWhole_whole _) s t (sndCw s)
  waitSndB cwB (Memref.isWhole_whole _) t s (rcvCw t)
  waitSndB ccwB (Memref.isWhole_whole _) s t (sndCcw s)
  waitSndB ccwB (Memref.isWhole_whole _) t s (rcvCcw t)

/-- One quarter of a block of rows: its codes read, its values put in a buffer and started on their way out. -/
def dequantStart (B : Memref sig .tc .vmem S2x512x4096 .i8) (M : Memref sig .tc .vmem S2x512x2048 .f32) (s j t : Fin 2) (o : Fin 2 → Nat)
    (h : ∀ a, o a + S512x2048.size a ≤ S4096x8192.size a) (q : DmaSem sig) (sc : F .f32) : Pr F PUnit := do
  let v ← ldB B s j
  let _ ← ldS M t
  stS M t (dequant sc v)
  outStart M t o h q

/-- The offsets of the four quarters of a block of rows. -/
structure Quarters where
  o : Fin 4 → Fin 2 → Nat
  h : ∀ i a, o i a + S512x2048.size a ≤ S4096x8192.size a

/-- A block of rows of the result from its codes: the four quarters started, -/
def writeStart (s : Fin 2) (Q : Quarters) (sc : F .f32) : Pr F PUnit := do
  dequantStart cwB cwM s 0 0 (Q.o 0) (Q.h 0) (locS 0) sc
  dequantStart cwB cwM s 1 1 (Q.o 1) (Q.h 1) (locS 1) sc
  dequantStart ccwB ccwM s 0 0 (Q.o 2) (Q.h 2) (locS 2) sc
  dequantStart ccwB ccwM s 1 1 (Q.o 3) (Q.h 3) (locS 3) sc
/-- and waited for. -/
def writeWait (Q : Quarters) : Pr F PUnit := do
  outWait cwM 0 (Q.o 0) (Q.h 0) (locS 0)
  outWait cwM 1 (Q.o 1) (Q.h 1) (locS 1)
  outWait ccwM 0 (Q.o 2) (Q.h 2) (locS 2)
  outWait ccwM 1 (Q.o 3) (Q.h 3) (locS 3)

/-- The kernel's left and right neighbours, as its words compute them. -/
abbrev devL (d : Dev nD) : Dev nD := ⟨k0_dev1 d, Facts₀.k0_dev1_lt d⟩
abbrev devR (d : Dev nD) : Dev nD := ⟨k0_dev2 d, Facts₀.k0_dev2_lt d⟩

/-- The columns of `w` a pass takes for the transfers to the right, -/
theorem cols_inb (p : Fin 4) : ∀ a, (![0, 2048 * p.val] : Fin 2 → Nat) a + S512x2048.size a ≤ S512x8192.size a := by
  revert p; decide

/-- The two products of one hop: the blocks of rows `o₁`, `o₂` of `x` by quarters `p` and `q` of the columns of `w`. -/
def prodsAt (o₁ o₂ : Fin 2 → Nat) (h₁ : ∀ a, o₁ a + S512x512.size a ≤ S4096x512.size a)
    (h₂ : ∀ a, o₂ a + S512x512.size a ≤ S4096x512.size a) (p q : Fin 4) : Pr F (FVec F S512x2048 .f32 × FVec F S512x2048 .f32) :=
  prods o₁ o₂ h₁ h₂ ![0, 2048 * p.val] ![0, 2048 * q.val] (cols_inb p) (cols_inb q)

/-- One hop of a pass, up to its credits: what it leaves is the two products. -/
def hopS (s t : Fin 2) (l r : Dev nD) (o₁ o₂ : Fin 2 → Nat) (h₁ : ∀ a, o₁ a + S512x512.size a ≤ S4096x512.size a)
    (h₂ : ∀ a, o₂ a + S512x512.size a ≤ S4096x512.size a) (p q : Fin 4) : Pr F (FVec F S512x2048 .f32 × FVec F S512x2048 .f32) := do
  startS s t r l
  let g ← prodsAt o₁ o₂ h₁ h₂ p q
  waitS s t
  creditGive l r
  pure g

/-- A hop of a pass whose partial sums go on. -/
def hopMid (s t : Fin 2) (l r : Dev nD) (o₁ o₂ : Fin 2 → Nat) (h₁ : ∀ a, o₁ a + S512x512.size a ≤ S4096x512.size a)
    (h₂ : ∀ a, o₂ a + S512x512.size a ≤ S4096x512.size a) (p q : Fin 4) : Pr F PUnit := do
  let g ← hopS s t l r o₁ o₂ h₁ h₂ p q
  accS cwM t g.1
  accS ccwM t g.2

/-- The last hop of a pass. -/
def hopLast (s t : Fin 2) (l r : Dev nD) (o : Fin 2 → Nat) (h : ∀ a, o a + S512x512.size a ≤ S4096x512.size a) (p q : Fin 4)
    (a : F .f32) : Pr F (F .f32) := do
  let g ← hopS s t l r o o h h p q
  lastS t g.1 g.2 a

/-- The first products of a pass, put in slot `s`. -/
def firstPair (s : Fin 2) (o₁ o₂ : Fin 2 → Nat) (h₁ : ∀ a, o₁ a + S512x512.size a ≤ S4096x512.size a)
    (h₂ : ∀ a, o₂ a + S512x512.size a ≤ S4096x512.size a) (p q : Fin 4) : Pr F PUnit := do
  firstS cwM s o₁ h₁ ![0, 2048 * p.val] (cols_inb p)
  firstS ccwM s o₂ h₂ ![0, 2048 * q.val] (cols_inb q)

/-- One hop of the gathering of the codes. -/
def hopB (s t : Fin 2) (l r : Dev nD) (Q : Quarters) (sc : F .f32) : Pr F PUnit := do
  startB s t r l
  writeStart s Q sc
  writeWait Q
  waitB s t
  creditGive l r

/-- The barrier, and the buffer of maxima cleared. -/
def entry (l r : Dev nD) : Pr F PUnit := do
  semSignalWord l barS 1#32
  semSignalWord r barS 1#32
  semWaitWord barS 2#32
  let _ ← (Prog.lift (.load rbM (Rect.unit (s := S8x128) ![0, 0] S8x128.size Facts₀.inb_S8x128_S8x128_0_0).toLoadRect
    (View.loadsAt_vmem Facts₀.h_S8x128)) : Pr F (Vec F S8x128 .f32))
  Prog.lift (.store rbM (Rect.unit (s := S8x128) ![0, 0] S8x128.size Facts₀.inb_S8x128_S8x128_0_0) (zeros (F := F)) Finset.univ
    (View.stores_vmem_bits_univ Facts₀.h_S8x128 rfl) (.inl rfl))

/-- A device's own maximum put in its row. -/
def setMax (a : F .f32) : Pr F PUnit := do
  let _ ← (Prog.lift (.load sbM (Rect.unit (s := S1x128) ![0, 0] S1x128.size Facts₀.inb_S1x128_S1x128_0_0).toLoadRect
    (View.loadsAt_vmem Facts₀.h_S1x128)) : Pr F (Vec F S1x128 .f32))
  Prog.lift (.store sbM (Rect.unit (s := S1x128) ![0, 0] S1x128.size Facts₀.inb_S1x128_S1x128_0_0) (spread a) Finset.univ
    (View.stores_vmem_bits_univ Facts₀.h_S1x128 rfl) (.inl rfl))

/-- The buffer of maxima read. -/
def getMax : Pr F (Vec F S8x128 .f32) :=
  Prog.lift (.load rbM (Rect.unit (s := S8x128) ![0, 0] S8x128.size Facts₀.inb_S8x128_S8x128_0_0).toLoadRect (View.loadsAt_vmem Facts₀.h_S8x128))

/-- The semaphore of the arrivals from the device whose number is at `o`. -/
abbrev arrSem (o : Fin 1 → Nat) (h : ∀ a, o a + S1.size a ≤ S8.size a) : DmaSem sig :=
  ((cc0_scratch11.slice (Rect.unit (s := S8) o S1.size h)).squeeze S_ Facts₀.squeezes_S1_S_).sem

/-- The whole exchange of the maxima: what every device does with the other seven. -/
def sendAll (d : Dev nD) (n : Fin 7 → Dev nD) : Pr F PUnit := do
  sendA (k0_off11 d) (Facts₀.k0_off11_inb d) (n 0) (sndA 1) (arrSem (k0_off10 d) (Facts₀.k0_off10_inb d))
  sendA (k0_off11 d) (Facts₀.k0_off11_inb d) (n 1) (sndA 2) (arrSem (k0_off10 d) (Facts₀.k0_off10_inb d))
  sendA (k0_off11 d) (Facts₀.k0_off11_inb d) (n 2) (sndA 3) (arrSem (k0_off10 d) (Facts₀.k0_off10_inb d))
  sendA (k0_off11 d) (Facts₀.k0_off11_inb d) (n 3) (sndA 4) (arrSem (k0_off10 d) (Facts₀.k0_off10_inb d))
  sendA (k0_off11 d) (Facts₀.k0_off11_inb d) (n 4) (sndA 5) (arrSem (k0_off10 d) (Facts₀.k0_off10_inb d))
  sendA (k0_off11 d) (Facts₀.k0_off11_inb d) (n 5) (sndA 6) (arrSem (k0_off10 d) (Facts₀.k0_off10_inb d))
  sendA (k0_off11 d) (Facts₀.k0_off11_inb d) (n 6) (sndA 7) (arrSem (k0_off10 d) (Facts₀.k0_off10_inb d))

/-- The wait for what comes from the device `1 + j` places further on. -/
def waitArrOf (d : Dev nD) (j : Fin 7) : Pr F PUnit :=
  waitArr (k0_off13 d (BitVec.ofNat 32 (1 + j.val))) (Facts₀.k0_off13_inb d j)
    (arrSem (k0_off12 d (BitVec.ofNat 32 (1 + j.val))) (Facts₀.k0_off12_inb d j))

def waitAll (d : Dev nD) : Pr F PUnit := do
  waitArrOf d 0
  waitArrOf d 1
  waitArrOf d 2
  waitArrOf d 3
  waitArrOf d 4
  waitArrOf d 5
  waitArrOf d 6

def leftAll (d : Dev nD) : Pr F PUnit := do
  waitDep (k0_off11 d) (Facts₀.k0_off11_inb d) (sndA 1)
  waitDep (k0_off11 d) (Facts₀.k0_off11_inb d) (sndA 2)
  waitDep (k0_off11 d) (Facts₀.k0_off11_inb d) (sndA 3)
  waitDep (k0_off11 d) (Facts₀.k0_off11_inb d) (sndA 4)
  waitDep (k0_off11 d) (Facts₀.k0_off11_inb d) (sndA 5)
  waitDep (k0_off11 d) (Facts₀.k0_off11_inb d) (sndA 6)
  waitDep (k0_off11 d) (Facts₀.k0_off11_inb d) (sndA 7)

/-- The four quarters of a device's own block of rows started back, -/
def backAll (Q : Quarters) : Pr F PUnit := do
  backStart cwM 0 (Q.o 0) (Q.h 0) (locS 0)
  backStart cwM 1 (Q.o 1) (Q.h 1) (locS 1)
  backStart ccwM 0 (Q.o 2) (Q.h 2) (locS 2)
  backStart ccwM 1 (Q.o 3) (Q.h 3) (locS 3)

/-- A store into half of the first slot of codes writes every element. -/
theorem stores_half (B : Memref sig .tc .vmem S2x512x4096 .i8) (hB : B.IsWhole) (j : Fin 2) :
    (B.access (halfR 0 j) : View sig .tc _ _ _).Stores Finset.univ := by
  match j with
  | ⟨0, _⟩ => exact View.stores_vmem Facts₀.h_S1x512x2048 (hB.storeExact_slice rfl _ Facts₀.packedi8_S2x512x4096_S1x512x2048_0_0_0) (fun _ => rfl)
  | ⟨1, _⟩ => exact View.stores_vmem Facts₀.h_S1x512x2048 (hB.storeExact_slice rfl _ Facts₀.packedi8_S2x512x4096_S1x512x2048_0_0_2048) (fun _ => rfl)

/-- and each quarter's codes stored. -/
def codesAll (Q : Quarters) (i : F .f32) : Pr F PUnit := do
  backCodes cwM cwB 0 0 (Q.o 0) (Q.h 0) (locS 0) i (stores_half _ (Memref.isWhole_whole _) 0)
  backCodes cwM cwB 1 1 (Q.o 1) (Q.h 1) (locS 1) i (stores_half _ (Memref.isWhole_whole _) 1)
  backCodes ccwM ccwB 0 0 (Q.o 2) (Q.h 2) (locS 2) i (stores_half _ (Memref.isWhole_whole _) 0)
  backCodes ccwM ccwB 1 1 (Q.o 3) (Q.h 3) (locS 3) i (stores_half _ (Memref.isWhole_whole _) 1)

/-- The quarters of the device's own rows, -/
def ownQ (d : Dev nD) : Quarters where
  o := ![k0_off6 d, k0_off7 d, k0_off8 d, k0_off9 d]
  h i := by
    match i with
    | ⟨0, _⟩ => exact Facts₀.k0_off6_inb d
    | ⟨1, _⟩ => exact Facts₀.k0_off7_inb d
    | ⟨2, _⟩ => exact Facts₀.k0_off8_inb d
    | ⟨3, _⟩ => exact Facts₀.k0_off9_inb d
/-- those written at hop `a` of the gathering, -/
def gatherQ (d : Dev nD) (a : Fin 7) : Quarters where
  o := ![k0_off14 d (BitVec.ofNat 32 a.val), k0_off15 d (BitVec.ofNat 32 a.val), k0_off16 d (BitVec.ofNat 32 a.val),
    k0_off17 d (BitVec.ofNat 32 a.val)]
  h i := by
    match i with
    | ⟨0, _⟩ => exact Facts₀.k0_off14_inb d a
    | ⟨1, _⟩ => exact Facts₀.k0_off15_inb d a
    | ⟨2, _⟩ => exact Facts₀.k0_off16_inb d a
    | ⟨3, _⟩ => exact Facts₀.k0_off17_inb d a
/-- and those written last. -/
def endQ (d : Dev nD) : Quarters where
  o := ![k0_off18 d, k0_off19 d, k0_off20 d, k0_off21 d]
  h i := by
    match i with
    | ⟨0, _⟩ => exact Facts₀.k0_off18_inb d
    | ⟨1, _⟩ => exact Facts₀.k0_off19_inb d
    | ⟨2, _⟩ => exact Facts₀.k0_off20_inb d
    | ⟨3, _⟩ => exact Facts₀.k0_off21_inb d

/-- The devices the maximum is sent to. -/
def peersOf (d : Dev nD) : Fin 7 → Dev nD :=
  ![⟨k0_dev59 d, Facts₀.k0_dev59_lt d⟩, ⟨k0_dev60 d, Facts₀.k0_dev60_lt d⟩, ⟨k0_dev61 d, Facts₀.k0_dev61_lt d⟩,
    ⟨k0_dev62 d, Facts₀.k0_dev62_lt d⟩, ⟨k0_dev63 d, Facts₀.k0_dev63_lt d⟩, ⟨k0_dev64 d, Facts₀.k0_dev64_lt d⟩,
    ⟨k0_dev65 d, Facts₀.k0_dev65_lt d⟩]

/-- A hop of a pass at its place `h`, its blocks of rows as the kernel's words compute them. -/
def hopAt (s t : Fin 2) (d : Dev nD) (h : Fin 6) (p q : Fin 4) : Pr F PUnit :=
  hopMid s t (devL d) (devR d) (k0_off3 d (BitVec.ofNat 32 h.val)) (k0_off4 d (BitVec.ofNat 32 h.val))
    (Facts₀.k0_off3_inb d h) (Facts₀.k0_off4_inb d h) p q
def lastAt (s t : Fin 2) (d : Dev nD) (p q : Fin 4) (a : F .f32) : Pr F (F .f32) :=
  hopLast s t (devL d) (devR d) (k0_off5 d) (Facts₀.k0_off5_inb d) p q a
def firstAt (s : Fin 2) (d : Dev nD) (p q : Fin 4) : Pr F PUnit :=
  firstPair s (k0_off1 d) (k0_off2 d) (Facts₀.k0_off1_inb d) (Facts₀.k0_off2_inb d) p q

/-- The first pass: the first two quarters' columns summed over the devices. -/
def pass₀ (d : Dev nD) : Pr F (F .f32) := do
  firstAt 0 d 0 1
  hopAt 0 1 d 0 0 1
  creditWait
  hopAt 1 0 d 1 0 1
  creditWait
  hopAt 0 1 d 2 0 1
  creditWait
  hopAt 1 0 d 3 0 1
  creditWait
  hopAt 0 1 d 4 0 1
  creditWait
  hopAt 1 0 d 5 0 1
  creditWait
  let a ← lastAt 0 1 d 0 1 (Scalar.ofBits .f32 0x00000000#32)
  outPair 1 (k0_off6 d) (k0_off7 d) (Facts₀.k0_off6_inb d) (Facts₀.k0_off7_inb d)
  pure a

/-- The second pass: the last two. -/
def pass₁ (d : Dev nD) (a : F .f32) : Pr F (F .f32) := do
  firstAt 1 d 2 3
  creditWait
  hopAt 1 0 d 0 2 3
  creditWait
  hopAt 0 1 d 1 2 3
  creditWait
  hopAt 1 0 d 2 2 3
  creditWait
  hopAt 0 1 d 3 2 3
  creditWait
  hopAt 1 0 d 4 2 3
  creditWait
  hopAt 0 1 d 5 2 3
  creditWait
  let a ← lastAt 1 0 d 2 3 a
  outPair 0 (k0_off8 d) (k0_off9 d) (Facts₀.k0_off8_inb d) (Facts₀.k0_off9_inb d)
  pure a

/-- The exchange of the maxima and the codes of the device's own rows: what it leaves is the scale. -/
def codes (d : Dev nD) (a : F .f32) : Pr F (F .f32) := do
  setMax a
  sendAll d (peersOf d)
  backAll (ownQ d)
  waitAll d
  leftAll d
  let v ← getMax
  codesAll (ownQ d) (invOf (allMax a v))
  pure (scaleOf (allMax a v))

/-- The gathering of the codes. -/
def gather (d : Dev nD) (sc : F .f32) : Pr F PUnit := do
  creditWait
  hopB 0 1 (devL d) (devR d) (gatherQ d 0) sc
  creditWait
  hopB 1 0 (devL d) (devR d) (gatherQ d 1) sc
  creditWait
  hopB 0 1 (devL d) (devR d) (gatherQ d 2) sc
  creditWait
  hopB 1 0 (devL d) (devR d) (gatherQ d 3) sc
  creditWait
  hopB 0 1 (devL d) (devR d) (gatherQ d 4) sc
  creditWait
  hopB 1 0 (devL d) (devR d) (gatherQ d 5) sc
  creditWait
  hopB 0 1 (devL d) (devR d) (gatherQ d 6) sc
  writeStart 1 (endQ d) sc
  writeWait (endQ d)
  creditWait

/-- What device `d` runs. -/
def steps (d : Dev nD) : Pr F PUnit := do
  entry (devL d) (devR d)
  let a ← pass₀ d
  let a ← pass₁ d a
  let sc ← codes d a
  gather d sc

/-- The printed body is these steps, at the device it reads. -/
theorem body_eq : cc0_body (F := F) xM (Memref.isWhole_whole _) wM (Memref.isWhole_whole _) oM (Memref.isWhole_whole _)
      cwM (Memref.isWhole_whole _) ccwM (Memref.isWhole_whole _) cwB (Memref.isWhole_whole _) ccwB (Memref.isWhole_whole _)
      rbM (Memref.isWhole_whole _) sbM (Memref.isWhole_whole _) cc0_scratch6 cc0_scratch7 cc0_scratch8 cc0_scratch9
      cc0_scratch10 cc0_scratch11 cc0_scratch12 cc0_scratch13 cc0_scratch14
    = (Prog.lift .deviceId >>= fun d => steps d) := by
  chain_rfl

end Cert.Dist

end
-- ==== Proof.Sched.lean ====
/-
  The protocol the devices follow, stated once over what they send.

  There are twenty-one hops. In each every device sends one block to the device on its right and one to the device on
  its left: in hops 0–13 (two passes of seven) partial sums of float blocks, in hops 14–20 blocks of codes. At hop `k`
  the block leaves slot `k % 2` of its buffer and lands in slot `(k + 1) % 2` of the neighbour's. For each of the two
  directions `b` (`false` to the right, `true` to the left) a device has:

  * `snd b s`: its transfers from slot `s` have left; round `k / 2` hands it the slot back;
  * `rcv b t`: a block has landed in its slot `t`; round `k / 2` hands it the slot with the block, and that the sender
    has come to round `k` of its credits;
  * `cred b`: the device it sends to has taken hop `k`'s block in and has a slot free for hop `k + 1`; round `k` hands
    it that slot.

  Beside these there is the barrier cell `bar` (each neighbour hands over slot 1 for hop 0), and for the exchange of the
  maxima the cells `sa o` (a transfer has left; a share of the row sent comes back) and `ra j` (device `j`'s maximum has
  landed in row `j`). Row `j` of every other device must be handed to device `j` before it can send there: the rows
  travel to the right with hops 0–6, each device adding its own.
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The resources: the windows' library, this protocol's, and the counters of the local copies -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- Where the protocol's cells live. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb

/-! ### The ring -/

/-- The device `n` places on. -/
def sh (n : ℕ) (c : Dev nD) : Dev nD := ⟨(c.val + n) % 8, Nat.mod_lt _ (by decide)⟩
/-- The device direction `b` sends to, and the one `n` places back against it. -/
def fwd (b : Bool) (c : Dev nD) : Dev nD := sh (bif b then 7 else 1) c
def bk (b : Bool) (n : ℕ) (c : Dev nD) : Dev nD := sh ((bif b then 1 else 7) * n) c

/-- `n` places on and `a` more are `n + a`. -/
theorem sh_sh (a n : ℕ) (c : Dev nD) : sh a (sh n c) = sh (n + a) c := by
  apply Fin.ext; simp only [sh]; omega
/-- Eight places on is back again. -/
theorem sh_congr {a n : ℕ} (h : a % 8 = n % 8) (c : Dev nD) : sh a c = sh n c := by
  apply Fin.ext; simp only [sh]; omega
/-- No place on is the device itself. -/
theorem sh_zero (c : Dev nD) : sh 0 c = c := by
  apply Fin.ext; have := c.isLt; simp only [sh, nD] at *; omega
/-- `k` places back and `n` more are `k + n`. -/
theorem bk_bk (b : Bool) (n k : ℕ) (c : Dev nD) : bk b n (bk b k c) = bk b (k + n) c := by
  unfold bk; rw [sh_sh, Nat.mul_add]
/-- One place back and one on is the device itself; -/
theorem fwd_bk (b : Bool) (c : Dev nD) : fwd b (bk b 1 c) = c := by
  unfold fwd bk; rw [sh_sh]; cases b <;> exact (sh_congr (by decide) c).trans (sh_zero c)
/-- so is one on and one back. -/
theorem bk_fwd (b : Bool) (c : Dev nD) : bk b 1 (fwd b c) = c := by
  unfold fwd bk; rw [sh_sh]; cases b <;> exact (sh_congr (by decide) c).trans (sh_zero c)
/-- No place back is the device itself. -/
theorem bk_zero (b : Bool) (c : Dev nD) : bk b 0 c = c := sh_zero c

/-- The left neighbour is seven places on, -/
theorem devL_eq (c : Dev nD) : devL c = sh 7 c := by revert c; decide
/-- the right one is one place on, -/
theorem devR_eq (c : Dev nD) : devR c = sh 1 c := by revert c; decide
/-- and the others are one to seven places on. -/
theorem peersOf_eq (c : Dev nD) (j : Fin 7) : peersOf c j = sh (1 + j.val) c := by revert c j; decide

/-! ### The cells -/

/-- The slot of hop `k`. -/
def par (k : ℕ) : Fin 2 := ⟨k % 2, Nat.mod_lt _ (by decide)⟩
/-- Every second hop has the same slot. -/
theorem par_add_two (k : ℕ) : par (k + 2) = par k := Fin.ext (by simp only [par]; omega)

/-- The kinds of cells of one device. -/
inductive Kd where
  | snd (b : Bool) (s : Fin 2) | rcv (b : Bool) (t : Fin 2) | cred (b : Bool) | bar | sa (o : Fin 8) | ra (j : Fin 8)
deriving DecidableEq

/-- They are finitely many. -/
def kdEquiv : ((Bool × Fin 2) ⊕ (Bool × Fin 2)) ⊕ ((Bool ⊕ Unit) ⊕ (Fin 8 ⊕ Fin 8)) ≃ Kd where
  toFun
    | .inl (.inl p) => .snd p.1 p.2 | .inl (.inr p) => .rcv p.1 p.2
    | .inr (.inl (.inl b)) => .cred b | .inr (.inl (.inr _)) => .bar
    | .inr (.inr (.inl o)) => .sa o | .inr (.inr (.inr j)) => .ra j
  invFun
    | .snd b s => .inl (.inl (b, s)) | .rcv b t => .inl (.inr (b, t))
    | .cred b => .inr (.inl (.inl b)) | .bar => .inr (.inl (.inr ()))
    | .sa o => .inr (.inr (.inl o)) | .ra j => .inr (.inr (.inr j))
  left_inv x := by rcases x with (_ | _) | ((_ | _) | (_ | _)) <;> rfl
  right_inv k := by cases k <;> rfl
instance : Fintype Kd := Fintype.ofEquiv _ kdEquiv

/-- The semaphore of each kind, -/
def semOf : Kd → SemLoc sig
  | .snd b s => .dma (bif b then sndCcw s else sndCw s)
  | .rcv b t => .dma (bif b then rcvCcw t else rcvCw t)
  | .cred b => .reg (bif b then credCcw else credCw)
  | .bar => .reg barS
  | .sa o => .dma (sndA o)
  | .ra j => .dma (rcvA j)

/-- and the kind of each semaphore: the local copies' and the windows' have none. -/
def dmaKind (n : ℕ) : Option Kd :=
  if n < 2 then none else if n < 4 then some (.snd false (par n)) else if n < 6 then some (.rcv false (par n))
  else if n < 8 then some (.snd true (par n)) else if n < 10 then some (.rcv true (par n))
  else if n < 18 then some (.sa ⟨(n - 10) % 8, Nat.mod_lt _ (by decide)⟩)
  else if n < 26 then some (.ra ⟨(n - 18) % 8, Nat.mod_lt _ (by decide)⟩) else none
def kindOf : SemLoc sig → Option Kd
  | .dma q => dmaKind q.val
  | .reg q => if q.val = 0 then some (.cred false) else if q.val = 1 then some (.cred true) else if q.val = 2 then some .bar else none

/-- The kind of a kind's semaphore is that kind. -/
theorem kindOf_semOf (k : Kd) : kindOf (semOf k) = some k := by revert k; decide
/-- Different kinds have different semaphores, -/
theorem semOf_inj {k k' : Kd} (h : semOf k = semOf k') : k = k' := by
  have := congrArg kindOf h; rw [kindOf_semOf, kindOf_semOf] at this; exact Option.some.inj this

/-- Device `c`'s cell of kind `k`. -/
abbrev cell (c : Dev nD) (k : Kd) : GSem nD τ sig := ((c : Thread nD τ), semOf k)

/-- so different devices or kinds have different cells. -/
theorem cell_inj {p p' : Dev nD × Kd} (h : cell p.1 p.2 = cell p'.1 p'.2) : p = p' := by
  have h1 := congrArg (fun g : GSem nD τ sig => g.1.1) h
  have h2 := congrArg (fun g : GSem nD τ sig => g.2) h
  exact Prod.ext h1 (semOf_inj h2)

/-! ### What is owned and handed over -/

/-- The buffers of partial sums and of codes of direction `b`. -/
abbrev bufS (b : Bool) : Memref sig .tc .vmem S2x512x2048 .f32 := match b with | true => ccwM | false => cwM
abbrev bufB (b : Bool) : Memref sig .tc .vmem S2x512x4096 .i8 := match b with | true => ccwB | false => cwB

/-- Each row lies in the buffer of maxima. -/
theorem row_inb (j : Fin 8) : ∀ a, (![j.val, 0] : Fin 2 → Nat) a + S1x128.size a ≤ S8x128.size a := by revert j; decide
/-- Row `j` of the buffer of maxima. -/
abbrev rowK (j : Fin 8) : Memref sig .tc .vmem S1x128 .f32 := rowM ![j.val, 0] (row_inb j)

/-- Device `c` owns slot `s` of its buffer of partial sums of direction `b`, holding `X`; -/
abbrev ownS (c : Dev nD) (b : Bool) (s : Fin 2) (X : Vec F S512x2048 .f32) : sProp 𝕄 :=
  owns (c : Thread nD τ) (slotM (bufS b) s) fullShare X
abbrev anyS (c : Dev nD) (b : Bool) (s : Fin 2) : sProp 𝕄 := iprop(∃ X, ownS (F := F) c b s X)
/-- a share of slot `s` of its buffer of codes; -/
abbrev ownB (c : Dev nD) (b : Bool) (s : Fin 2) (q : PosShare TreeShare) (X : Vec F S512x4096 .i8) : sProp 𝕄 :=
  owns (c : Thread nD τ) (bslotM (bufB b) s) q X
abbrev anyB (c : Dev nD) (b : Bool) (s : Fin 2) (q : PosShare TreeShare) : sProp 𝕄 := iprop(∃ X, ownB (F := F) c b s q X)
/-- row `j` of its buffer of maxima; -/
abbrev ownR (c : Dev nD) (j : Fin 8) (X : Vec F S1x128 .f32) : sProp 𝕄 := owns (c : Thread nD τ) (rowK j) fullShare X
abbrev anyR (c : Dev nD) (j : Fin 8) : sProp 𝕄 := iprop(∃ X, ownR (F := F) c j X)
/-- the row its own maximum is sent from, lent out in shares. -/
def rsh : ℕ → PosShare TreeShare | 0 => fullShare | n + 1 => (rsh n).right

/-- Row `s` of device `d` and of the `n - 1` devices before it. -/
def rights : ℕ → Dev nD → Dev nD → sProp 𝕄
  | 0, _, _ => iprop(emp)
  | n + 1, d, s => iprop(anyR (F := F) d s ∗ rights n (sh 7 d) s)

instance rights_storable (n : ℕ) : ∀ d s : Dev nD, BI.Storable (upEmb : UEmb _ 𝕄) (rights (F := F) n d s) := by
  induction n with
  | zero => intro d s; unfold rights; infer_instance
  | succ n ih => intro d s; unfold rights; have := ih (sh 7 d) s; infer_instance

/-- What is sent: the partial sums of direction `b` device `c` sends at hop `k`, the codes of device `o`'s rows, and
    each device's maximum. -/
structure Sent (F : FTy → Type) where
  S : Bool → ℕ → Dev nD → Vec F S512x2048 .f32
  C : Bool → Dev nD → Vec F S512x4096 .i8
  A : Dev nD → F .f32

variable (V : Sent F)

/-- The rows that come with hop `k` to `c`. -/
def rowsWith (b : Bool) (k : ℕ) (c : Dev nD) : sProp 𝕄 :=
  if b = false ∧ k ≤ 6 then rights (F := F) (k + 1) (sh 7 c) (sh (6 - k) c) else iprop(emp)

instance rowsWith_storable (b : Bool) (k : ℕ) (c : Dev nD) : BI.Storable (upEmb : UEmb _ 𝕄) (rowsWith (F := F) b k c) := by
  unfold rowsWith; split <;> infer_instance

/-- The block that lands with hop `k` on `c`. -/
def blockAt (b : Bool) (k : ℕ) (c : Dev nD) : sProp 𝕄 :=
  if k < 14 then ownS c b (par (k + 1)) (V.S b k (bk b 1 c)) else ownB c b (par (k + 1)) fullShare (V.C b (bk b (k - 13) c))
instance blockAt_storable (b : Bool) (k : ℕ) (c : Dev nD) : BI.Storable (upEmb : UEmb _ 𝕄) (blockAt V b k c) := by
  unfold blockAt; split <;> infer_instance

/-- What a landing at hop `k` hands `c`: the block, that its sender has come to round `k` of its credits, the rows. -/
def landPay (b : Bool) (k : ℕ) (c : Dev nD) : sProp 𝕄 :=
  iprop(blockAt V b k c ∗ (reached ER (cell (bk b 1 c) (.cred b)) k ∗ rowsWith b k c))

/-- The slot a transfer at hop `k` left from, back. -/
def leftPay (b : Bool) (k : ℕ) (c : Dev nD) : sProp 𝕄 :=
  if k < 14 then anyS (F := F) c b (par k) else anyB (F := F) c b (par k) fullShare.right
instance leftPay_storable (b : Bool) (k : ℕ) (c : Dev nD) : BI.Storable (upEmb : UEmb _ 𝕄) (leftPay (F := F) b k c) := by
  unfold leftPay; split <;> infer_instance

/-- The slot of `fwd b c` that hop `k + 1` will land in. -/
def freeSlot (b : Bool) (k : ℕ) (c : Dev nD) : sProp 𝕄 :=
  if k < 13 then anyS (F := F) (fwd b c) b (par k) else if k < 20 then anyB (F := F) (fwd b c) b (par k) fullShare else iprop(emp)
instance freeSlot_storable (b : Bool) (k : ℕ) (c : Dev nD) : BI.Storable (upEmb : UEmb _ 𝕄) (freeSlot (F := F) b k c) := by
  unfold freeSlot; (repeat' split) <;> infer_instance

/-- What the credit of hop `k` hands `c`. -/
def credPay (b : Bool) (k : ℕ) (c : Dev nD) : sProp 𝕄 :=
  iprop(freeSlot (F := F) b k c ∗ reached ER (cell (fwd b c) (.rcv b (par k))) ((k + 1) / 2))

/-! ### The schedule -/

/-- The hop of round `r` of `snd b s`, and of `rcv b t`. -/
def hopOfS (s : Fin 2) (r : ℕ) : ℕ := 2 * r + s.val
def hopOfT (t : Fin 2) (r : ℕ) : ℕ := 2 * r + (1 - t.val)

/-- Round `k / 2` of the slot hop `k` sends from is hop `k`, -/
theorem hopOfS_par (k : ℕ) : hopOfS (par k) (k / 2) = k := by unfold hopOfS par; dsimp only; omega
/-- and so it is of the slot it lands in. -/
theorem hopOfT_par (k : ℕ) : hopOfT (par (k + 1)) (k / 2) = k := by unfold hopOfT par; dsimp only; omega

/-- The units of a transfer: of partial sums, of codes, of a maximum. -/
abbrev NF : ℕ := (slotM cwM 0).view.dmaCredit
abbrev NB : ℕ := (bslotM cwB 0).view.dmaCredit
abbrev NA : ℕ := sbM.view.dmaCredit
/-- A transfer of sums counts some units, -/
theorem NF_pos : 0 < NF := View.dmaCredit_pos _ (by decide)
/-- so does one of codes, -/
theorem NB_pos : 0 < NB := View.dmaCredit_pos _ (by decide)
/-- so does one of a maximum, -/
theorem NA_pos : 0 < NA := View.dmaCredit_pos _ (by decide)
/-- The units of hop `k`. -/
def NH (k : ℕ) : ℕ := if k < 14 then NF else NB
/-- so does that of any hop. -/
theorem NH_pos (k : ℕ) : 0 < NH k := by unfold NH; split; exacts [NF_pos, NB_pos]

def dutK (c : Dev nD) : Kd → ℕ → Finset Bool
  | .snd _ s, r => if hopOfS s r ≤ 20 then {false} else ∅
  | .rcv _ t, r => if hopOfT t r ≤ 20 then {false} else ∅
  | .cred _, r => if r ≤ 20 then {false} else ∅
  | .bar, r => if r = 0 then Finset.univ else ∅
  | .sa o, r => if r = 0 ∧ o.val ≠ 0 then {false} else ∅
  | .ra j, r => if r = 0 ∧ j.val ≠ c.val then {false} else ∅
def amtK : Kd → ℕ → ℕ
  | .snd _ s, r => NH (hopOfS s r)
  | .rcv _ t, r => NH (hopOfT t r)
  | .cred _, _ => 1
  | .bar, _ => 1
  | .sa _, _ => NA
  | .ra _, _ => NA
def payK (c : Dev nD) : Kd → ℕ → Bool → sProp 𝕄
  | .snd b s, r, _ => leftPay (F := F) b (hopOfS s r) c
  | .rcv b t, r, _ => landPay V b (hopOfT t r) c
  | .cred b, r, _ => credPay (F := F) b r c
  | .bar, _, b => anyS (F := F) (fwd b c) b 1
  | .sa o, _, _ => owns (c : Thread nD τ) sbM (rsh (o.val - 1)).left (spread (V.A c))
  | .ra j, _, _ => ownR c j (spread (V.A j))

/-- Every duty pays something. -/
theorem amtK_pos (k : Kd) (r : ℕ) : 0 < amtK k r := by
  cases k <;> first | exact NH_pos _ | exact Nat.one_pos | exact NA_pos

instance payK_storable (c : Dev nD) (k : Kd) (r : ℕ) (d : Bool) : BI.Storable (upEmb : UEmb _ 𝕄) (payK V c k r d) := by
  cases k <;> (unfold payK; try unfold landPay; try unfold credPay) <;> infer_instance

/-- The schedule of all cells. -/
def rd : Rounds.Schedule (GSem nD τ sig) Bool 𝕄 where
  duties g r := if g.1.2 = .tc then (kindOf g.2).elim ∅ fun k => dutK g.1.1 k r else ∅
  unitless _ := False
  amount g r _ := (kindOf g.2).elim 1 fun k => amtK k r
  payload g r d := (kindOf g.2).elim iprop(emp) fun k => payK V g.1.1 k r d
  amount_pos g r _ _ := by
    cases h : kindOf g.2 with
    | none => exact Nat.one_pos
    | some k => exact amtK_pos k r

instance rd_storable (g : GSem nD τ sig) (r : ℕ) (d : Bool) : BI.Storable (upEmb : UEmb _ 𝕄) ((rd V).payload g r d) := by
  show BI.Storable upEmb ((kindOf g.2).elim iprop(emp) fun k => payK V g.1.1 k r d)
  cases h : kindOf g.2 with
  | none => show BI.Storable upEmb iprop(emp); infer_instance
  | some k => exact payK_storable V g.1.1 k r d

/-- The duties of a device's cell, by its kind, -/
theorem duties_cell (c : Dev nD) (k : Kd) (r : ℕ) : (rd V).duties (cell c k) r = dutK c k r := by
  dsimp only [rd]; rw [if_pos rfl, kindOf_semOf]; rfl
/-- what they pay, -/
theorem amount_cell (c : Dev nD) (k : Kd) (r : ℕ) (d : Bool) : (rd V).amount (cell c k) r d = amtK k r := by
  dsimp only [rd]; rw [kindOf_semOf]; rfl
/-- and what they hand over. -/
theorem payload_cell (c : Dev nD) (k : Kd) (r : ℕ) (d : Bool) : (rd V).payload (cell c k) r d = payK V c k r d := by
  dsimp only [rd]; rw [kindOf_semOf]; rfl

/-- No duty from a round on at which a cell's transfers are over. -/
def lastR : Kd → ℕ
  | .snd _ s => 11 - s.val | .rcv _ t => 10 + t.val | .cred _ => 21 | .bar => 1 | .sa _ => 1 | .ra _ => 1
/-- After its last round a cell has no duty. -/
theorem duties_later (c : Dev nD) (k : Kd) (R : ℕ) (hR : lastR k ≤ R) : ∀ r, R ≤ r → (rd V).duties (cell c k) r = ∅ := by
  intro r hr
  rw [duties_cell]
  cases k with
  | snd b s => exact if_neg (by unfold hopOfS; simp only [lastR] at hR; have := s.isLt; omega)
  | rcv b t => exact if_neg (by unfold hopOfT; simp only [lastR] at hR; have := t.isLt; omega)
  | cred b => exact if_neg (by simp only [lastR] at hR; omega)
  | bar => exact if_neg (by simp only [lastR] at hR; omega)
  | sa o => exact if_neg (by simp only [lastR] at hR; omega)
  | ra j => exact if_neg (by simp only [lastR] at hR; omega)
/-- The two cells no one uses have no duty at all. -/
theorem duties_sa0 (c : Dev nD) : ∀ r, 0 ≤ r → (rd V).duties (cell c (.sa 0)) r = ∅ := by
  intro r _; rw [duties_cell]; exact if_neg (by simp)
/-- No device sends itself its maximum. -/
theorem duties_ra_self (c : Dev nD) : ∀ r, 0 ≤ r → (rd V).duties (cell c (.ra c)) r = ∅ := by
  intro r _; rw [duties_cell]; exact if_neg (by simp)

/-- A round with the one duty `false` expects its amount and hands over its payload. -/
theorem expect_one {c : Dev nD} {k : Kd} {r : ℕ} (h : dutK c k r = {false}) : (rd V).expect (cell c k) r = amtK k r := by
  unfold Schedule.expect Schedule.amountOf; rw [duties_cell, h, Finset.sum_singleton, amount_cell]
/-- Where there is one duty, what a round hands over is what that one does. -/
theorem rest_one {c : Dev nD} {k : Kd} {r : ℕ} (h : dutK c k r = {false}) :
    bigSep ((rd V).duties (cell c k) r \ ∅) (fun d => (rd V).payload (cell c k) r d) = payK V c k r false := by
  rw [Finset.sdiff_empty, duties_cell, h, bigSep_singleton, payload_cell]
/-- The barrier waits for two signals. -/
theorem expect_bar (c : Dev nD) : (rd V).expect (cell c .bar) 0 = 2 := by
  unfold Schedule.expect Schedule.amountOf
  rw [duties_cell, show dutK c .bar 0 = Finset.univ from rfl, Finset.sum_congr rfl fun d _ => amount_cell V c .bar 0 d, Finset.sum_const,
    Finset.card_univ, Fintype.card_bool, smul_eq_mul]; rfl
/-- The barrier hands over the second slots of the two neighbours' buffers of sums. -/
theorem rest_bar (c : Dev nD) : bigSep ((rd V).duties (cell c .bar) 0 \ ∅) (fun d => (rd V).payload (cell c .bar) 0 d)
    = iprop(anyS (F := F) (fwd false c) false 1 ∗ anyS (F := F) (fwd true c) true 1) := by
  rw [Finset.sdiff_empty, duties_cell, show dutK c .bar 0 = Finset.univ from rfl,
    bigSep_univ_eq_bigSepL [false, true] (by decide) (by decide), bigSepL_cons_cons, bigSepL_singleton, payload_cell, payload_cell]
  rfl

/-- Each hop has one duty to leave, -/
theorem duty_snd {c : Dev nD} {b : Bool} {k : ℕ} (h : k ≤ 20) : dutK c (.snd b (par k)) (k / 2) = {false} := by
  dsimp only [dutK]; rw [hopOfS_par, if_pos h]
/-- one to land, -/
theorem duty_rcv {c : Dev nD} {b : Bool} {k : ℕ} (h : k ≤ 20) : dutK c (.rcv b (par (k + 1))) (k / 2) = {false} := by
  dsimp only [dutK]; rw [hopOfT_par, if_pos h]
/-- and one to give a credit. -/
theorem duty_cred {c : Dev nD} {b : Bool} {k : ℕ} (h : k ≤ 20) : dutK c (.cred b) k = {false} := if_pos h
/-- Leaving pays the hop's units, -/
theorem amt_snd (b : Bool) (k : ℕ) : amtK (.snd b (par k)) (k / 2) = NH k := by dsimp only [amtK]; rw [hopOfS_par]
/-- so does landing. -/
theorem amt_rcv (b : Bool) (k : ℕ) : amtK (.rcv b (par (k + 1))) (k / 2) = NH k := by dsimp only [amtK]; rw [hopOfT_par]
/-- Leaving hands back the slot, -/
theorem pay_snd (c : Dev nD) (b : Bool) (k : ℕ) (d : Bool) : payK V c (.snd b (par k)) (k / 2) d = leftPay (F := F) b k c := by
  dsimp only [payK]; rw [hopOfS_par]
/-- landing hands over what has landed. -/
theorem pay_rcv (c : Dev nD) (b : Bool) (k : ℕ) (d : Bool) : payK V c (.rcv b (par (k + 1))) (k / 2) d = landPay V b k c := by
  dsimp only [payK]; rw [hopOfT_par]

/-! ### The order of the waits -/

/-- Waits are numbered by hop; -/
def L (g : GSem nD τ sig) : Finset ℕ := if g.1.2 = .tc then Finset.range 21 else ∅
/-- a device waits only on cells below everything it still owes. -/
def lvK : Kd → ℕ → ℕ
  | .snd _ _, _ => 0
  | .rcv _ _, k => 3 * k + 4
  | .cred _, k => 3 * k + 5
  | .bar, _ => 1
  | .sa _, _ => 0
  | .ra _, _ => 45
def lv (g : GSem nD τ sig) (k : ℕ) : ℕ := (kindOf g.2).elim 0 fun q => lvK q k

/-- Only the devices' main threads wait. -/
theorem L_of_ne (g : GSem nD τ sig) (h : g.1.2 ≠ .tc) : L g = ∅ := if_neg h
/-- They may wait at every hop. -/
theorem mem_L (c : Dev nD) (sm : SemLoc sig) {k : ℕ} (h : k ≤ 20) : k ∈ L ((c : Thread nD τ), sm) := by
  unfold L; rw [if_pos rfl]; exact Finset.mem_range.mpr (by omega)
/-- The level of a device's cell, by its kind. -/
theorem lv_cell (c : Dev nD) (q : Kd) (k : ℕ) : lv (cell c q) k = lvK q k := by unfold lv; rw [kindOf_semOf]; rfl

/-- Everything owed lies above `n`. -/
def Above (n : ℕ) (O : CellTallies nD τ sig ℕ) : Prop := ∀ g u, 0 < O g u → u ∈ L g ∧ n < lv g u

/-- Nothing owed lies above any level. -/
theorem Above.zero (n : ℕ) : Above n 0 := fun g u h => absurd h (Nat.lt_irrefl 0)
/-- What lies above a level lies above any lower one. -/
theorem Above.mono {n n' : ℕ} {O : CellTallies nD τ sig ℕ} (h : Above n O) (hn : n' ≤ n) : Above n' O :=
  fun g u hg => ⟨(h g u hg).1, lt_of_le_of_lt hn (h g u hg).2⟩
/-- Two debts above a level are so together. -/
theorem Above.add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · exact h' g u (by omega)
  · exact h g u h0
/-- A debt to one cell lies above every level below that cell's. -/
theorem Above.tally {n : ℕ} (c : Dev nD) (q : Kd) (k m : ℕ) (hk : k ≤ 20) (hl : n < lvK q k) : Above n (tallyAt (cell c q) k m) := by
  intro g u hg
  obtain ⟨rfl, rfl⟩ := Pipeline.tallyAt_pos hg
  exact ⟨mem_L _ _ hk, by rw [lv_cell]; exact hl⟩
/-- Debts that each lie above a level do so together. -/
theorem Above.sum {n : ℕ} {ι : Type} (s : Finset ι) (D : ι → CellTallies nD τ sig ℕ) (h : ∀ i ∈ s, Above n (D i)) : Above n (∑ i ∈ s, D i) := by
  classical
  induction s using Finset.induction_on with
  | empty => rw [Finset.sum_empty]; exact Above.zero n
  | insert i s hi ih =>
    rw [Finset.sum_insert hi]
    exact (h i (Finset.mem_insert_self _ _)).add (ih fun j hj => h j (Finset.mem_insert_of_mem hj))

/-- A device may wait on a cell below everything it owes. -/
theorem mayWait (c : Dev nD) (sm : SemLoc sig) (k : ℕ) (hk : k ≤ 20) (O : CellTallies nD τ sig ℕ)
    (h : Above (lv ((c : Thread nD τ), sm) k) O) : (levAts L lv : sProp 𝕄) ⊢ MayWait (c : Thread nD τ) sm k O :=
  MayOwe.of_cut (L := L) (lev := lv) (lv ((c : Thread nD τ), sm) k)
    (fun p hp => by rw [Finset.mem_singleton.mp hp]; exact mem_L _ _ hk)
    (fun g u hg => (h g u hg).1)
    (fun p hp => by rw [Finset.mem_singleton.mp hp])
    (fun g u hg => (h g u hg).2)

/-! ### What a device owes -/

/-- What hop `k` of device `c` pays to others, in the reverse of the order it pays it: the credits to the left and the
    right neighbour, the landings on them. -/
def due₃ (c : Dev nD) (k : ℕ) : CellTallies nD τ sig ℕ := tallyAt (cell (bk true 1 c) (.cred true)) k 1
def due₂ (c : Dev nD) (k : ℕ) : CellTallies nD τ sig ℕ := due₃ c k + tallyAt (cell (bk false 1 c) (.cred false)) k 1
def due₁ (c : Dev nD) (k : ℕ) : CellTallies nD τ sig ℕ := due₂ c k + tallyAt (cell (fwd true c) (.rcv true (par (k + 1)))) k (NH k)
def due (c : Dev nD) (k : ℕ) : CellTallies nD τ sig ℕ := due₁ c k + tallyAt (cell (fwd false c) (.rcv false (par (k + 1)))) k (NH k)

/-- The hops from `k` on. -/
def from_ (k : ℕ) : Finset ℕ := (Finset.range 21).filter (k ≤ ·)
/-- The hops from `k` on are `k` and those after it. -/
theorem from_step {k : ℕ} (h : k ≤ 20) : from_ k = insert k (from_ (k + 1)) := by
  ext j; simp only [from_, Finset.mem_filter, Finset.mem_range, Finset.mem_insert]; omega
/-- Hop `k` is not among those after it. -/
theorem not_mem_from (k : ℕ) : k ∉ from_ (k + 1) := by simp [from_]
/-- No hop is left after the last, -/
theorem from_end : from_ 21 = ∅ := by
  ext j; simp only [from_, Finset.mem_filter, Finset.mem_range, Finset.notMem_empty, iff_false]; omega
/-- and there are 21 at first. -/
theorem from_zero : from_ 0 = Finset.range 21 := by
  ext j; simp [from_]

/-- What is still owed before hop `k`, beside `B`. -/
def Owe (B : CellTallies nD τ sig ℕ) (c : Dev nD) (k : ℕ) : CellTallies nD τ sig ℕ := B + ∑ j ∈ from_ k, due c j

/-- What is owed before hop `k` is what is owed after it and what it pays. -/
theorem Owe_step (B : CellTallies nD τ sig ℕ) (c : Dev nD) {k : ℕ} (h : k ≤ 20) : Owe B c k = Owe B c (k + 1) + due c k := by
  unfold Owe; rw [from_step h, Finset.sum_insert (not_mem_from k), add_assoc, add_comm (due c k)]
/-- After the last hop only the rest is owed. -/
theorem Owe_end (B : CellTallies nD τ sig ℕ) (c : Dev nD) : Owe B c 21 = B := by
  unfold Owe; rw [from_end, Finset.sum_empty, add_zero]

/-- The last credit of hop `k` lies above the levels below `3 * k + 5`, -/
theorem above_due₃ (c : Dev nD) {k n : ℕ} (hk : k ≤ 20) (h : n < 3 * k + 5) : Above n (due₃ c k) := Above.tally _ _ _ _ hk h
/-- so do both its credits. -/
theorem above_due₂ (c : Dev nD) {k n : ℕ} (hk : k ≤ 20) (h : n < 3 * k + 5) : Above n (due₂ c k) :=
  (above_due₃ c hk h).add (Above.tally _ _ _ _ hk h)
/-- All hop `k` pays lies above the levels below `3 * k + 4`, -/
theorem above_due (c : Dev nD) {k n : ℕ} (hk : k ≤ 20) (h : n < 3 * k + 4) : Above n (due c k) :=
  ((above_due₂ c hk (by omega)).add (Above.tally _ _ _ _ hk h)).add (Above.tally _ _ _ _ hk h)
/-- and so does all that is owed from it on, if the rest does. -/
theorem above_Owe (B : CellTallies nD τ sig ℕ) (c : Dev nD) {k n : ℕ} (hB : Above n B) (h : n < 3 * k + 4) : Above n (Owe B c k) :=
  hB.add (Above.sum _ _ fun j hj => by
    simp only [from_, Finset.mem_filter, Finset.mem_range] at hj
    exact above_due c (by omega) (by omega))

/-- What a device owes the others in the exchange of the maxima. -/
def oweA (c : Dev nD) : CellTallies nD τ sig ℕ := ∑ i : Fin 7, tallyAt (cell (sh (1 + i.val) c) (.ra c)) 0 NA
/-- The maxima owed lie above the levels below 45. -/
theorem above_oweA (c : Dev nD) {n : ℕ} (h : n < 45) : Above n (oweA c) := Above.sum _ _ fun i _ => Above.tally _ _ _ _ (by omega) h

end Cert.Dist

end
-- ==== Proof.Mem.lean ====
/-
  The steps of the body that stay on one device: loads and stores of the buffers, and the local copies between the
  result and the buffers of partial sums. Each is stated as a rule for running the step in front of any continuation.
-/
module

public import proofs.«01_k».proof.Proof.Sched
public import Idealize.ShloMosaic.Lib.ValueLayout

@[expose] public section

noncomputable section

namespace Cert.Dist

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` may run `p`, after which `Q`. -/
abbrev WP (c : Dev nD) {α : Type} (p : Pr F α) (Q : α → sProp 𝕄) : sProp 𝕄 :=
  wp frame (wpE (defs₀ (F := F)) 𝒱₀ (c : Thread nD τ) none) Set.univ p Q

/-- What device `c` still owes, whatever it has waited on. -/
def ows (c : Dev nD) (O : CellTallies nD τ sig ℕ) : sProp 𝕄 := iprop(∃ W, owes (c : Thread nD τ) O W)

/-! ### Blocks and slots -/

/-- A block made a slot and back is the block; -/
theorem down_up {e : EltTy} (v : Vec F S512x2048 e) : down (F := F) (up v) = v := shapeCast_shapeCast v _ _
/-- a slot made a block and back is the slot. -/
theorem up_down {e : EltTy} (v : Vec F S1x512x2048 e) : up (F := F) (down v) = v := shapeCast_shapeCast v _ _

/-- A slot of sums takes up the elements of its rectangle, -/
theorem slot_set (M : Memref sig .tc .vmem S2x512x2048 .f32) (s : Fin 2) : (slotM M s).view.set = (M.access (slotR s)).set :=
  View.set_reshape _ _
/-- and reads as that rectangle does, made a block. -/
theorem slot_read (M : Memref sig .tc .vmem S2x512x2048 .f32) (s : Fin 2) (f : M.view.ty.Contents (Elt F)) :
    (slotM M s).view.read (Elt F) f = down (F := F) ((M.access (slotR s)).read (Elt F) f) := rfl

/-- Two places of a matrix with the same row and column are the same. -/
theorem idx_ext {m n : Nat} (i j : (⟨2, ![m, n]⟩ : Shape).Idx) (h0 : (i 0).val = (j 0).val) (h1 : (i 1).val = (j 1).val) : i = j := by
  funext a
  match a with
  | ⟨0, _⟩ => exact Fin.ext h0
  | ⟨1, _⟩ => exact Fin.ext h1

/-- Where half `j` of a slot of codes lies in the slot. -/
def hIx (j : Fin 2) (i : S512x2048.Idx) : S512x4096.Idx :=
  ix2 (⟨(i 0).val, (i 0).isLt⟩ : Fin 512) (⟨2048 * j.val + (i 1).val, by
    have h1 : (i 1).val < 2048 := (i 1).isLt
    have := j.isLt; omega⟩ : Fin 4096)
/-- The place of a half at row `r`, column `k`. -/
def lIx (r : Fin 512) (k : Fin 2048) : S512x2048.Idx := ix2 r k
/-- Half `j` of a slot of codes. -/
def halfOf {e : EltTy} (X : Vec F S512x4096 e) (j : Fin 2) : Vec F S512x2048 e := fun i => X (hIx j i)
/-- Two halves put together. -/
def join {e : EltTy} (u v : Vec F S512x2048 e) : Vec F S512x4096 e :=
  fun i => if h : (i 1).val < 2048 then u (lIx ⟨(i 0).val, (i 0).isLt⟩ ⟨(i 1).val, h⟩)
    else v (lIx ⟨(i 0).val, (i 0).isLt⟩ ⟨(i 1).val - 2048, by
      have h1 : (i 1).val < 4096 := (i 1).isLt
      omega⟩)

/-- The column of an element of half `j`. -/
theorem hIx_col (j : Fin 2) (i : S512x2048.Idx) : (hIx j i 1).val = 2048 * j.val + (i 1).val := rfl
/-- The first half of two halves put together is the first, -/
theorem halfOf_join_zero {e : EltTy} (u v : Vec F S512x2048 e) : halfOf (join u v) 0 = u := by
  funext i
  have h1 : (i 1).val < 2048 := (i 1).isLt
  have hc := hIx_col 0 i
  have hc' : (hIx 0 i 1).val = (i 1).val := by rw [hc]; show 2048 * 0 + _ = _; omega
  show join u v (hIx 0 i) = u i
  unfold join
  rw [dif_pos (by omega)]
  exact congrArg u (idx_ext _ _ rfl hc')
/-- and the second half is the second. -/
theorem halfOf_join_one {e : EltTy} (u v : Vec F S512x2048 e) : halfOf (join u v) 1 = v := by
  funext i
  have h1 : (i 1).val < 2048 := (i 1).isLt
  have hc := hIx_col 1 i
  have hc' : (hIx 1 i 1).val = 2048 + (i 1).val := by rw [hc]; show 2048 * 1 + _ = _; omega
  show join u v (hIx 1 i) = v i
  unfold join
  rw [dif_neg (by omega)]
  exact congrArg v (idx_ext _ _ rfl (show (hIx 1 i 1).val - 2048 = (i 1).val by omega))
/-- A slot of codes is known by its halves. -/
theorem half_ext {e : EltTy} {X Y : Vec F S512x4096 e} (h0 : halfOf X 0 = halfOf Y 0) (h1 : halfOf X 1 = halfOf Y 1) : X = Y := by
  funext i
  have hi : (i 1).val < 4096 := (i 1).isLt
  by_cases h : (i 1).val < 2048
  · have := congrFun h0 (lIx ⟨(i 0).val, (i 0).isLt⟩ ⟨(i 1).val, h⟩)
    have e : hIx 0 (lIx ⟨(i 0).val, (i 0).isLt⟩ ⟨(i 1).val, h⟩) = i :=
      idx_ext _ _ rfl (show 2048 * 0 + (i 1).val = (i 1).val by omega)
    unfold halfOf at this
    rwa [e] at this
  · have := congrFun h1 (lIx ⟨(i 0).val, (i 0).isLt⟩ ⟨(i 1).val - 2048, by omega⟩)
    have e : hIx 1 (lIx ⟨(i 0).val, (i 0).isLt⟩ ⟨(i 1).val - 2048, by omega⟩) = i :=
      idx_ext _ _ rfl (show 2048 * 1 + ((i 1).val - 2048) = (i 1).val by omega)
    unfold halfOf at this
    rwa [e] at this

/-- A slot of codes takes up the elements of its rectangle. -/
theorem bslot_set (M : Memref sig .tc .vmem S2x512x4096 .i8) (s : Fin 2) : (bslotM M s).view.set = (M.access (bslotR s)).set :=
  View.set_reshape _ _
/-- A block's element lies at the same row and column of the one slot it is made. -/
theorem reshape_ix {m n : Nat} (i : (⟨2, ![m, n]⟩ : Shape).Idx) (h : (⟨2, ![m, n]⟩ : Shape).numel = (⟨3, ![1, m, n]⟩ : Shape).numel) :
    Shape.reshapeEquiv h i = ix3 (⟨0, Nat.one_pos⟩ : Fin 1) (⟨(i 0).val, (i 0).isLt⟩ : Fin m) (⟨(i 1).val, (i 1).isLt⟩ : Fin n) :=
  (congrArg _ (eq_ix2 i)).trans (reshapeEquiv_ix2_1ab h _ _)
/-- Reading half a slot is half of reading the slot. -/
theorem half_read (M : Memref sig .tc .vmem S2x512x4096 .i8) (s j : Fin 2) (f : M.view.ty.Contents (Elt F)) :
    down (F := F) (e := .i8) ((M.access (halfR s j)).read (Elt F) f) = halfOf ((bslotM M s).view.read (Elt F) f) j := by
  funext i
  show M.view.read (Elt F) f ((halfR s j).emb (Shape.reshapeEquiv _ i)) = M.view.read (Elt F) f ((bslotR s).emb (Shape.reshapeEquiv _ _))
  refine congrArg _ ?_
  refine (congrArg (halfR s j).emb (reshape_ix i _)).trans (Eq.trans ?_ (congrArg (bslotR s).emb (reshape_ix (hIx j i) _)).symm)
  funext a
  apply Fin.ext
  match a with
  | ⟨0, _⟩ => rfl
  | ⟨1, _⟩ => rfl
  | ⟨2, _⟩ => show 2048 * j.val + 1 * (i 1).val = 0 + 1 * (2048 * j.val + (i 1).val); omega
/-- Half a slot of codes lies in the slot, -/
theorem half_sub (s j : Fin 2) : (halfR s j).set ⊆ (bslotR s).set := by
  intro i hi
  rw [Rect.mem_set_unit] at hi ⊢
  intro a
  have := hi a
  match a with
  | ⟨0, _⟩ => exact this
  | ⟨1, _⟩ => exact this
  | ⟨2, _⟩ =>
    have hj := j.isLt
    have h1 : 2048 * j.val ≤ (i 2).val := this.1
    have h2 : (i 2).val < 2048 * j.val + 2048 := this.2
    exact ⟨Nat.zero_le _, show (i 2).val < 0 + 4096 by omega⟩
/-- also as parts of the buffer. -/
theorem half_set (M : Memref sig .tc .vmem S2x512x4096 .i8) (s j : Fin 2) : (M.access (halfR s j)).set ⊆ (bslotM M s).view.set := by
  rw [bslot_set]
  show (M.view.slice (halfR s j)).set ⊆ (M.view.slice (bslotR s)).set
  rw [View.set_slice, View.set_slice]
  exact Finset.map_subset_map.mpr (half_sub s j)
/-- The halves of a slot do not meet. -/
theorem half_disjoint (s : Fin 2) {j j' : Fin 2} (h : j ≠ j') : Disjoint (halfR s j).set (halfR s j').set := by
  rw [Finset.disjoint_left]
  intro i hi hi'
  rw [Rect.mem_set_unit] at hi hi'
  have h1 : 2048 * j.val ≤ (i 2).val := (hi 2).1
  have h2 : (i 2).val < 2048 * j.val + 2048 := (hi 2).2
  have h3 : 2048 * j'.val ≤ (i 2).val := (hi' 2).1
  have h4 : (i 2).val < 2048 * j'.val + 2048 := (hi' 2).2
  exact h (Fin.ext (by omega))

/-! ### Loads and stores -/

section Rules

variable (c : Dev nD) {α : Type}

/-- Loading a slot of partial sums gives its block. -/
theorem wp_ldS (M : Memref sig .tc .vmem S2x512x2048 .f32) (s : Fin 2) (q : PosShare TreeShare) (X : Vec F S512x2048 .f32)
    {Q : α → sProp 𝕄} {k : Vec F S1x512x2048 .f32 → Pr F α} :
    (owns (c : Thread nD τ) (slotM M s) q X : sProp 𝕄)
      ⊢ iprop((owns (c : Thread nD τ) (slotM M s) q X -∗ WP c (k (up X)) Q) -∗ WP c (ldS M s >>= k) Q) := by
  unfold owns
  iintro ⟨%f, %hf, H⟩ Hk
  simp only [ldS, Prog.lift, Prog.bind_op, Prog.bind_ret]
  iapply (wp_load_rect 𝒱₀ (c : Thread nD τ) none Set.univ (m := M) (r := slotR s) (by rw [slot_set])) $$ H
  iintro H
  have e : up X = (M.access (slotR s)).read (Elt F) f := by rw [← hf, slot_read, up_down]
  rw [← e]
  iapply Hk
  iexists f; isplitr; · ipureintro; exact hf
  iexact H

/-- Storing a slot of partial sums. -/
theorem wp_stS (M : Memref sig .tc .vmem S2x512x2048 .f32) (s : Fin 2) (X v : Vec F S512x2048 .f32)
    {Q : α → sProp 𝕄} {k : PUnit → Pr F α} :
    (owns (c : Thread nD τ) (slotM M s) fullShare X : sProp 𝕄)
      ⊢ iprop((owns (c : Thread nD τ) (slotM M s) fullShare v -∗ WP c (k ⟨⟩) Q) -∗ WP c (stS M s v >>= k) Q) := by
  unfold owns
  iintro ⟨%f, %hf, H⟩ Hk
  simp only [stS, Prog.lift, Prog.bind_op, Prog.bind_ret]
  iapply (wp_store 𝒱₀ (c : Thread nD τ) none Set.univ (m := M) (r := slotR s) (Mk := Finset.univ)
    (by rw [slot_set]; exact Finset.Subset.refl _)) $$ H
  iintro H
  iapply Hk
  iexists _; isplitr
  swap; · iexact H
  ipureintro
  rw [slot_read, View.read_write_univ, down_up]

/-- Loading half a slot of codes gives that half of its block. -/
theorem wp_ldB (M : Memref sig .tc .vmem S2x512x4096 .i8) (s j : Fin 2) (q : PosShare TreeShare) (X : Vec F S512x4096 .i8)
    {Q : α → sProp 𝕄} {k : Vec F S1x512x2048 .i8 → Pr F α} :
    (owns (c : Thread nD τ) (bslotM M s) q X : sProp 𝕄)
      ⊢ iprop((owns (c : Thread nD τ) (bslotM M s) q X -∗ WP c (k (up (halfOf X j))) Q) -∗ WP c (ldB M s j >>= k) Q) := by
  unfold owns
  iintro ⟨%f, %hf, H⟩ Hk
  simp only [ldB, Prog.lift, Prog.bind_op, Prog.bind_ret]
  iapply (wp_load_rect 𝒱₀ (c : Thread nD τ) none Set.univ (m := M) (r := halfR s j) (half_set M s j)) $$ H
  iintro H
  have e : up (halfOf X j) = (M.access (halfR s j)).read (Elt F) f := by rw [← hf, ← half_read, up_down]
  rw [← e]
  iapply Hk
  iexists f; isplitr; · ipureintro; exact hf
  iexact H

/-- Storing half a slot of codes changes that half. -/
theorem wp_stB (M : Memref sig .tc .vmem S2x512x4096 .i8) (j : Fin 2) (X : Vec F S512x4096 .i8) (v : Vec F S512x2048 .i8)
    (hst : (M.access (halfR 0 j) : View sig .tc _ _ _).Stores Finset.univ) {Q : α → sProp 𝕄} {k : PUnit → Pr F α} :
    (owns (c : Thread nD τ) (bslotM M 0) fullShare X : sProp 𝕄)
      ⊢ iprop(((∃ Y, ⌜halfOf Y j = v ∧ ∀ j', j' ≠ j → halfOf Y j' = halfOf X j'⌝ ∗ owns (c : Thread nD τ) (bslotM M 0) fullShare Y) -∗ WP c (k ⟨⟩) Q)
          -∗ WP c ((Prog.lift (.store M (halfR 0 j) (up (F := F) (e := .i8) v) Finset.univ hst (.inl rfl)) : Pr F PUnit) >>= k) Q) := by
  unfold owns
  iintro ⟨%f, %hf, H⟩ Hk
  simp only [Prog.lift, Prog.bind_op, Prog.bind_ret]
  iapply (wp_store 𝒱₀ (c : Thread nD τ) none Set.univ (m := M) (r := halfR 0 j) (Mk := Finset.univ) (half_set M 0 j)) $$ H
  iintro H
  iapply Hk
  iexists (bslotM M 0).view.read (Elt F) _
  isplitr
  swap
  · iexists _; isplitr
    swap; · iexact H
    ipureintro; rfl
  ipureintro
  constructor
  · rw [← half_read, View.read_write_univ, down_up]
  · intro j' hj'
    rw [← half_read, ← hf, ← half_read]
    refine congrArg (down (F := F) (e := .i8)) (View.read_slice_write_slice_of_disjoint (v := M.view) (halfR 0 j') (halfR 0 j) f (up v) Finset.univ ?_)
    rw [View.setOn_univ, View.set_slice, View.set_slice, Finset.disjoint_map]
    exact half_disjoint 0 hj'

/-- Block `j` of the rows of `x`, and quarter `p` of the columns of `w`. -/
theorem xrow_inb (j : Fin 8) : ∀ a, (![512 * j.val, 0] : Fin 2 → Nat) a + S512x512.size a ≤ S4096x512.size a := by revert j; decide
def xAt (x : Vec F S4096x512 .f32) (j : Fin 8) : Vec F S512x512 .f32 :=
  xM.view.readAt (Elt F) (Rect.unit (s := S4096x512) ![512 * j.val, 0] S512x512.size (xrow_inb j)).toLoadRect x
def wAt (w : Vec F S512x8192 .f32) (p : Fin 4) : Vec F S512x2048 .f32 :=
  wM.view.readAt (Elt F) (Rect.unit (s := S512x8192) ![0, 2048 * p.val] S512x2048.size (cols_inb p)).toLoadRect w

/-- The two inputs of device `c`, held whole. -/
abbrev xPt (x : Vec F S4096x512 .f32) : sProp 𝕄 := ((c : Thread nD τ).loc cc0_stg0_0) ↦{fullShare} x
abbrev wPt (w : Vec F S512x8192 .f32) : sProp 𝕄 := ((c : Thread nD τ).loc cc0_stg1_0) ↦{fullShare} w

/-- Loading the rows of device `j` from the first input. -/
theorem wp_ldX (x : Vec F S4096x512 .f32) (j : Fin 8) (o : Fin 2 → Nat) (h : ∀ a, o a + S512x512.size a ≤ S4096x512.size a)
    (ho : o = ![512 * j.val, 0]) {Q : α → sProp 𝕄} {k : Vec F S512x512 .f32 → Pr F α} :
    (xPt c x : sProp 𝕄) ⊢ iprop((xPt c x -∗ WP c (k (xAt x j)) Q) -∗ WP c (ldX o h >>= k) Q) := by
  subst ho
  iintro H Hk
  simp only [ldX, Prog.lift, Prog.bind_op, Prog.bind_ret]
  iapply (wp_load 𝒱₀ (c : Thread nD τ) none Set.univ (m := xM) (Finset.subset_univ _)) $$ H
  iintro H
  iapply Hk; iexact H

/-- Loading quarter `p` of the columns of the second input. -/
theorem wp_ldW (w : Vec F S512x8192 .f32) (p : Fin 4) {Q : α → sProp 𝕄} {k : Vec F S512x2048 .f32 → Pr F α} :
    (wPt c w : sProp 𝕄) ⊢ iprop((wPt c w -∗ WP c (k (wAt w p)) Q) -∗ WP c (ldW ![0, 2048 * p.val] (cols_inb p) >>= k) Q) := by
  iintro H Hk
  simp only [ldW, Prog.lift, Prog.bind_op, Prog.bind_ret]
  iapply (wp_load 𝒱₀ (c : Thread nD τ) none Set.univ (m := wM) (Finset.subset_univ _)) $$ H
  iintro H
  iapply Hk; iexact H

/-- The two inputs together. -/
def ins (x : Vec F S4096x512 .f32) (w : Vec F S512x8192 .f32) : sProp 𝕄 := iprop(xPt c x ∗ wPt c w)

/-- Block `j` of the rows of `x` times quarter `p` of the columns of `w`. -/
def prodOf (x : Vec F S4096x512 .f32) (w : Vec F S512x8192 .f32) (j : Fin 8) (p : Fin 4) : Vec F S512x2048 .f32 := gemm (xAt x j) (wAt w p)

/-- The two products of a hop. -/
theorem wp_prodsAt (x : Vec F S4096x512 .f32) (w : Vec F S512x8192 .f32) (j₁ j₂ : Fin 8) (o₁ o₂ : Fin 2 → Nat)
    (h₁ : ∀ a, o₁ a + S512x512.size a ≤ S4096x512.size a) (h₂ : ∀ a, o₂ a + S512x512.size a ≤ S4096x512.size a) (p₁ p₂ : Fin 4)
    (e₁ : o₁ = ![512 * j₁.val, 0]) (e₂ : o₂ = ![512 * j₂.val, 0])
    {Q : α → sProp 𝕄} {k : FVec F S512x2048 .f32 × FVec F S512x2048 .f32 → Pr F α} :
    (ins c x w : sProp 𝕄) ⊢ iprop((ins c x w -∗ WP c (k (prodOf x w j₁ p₁, prodOf x w j₂ p₂)) Q) -∗ WP c (prodsAt o₁ o₂ h₁ h₂ p₁ p₂ >>= k) Q) := by
  unfold ins
  iintro ⟨Hx, Hw⟩ Hk
  simp only [prodsAt, prods, bind_assoc]
  iapply (wp_ldX c x j₁ o₁ h₁ e₁) $$ Hx; iintro Hx
  iapply (wp_ldW c w p₁) $$ Hw; iintro Hw
  iapply (wp_ldX c x j₂ o₂ h₂ e₂) $$ Hx; iintro Hx
  iapply (wp_ldW c w p₂) $$ Hw; iintro Hw
  rw [pure_bind]
  iapply Hk
  isplitl [Hx] <;> iassumption

/-- A product put in a slot. -/
theorem wp_firstS (x : Vec F S4096x512 .f32) (w : Vec F S512x8192 .f32) (b : Bool) (s : Fin 2) (j : Fin 8) (o : Fin 2 → Nat)
    (h : ∀ a, o a + S512x512.size a ≤ S4096x512.size a) (p : Fin 4) (e : o = ![512 * j.val, 0]) {Q : α → sProp 𝕄} {k : PUnit → Pr F α} :
    iprop(ins c x w ∗ anyS c b s)
      ⊢ iprop(((ins c x w ∗ ownS c b s (prodOf x w j p)) -∗ WP c (k ⟨⟩) Q)
          -∗ WP c (firstS (bufS b) s o h ![0, 2048 * p.val] (cols_inb p) >>= k) Q) := by
  unfold ins
  iintro ⟨⟨Hx, Hw⟩, ⟨%X, HS⟩⟩ Hk
  simp only [firstS, bind_assoc]
  iapply (wp_ldX c x j o h e) $$ Hx; iintro Hx
  iapply (wp_ldW c w p) $$ Hw; iintro Hw
  iapply (wp_ldS c (bufS b) s fullShare X) $$ HS; iintro HS
  iapply (wp_stS c (bufS b) s X _) $$ HS; iintro HS
  iapply Hk
  isplitl [Hx Hw]
  · isplitl [Hx] <;> iassumption
  iexact HS

/-- A product added to what landed in a slot. -/
theorem wp_accS (b : Bool) (s : Fin 2) (X g : Vec F S512x2048 .f32) {Q : α → sProp 𝕄} {k : PUnit → Pr F α} :
    (ownS c b s X : sProp 𝕄)
      ⊢ iprop((ownS c b s (addf (φ := .f32) X g) -∗ WP c (k ⟨⟩) Q) -∗ WP c (accS (bufS b) s g >>= k) Q) := by
  iintro HS Hk
  simp only [accS, bind_assoc]
  iapply (wp_ldS c (bufS b) s fullShare X) $$ HS; iintro HS
  iapply (wp_ldS c (bufS b) s fullShare X) $$ HS; iintro HS
  iapply (wp_stS c (bufS b) s X _) $$ HS; iintro HS
  iapply Hk
  unfold accum
  rw [down_up]
  iexact HS

/-- The positive part of a sum. -/
def relu (v : FVec F S512x2048 .f32) : FVec F S512x2048 .f32 := maximumf v (broadcast S512x2048 (Scalar.ofBits .f32 0x00000000#32))

/-- The last products added: the two final blocks and the running maximum. -/
theorem wp_lastS (s : Fin 2) (X Y g₁ g₂ : Vec F S512x2048 .f32) (a : F .f32) {Q : α → sProp 𝕄} {k : F .f32 → Pr F α} :
    iprop(ownS c false s X ∗ ownS c true s Y)
      ⊢ iprop(((ownS c false s (relu (addf X g₁)) ∗ ownS c true s (relu (addf Y g₂)))
            -∗ WP c (k (maxStep a (relu (addf X g₁)) (relu (addf Y g₂)))) Q)
          -∗ WP c (lastS s g₁ g₂ a >>= k) Q) := by
  iintro ⟨HX, HY⟩ Hk
  simp only [lastS, bind_assoc]
  iapply (wp_ldS c cwM s fullShare X) $$ HX; iintro HX
  iapply (wp_ldS c ccwM s fullShare Y) $$ HY; iintro HY
  iapply (wp_ldS c cwM s fullShare X) $$ HX; iintro HX
  iapply (wp_stS c cwM s X _) $$ HX; iintro HX
  iapply (wp_ldS c ccwM s fullShare Y) $$ HY; iintro HY
  iapply (wp_stS c ccwM s Y _) $$ HY; iintro HY
  rw [pure_bind]
  have e (v g : Vec F S512x2048 .f32) : fin (up v) g = relu (addf v g) := by unfold fin accum relu; rw [down_up]
  rw [e, e]
  iapply Hk
  isplitl [HX] <;> iassumption

/-! ### Local copies -/

/-- A local copy started: it will hand back both ends, the destination holding what the source holds. -/
theorem wp_copy {sp sp' : Space} {s : Shape} {e : EltTy} (src : Memref sig .tc sp s e) (dst : Memref sig .tc sp' s e) (q : DmaSem sig)
    {hsrc : src.view.WordExact} {hdst : dst.view.WordExact} {hsem : DmaTarget.Typed (nD := nD) (τ := τ) (p := .tc) sp (.dma q) (.here dst)} (hpos : 0 < s.numel)
    (qs : PosShare TreeShare) (X : s.Idx → Elt F e) {Q : α → sProp 𝕄} {k : PUnit → Pr F α} :
    iprop(owns (c : Thread nD τ) src qs X ∗ (∃ Y, owns (c : Thread nD τ) dst fullShare Y) ∗ semVal ((c : Thread nD τ), SemLoc.dma q) 0)
      ⊢ iprop((Transfers.Flight EC (c : Thread nD τ) (.dma q) 0 dst.view.dmaCredit
              iprop(owns (c : Thread nD τ) dst fullShare X ∗ owns (c : Thread nD τ) src qs X) -∗ WP c (k ⟨⟩) Q)
          -∗ WP c ((Prog.lift (.enqueueDma src (.here dst) (.dma q) hsrc hdst hsem) : Pr F PUnit) >>= k) Q) := by
  unfold owns
  iintro ⟨⟨%f, %hf, Hs⟩, ⟨%Y, %g, %hg, Hd⟩, Hv⟩ Hk
  simp only [Prog.lift, Prog.bind_op, Prog.bind_ret]
  iapply (Transfers.wp_dmaLocal EC 𝒱₀ (c : Thread nD τ) none (src := src) (dst := dst) 0 dst.view.dmaCredit (View.amount_dma _ _)
    (View.dmaCredit_pos _ hpos) (Finset.Subset.refl _)) $$ [Hs Hd Hv]
  · isplitl [Hs]; · iexact Hs
    isplitl [Hd] <;> iassumption
  iintro HF
  iapply Hk
  iapply (Transfers.Flight_mono EC ?_) $$ HF
  iintro ⟨Hd, Hs⟩
  isplitl [Hd]
  · iexists _; isplitr
    swap; · iexact Hd
    ipureintro; rw [View.read_write_univ, ← hf]
  · iexists f; isplitr; · ipureintro; exact hf
    iexact Hs

/-- A local copy waited for. -/
theorem wp_copyWait {sp sp' : Space} {s : Shape} {e : EltTy} (src : Memref sig .tc sp s e) (dst : Memref sig .tc sp' s e) (q : DmaSem sig)
    {hsrc : src.view.WordExact} {hdst : dst.view.WordExact} (D : sProp 𝕄) (O : CellTallies nD τ sig ℕ) (hO : Above 0 O)
    (hq : lv ((c : Thread nD τ), SemLoc.dma q) 0 = 0) {Q : α → sProp 𝕄} {k : PUnit → Pr F α} :
    iprop(levAts L lv ∗ Transfers.Flight EC (c : Thread nD τ) (.dma q) 0 dst.view.dmaCredit D ∗ ows c O)
      ⊢ iprop(((D ∗ semVal ((c : Thread nD τ), SemLoc.dma q) 0 ∗ ows c O) -∗ WP c (k ⟨⟩) Q)
          -∗ WP c ((Prog.lift (.waitDma2 q src dst hsrc hdst) : Pr F PUnit) >>= k) Q) := by
  unfold ows
  iintro ⟨#Hlev, HF, ⟨%W, HO⟩⟩ Hk
  simp only [Prog.lift, Prog.bind_op, Prog.bind_ret]
  iapply (Transfers.wp_waitLocalO EC 𝒱₀ (c : Thread nD τ) none 0 rfl) $$ [HF HO]
  · isplitl [HF]; · iexact HF
    isplitl [HO]; · iexact HO
    iapply (mayWait c (.dma q) 0 (by omega) O (by rw [hq]; exact hO)); iexact Hlev
  iintro ⟨HD, Hv, HO⟩
  iapply Hk
  isplitl [HD]; · iexact HD
  isplitl [Hv]; · iexact Hv
  iexists _; iexact HO

end Rules

end Cert.Dist

end
-- ==== Proof.Moves.lean ====
/-
  The steps of the body that reach other devices: a transfer sent, a wait for one, a signal given. Each is stated once,
  over the cells of the schedule.
-/
module

public import proofs.«01_k».proof.Proof.Mem

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Sent F)

/-! ### What every device knows -/

/-- The invariants of all cells under the names `K`, that each is at round 0 or later, and the levels. -/
def Recs (K : Dev nD × Kd → ℕ) : sProp 𝕄 :=
  iprop(bigSep Finset.univ (fun ck : Dev nD × Kd => cellInv ER (rd V) (K ck) (cell ck.1 ck.2))
    ∗ bigSep Finset.univ (fun ck : Dev nD × Kd => reached ER (cell ck.1 ck.2) 0) ∗ levAts L lv)

instance Recs_persistent (K : Dev nD × Kd → ℕ) : BI.Persistent (Recs V K) := by unfold Recs; infer_instance

variable (K : Dev nD × Kd → ℕ)

/-- One of many, all held. -/
theorem at_mem {ι : Type} [Fintype ι] [DecidableEq ι] (Φ : ι → sProp 𝕄) (i : ι) : (bigSep Finset.univ Φ : sProp 𝕄) ⊢ Φ i := bigSep_elim (Finset.mem_univ i)

/-- All know each cell's invariant, -/
theorem inv_at (c : Dev nD) (q : Kd) : Recs V K ⊢ cellInv ER (rd V) (K (c, q)) (cell c q) := by
  unfold Recs
  iintro ⟨H, -, -⟩
  iapply (at_mem (fun ck : Dev nD × Kd => cellInv ER (rd V) (K ck) (cell ck.1 ck.2)) (c, q)); iexact H
/-- that each cell is at round 0 or later, -/
theorem reached_at (c : Dev nD) (q : Kd) : Recs V K ⊢ reached ER (cell c q) 0 := by
  unfold Recs
  iintro ⟨-, H, -⟩
  iapply (at_mem (F := F) (fun ck : Dev nD × Kd => reached ER (cell ck.1 ck.2) 0) (c, q)); iexact H
/-- and the levels. -/
theorem lev_at : Recs V K ⊢ levAts L lv := by
  unfold Recs; iintro ⟨-, -, H⟩; iexact H

/-! ### The steps -/

section Rules

variable (c : Dev nD) {α : Type}

/-- A wait for a transfer, on a cell whose open round has the one duty: it hands over the round's payload. -/
theorem wp_waitD (q : Kd) (r ι : ℕ) (sa : DmaSem sig) (hs : semOf q = .dma sa) (h : dutK c q r = {false})
    {sp sp' : Space} {s : Shape} {e : EltTy} (src : Memref sig .tc sp s e) (dst : Memref sig .tc sp' s e)
    {hsrc : src.view.WordExact} {hdst : dst.view.WordExact} (hN : dst.view.dmaCredit = amtK q r) (hι : ι ≤ 20)
    (O : CellTallies nD τ sig ℕ) (hO : Above (lvK q ι) O) {Q : α → sProp 𝕄} {k : PUnit → Pr F α} :
    iprop(Recs V K ∗ cred (tallyAt (cell c q) ι (amtK q r)) ∗ ows c O ∗ atPos ER (cell c q) r ∅ 0)
      ⊢ iprop(((ows c O ∗ atPos ER (cell c q) (r + 1) ∅ 0 ∗ reached ER (cell c q) (r + 1) ∗ payK V c q r false) -∗ WP c (k ⟨⟩) Q)
          -∗ WP c ((Prog.lift (.waitDma2 sa src dst hsrc hdst) : Pr F PUnit) >>= k) Q) := by
  unfold ows
  have hinv := inv_at V K c q
  have hexp := expect_one V h
  have hrest := rest_one V h
  have hmay := mayWait (F := F) c (semOf q) ι hι O (by rw [← lv_cell c q ι] at hO; exact hO)
  rw [← hN] at *
  simp only [cell, hs] at *
  iintro ⟨#HR, Hc, ⟨%W, HO⟩, Hat⟩ Hk
  simp only [Prog.lift, Prog.bind_op, Prog.bind_ret]
  iapply (Rounds.wp_wait_rest_token 𝒱₀ ER (rd V) (c : Thread nD τ) none (κ := K (c, q))
      (wpE_waitDma2_eq 𝒱₀ (c : Thread nD τ) none Set.univ) (Set.mem_univ _) ι (O := O) (W := W) (R := r) (m := 0) (T := ∅)
      (by rw [Nat.zero_add, hexp])) $$ [Hc HO Hat]
  · isplitr; · iapply hinv; iexact HR
    isplitl [Hc]; · iexact Hc
    isplitl [HO]; · iexact HO
    isplitr; · iapply hmay; iapply (lev_at V K); iexact HR
    iexact Hat
  iintro ⟨HO, Hat, Hr, Hpay⟩
  iapply Hk
  isplitl [HO]; · iexists _; iexact HO
  isplitl [Hat]; · iexact Hat
  isplitl [Hr]; · iexact Hr
  iapply (Entails.of_eq hrest); iexact Hpay

/-- A wait for the credit of hop `j`. -/
theorem wp_waitCred (b : Bool) (j : ℕ) (hj : j ≤ 20) (sm : Sem sig) (hs : semOf (.cred b) = .reg sm)
    (O : CellTallies nD τ sig ℕ) (hO : Above (3 * j + 5) O) {Q : α → sProp 𝕄} {k : PUnit → Pr F α} :
    iprop(Recs V K ∗ cred (tallyAt (cell c (.cred b)) j 1) ∗ ows c O ∗ atPos ER (cell c (.cred b)) j ∅ 0)
      ⊢ iprop(((ows c O ∗ atPos ER (cell c (.cred b)) (j + 1) ∅ 0 ∗ reached ER (cell c (.cred b)) (j + 1) ∗ credPay (F := F) b j c) -∗ WP c (k ⟨⟩) Q)
          -∗ WP c ((semWaitWord sm 1#32 : Pr F PUnit) >>= k) Q) := by
  unfold ows
  have hinv := inv_at V K c (.cred b)
  have hexp : (rd V).expect (cell c (.cred b)) j = 1 := expect_one V (duty_cred hj)
  have hrest : _ = credPay (F := F) b j c := rest_one V (duty_cred (c := c) (b := b) hj)
  have hmay := mayWait (F := F) c (semOf (.cred b)) j hj O (by rw [lv_cell c (.cred b) j]; exact hO)
  simp only [cell, hs] at *
  iintro ⟨#HR, Hc, ⟨%W, HO⟩, Hat⟩ Hk
  simp only [semWaitWord, Prog.bind_op, Prog.bind_ret]
  iapply (Rounds.wp_wait_rest_token 𝒱₀ ER (rd V) (c : Thread nD τ) none (κ := K (c, .cred b))
      (wpE_semWait_eq 𝒱₀ (c : Thread nD τ) none Set.univ) (Set.mem_univ _) j (O := O) (W := W) (R := j) (m := 0) (T := ∅)
      (by rw [hexp]; decide)) $$ [Hc HO Hat]
  · isplitr; · iapply hinv; iexact HR
    isplitl [Hc]; · iexact Hc
    isplitl [HO]; · iexact HO
    isplitr; · iapply hmay; iapply (lev_at V K); iexact HR
    iexact Hat
  iintro ⟨HO, Hat, Hr, Hpay⟩
  iapply Hk
  isplitl [HO]; · iexists _; iexact HO
  isplitl [Hat]; · iexact Hat
  isplitl [Hr]; · iexact Hr
  iapply (Entails.of_eq hrest); iexact Hpay

/-- A signal of one unit to a cell of device `n`: its duty `d` of round `r` paid. -/
theorem wp_give (n : Dev nD) (q : Kd) (r ι : ℕ) (d : Bool) (sm : Sem sig) (hs : semOf q = .reg sm) (hd : d ∈ dutK n q r) (h1 : amtK q r = 1)
    (O : CellTallies nD τ sig ℕ) {Q : α → sProp 𝕄} {k : PUnit → Pr F α} :
    iprop(Recs V K ∗ ows c (O + tallyAt (cell n q) ι 1) ∗ dutyTok ER (cell n q) r d ∗ payK V n q r d ∗ reached ER (cell n q) r)
      ⊢ iprop((ows c O -∗ WP c (k ⟨⟩) Q) -∗ WP c ((semSignalWord n sm 1#32 : Pr F PUnit) >>= k) Q) := by
  unfold ows
  have hinv := inv_at V K n q
  have hd' : d ∈ (rd V).duties (cell n q) r := by rw [duties_cell]; exact hd
  have ha := (amount_cell V n q r d).trans h1
  have hp := payload_cell V n q r d
  simp only [cell, hs] at *
  iintro ⟨#HR, ⟨%W, HO⟩, Ht, Hp, Hr⟩ Hk
  simp only [semSignalWord, Prog.bind_op, Prog.bind_ret]
  iapply (Rounds.wp_signal 𝒱₀ ER (rd V) (c : Thread nD τ) none (dst := (n : Thread nD τ)) (κ := K (n, q))
      (d := d) hd' (ha.trans (by decide)) ι O rfl) $$ [HO Ht Hp Hr]
  · isplitr; · iapply hinv; iexact HR
    isplitl [HO]; · iexact HO
    isplitl [Ht]; · iexact Ht
    isplitl [Hp]; · iapply (Entails.of_eq hp.symm); iexact Hp
    iexact Hr
  iintro HO
  iapply Hk
  iexists _; iexact HO

/-- A transfer sent: what left comes back with the sender's cell `q₁`, the block written goes to the receiver's cell
    `q₂` with what is handed over beside it. -/
theorem wp_sendD (n : Dev nD) (q₁ q₂ : Kd) (r₁ r₂ ι : ℕ) (sa sb : DmaSem sig) (hs₁ : semOf q₁ = .dma sa) (hs₂ : semOf q₂ = .dma sb)
    (hd₁ : dutK c q₁ r₁ = {false}) (hd₂ : dutK n q₂ r₂ = {false})
    {s : Shape} {e : EltTy} (src dst : Memref sig .tc .vmem s e) {hM : dst.view.ref.isScScratch = false}
    {hsrc : src.view.WordExact} {hdst : dst.view.WordExact} {hsem : DmaTarget.Typed (nD := nD) (τ := τ) (p := .tc) .vmem (.dma sb) (.remote (Dev.tc n) dst (.dma sa) hM)}
    (N : ℕ) (hN : dst.view.dmaCredit = N) (hN₁ : amtK q₁ r₁ = N) (hN₂ : amtK q₂ r₂ = N)
    (qs : PosShare TreeShare) (X : s.Idx → Elt F e) (G : sProp 𝕄)
    (hpay₁ : (owns (c : Thread nD τ) src qs X : sProp 𝕄) ⊢ payK V c q₁ r₁ false)
    (hpay₂ : iprop(owns (n : Thread nD τ) dst fullShare X ∗ G) ⊢ payK V n q₂ r₂ false)
    (O : CellTallies nD τ sig ℕ) {Q : α → sProp 𝕄} {k : PUnit → Pr F α} :
    iprop(Recs V K ∗ owns (c : Thread nD τ) src qs X ∗ (∃ Y, owns (n : Thread nD τ) dst fullShare Y) ∗ G
        ∗ ows c (O + tallyAt (cell n q₂) ι N)
        ∗ dutyTok ER (cell c q₁) r₁ false ∗ reached ER (cell c q₁) r₁ ∗ dutyTok ER (cell n q₂) r₂ false ∗ reached ER (cell n q₂) r₂)
      ⊢ iprop(((cred (tallyAt (cell c q₁) 0 N) ∗ ows c O) -∗ WP c (k ⟨⟩) Q)
          -∗ WP c ((Prog.lift (.enqueueDma src (.remote (Dev.tc n) dst (.dma sa) hM) (.dma sb) hsrc hdst hsem) : Pr F PUnit) >>= k) Q) := by
  unfold ows
  have hinv₁ := inv_at V K c q₁
  have hinv₂ := inv_at V K n q₂
  have hd₁' : false ∈ (rd V).duties (cell c q₁) r₁ := by rw [duties_cell, hd₁]; exact Finset.mem_singleton_self _
  have hd₂' : false ∈ (rd V).duties (cell n q₂) r₂ := by rw [duties_cell, hd₂]; exact Finset.mem_singleton_self _
  have ha₁ := (amount_cell V c q₁ r₁ false).trans hN₁
  have ha₂ := (amount_cell V n q₂ r₂ false).trans hN₂
  rw [← payload_cell V c q₁ r₁ false] at hpay₁
  rw [← payload_cell V n q₂ r₂ false] at hpay₂
  simp only [cell, hs₁, hs₂] at *
  unfold owns
  iintro ⟨#HR, ⟨%fs, %hfs, Hs⟩, ⟨%Y, %fd, %hfd, Hd⟩, HG, ⟨%W, HO⟩, Ht₁, Hr₁, Ht₂, Hr₂⟩ Hk
  simp only [Prog.lift, Prog.bind_op, Prog.bind_ret]
  iapply (Rounds.wp_send_pointsTo_with 𝒱₀ ER (rd V) (c : Thread nD τ) none (c' := (n : Thread nD τ)) (src := src) (dst := dst)
      (κ₁ := K (c, q₁)) (κ₂ := K (n, q₂)) (q := qs) (fs := fs) (fd := fd) (F := G)
      (r₁ := r₁) (r₂ := r₂) (d₁ := false) (d₂ := false) hd₁' hd₂' ι 0 N hN ha₁ ha₂ O rfl (W := W)
      ?_ ?_) $$ [Hs Hd HG HO Ht₁ Hr₁ Ht₂ Hr₂]
  · refine BIBase.Entails.trans ?_ hpay₁
    unfold owns
    iintro H; iexists fs; isplitr; · ipureintro; exact hfs
    iexact H
  · refine BIBase.Entails.trans ?_ hpay₂
    unfold owns
    iintro ⟨H, HG⟩
    isplitl [H]
    · iexists _; isplitr
      swap; · iexact H
      ipureintro; rw [View.read_write_univ, hfs]
    · iexact HG
  · isplitr; · iapply hinv₁; iexact HR
    isplitr; · iapply hinv₂; iexact HR
    isplitl [Hs]; · iexact Hs
    isplitl [Hd HG]
    · isplitl [Hd] <;> iassumption
    isplitl [HO]; · iexact HO
    isplitl [Ht₁]; · iexact Ht₁
    isplitl [Hr₁]; · iexact Hr₁
    isplitl [Ht₂] <;> iassumption
  iintro ⟨Hc, HO⟩
  iapply Hk
  isplitl [Hc]; · iexact Hc
  iexists _; iexact HO

end Rules

end Cert.Dist

end
-- ==== Proof.Hop.lean ====
/-
  One hop of the ring, in both directions: what a device holds before it, what it hands over, what it holds after.
-/
module

public import proofs.«01_k».proof.Proof.Moves

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### What a device holds of the protocol -/

/-- Device `c` stands at round `r` of its cell `q`. -/
def At (c : Dev nD) (q : Kd) (r : ℕ) : sProp 𝕄 := iprop(atPos ER (cell c q) r ∅ 0 ∗ reached ER (cell c q) r)

/-- Its places before hop `k`, beside the credits'. -/
def Pos (b : Bool) (k : ℕ) (c : Dev nD) : sProp 𝕄 :=
  iprop(At (F := F) c (.snd b (par k)) (k / 2) ∗ At (F := F) c (.snd b (par (k + 1))) ((k + 1) / 2)
    ∗ At (F := F) c (.rcv b (par (k + 1))) (k / 2) ∗ At (F := F) c (.rcv b (par k)) ((k + 1) / 2))

/-- After hop `k` a device has come to the places of hop `k + 1`. -/
theorem pos_next (b : Bool) (k : ℕ) (c : Dev nD) :
    iprop(At (F := F) c (.snd b (par (k + 1))) ((k + 1) / 2) ∗ At (F := F) c (.snd b (par k)) (k / 2 + 1)
      ∗ At (F := F) c (.rcv b (par k)) ((k + 1) / 2) ∗ At (F := F) c (.rcv b (par (k + 1))) (k / 2 + 1)) ⊢ (Pos (F := F) b (k + 1) c : sProp 𝕄) := by
  unfold Pos; rw [par_add_two k, show (k + 1 + 1) / 2 = k / 2 + 1 by omega]

/-- The slot hop `k` of `c` lands in. -/
def tgt (b : Bool) (k : ℕ) (c : Dev nD) : sProp 𝕄 :=
  if k < 14 then anyS (F := F) (fwd b c) b (par (k + 1)) else if k < 21 then anyB (F := F) (fwd b c) b (par (k + 1)) fullShare else iprop(emp)
/-- That, and the neighbour's word that it has come to the landing's round. -/
def Go (b : Bool) (k : ℕ) (c : Dev nD) : sProp 𝕄 :=
  iprop(tgt (F := F) b k c ∗ reached ER (cell (fwd b c) (.rcv b (par (k + 1)))) (k / 2))

/-- A credit lets the next hop go. -/
theorem credPay_eq (b : Bool) (k : ℕ) (c : Dev nD) : credPay (F := F) b k c = Go (F := F) b (k + 1) c := by
  unfold credPay Go freeSlot tgt
  rw [par_add_two k]
  congr 1
  by_cases h1 : k < 13
  · rw [if_pos h1, if_pos (show k + 1 < 14 by omega)]
  · rw [if_neg h1, if_neg (show ¬ k + 1 < 14 by omega)]
    by_cases h2 : k < 20
    · rw [if_pos h2, if_pos (show k + 1 < 21 by omega)]
    · rw [if_neg h2, if_neg (show ¬ k + 1 < 21 by omega)]

/-- What hop `k` of direction `b` uses up: the right to send, to land, to give a credit, and to wait for the two. -/
def Use (b : Bool) (c : Dev nD) (k : ℕ) : sProp 𝕄 :=
  iprop(dutyTok ER (cell c (.snd b (par k))) (k / 2) false ∗ dutyTok ER (cell (fwd b c) (.rcv b (par (k + 1)))) (k / 2) false
    ∗ dutyTok ER (cell (bk b 1 c) (.cred b)) k false
    ∗ cred (tallyAt (cell c (.rcv b (par (k + 1)))) k (NH k)) ∗ cred (tallyAt (cell c (.cred b)) k 1))
/-- What the hops from `k` on use up. -/
def Rem (b : Bool) (k : ℕ) (c : Dev nD) : sProp 𝕄 := bigSep (from_ k) fun j => Use (F := F) b c j
/-- What the hops from `k` on use up is what hop `k` does and what those after it do. -/
theorem Rem_step (b : Bool) (c : Dev nD) {k : ℕ} (h : k ≤ 20) : Rem (F := F) b k c = iprop(Use b c k ∗ Rem b (k + 1) c) := by
  unfold Rem; rw [from_step h, bigSep_insert (not_mem_from k)]; rfl

/-! ### The rows of maxima on their way -/

/-- A device's own rows `n`, …, `1` places on, still to be handed over. -/
def mineR : ℕ → Dev nD → sProp 𝕄
  | 0, _ => iprop(emp)
  | n + 1, c => iprop(anyR (F := F) c (sh (n + 1) c) ∗ mineR n c)
/-- A device's own `n + 1` rows are one row and `n`. -/
theorem mineR_succ (n : ℕ) (c : Dev nD) : mineR (F := F) (n + 1) c = iprop(anyR (F := F) c (sh (n + 1) c) ∗ mineR n c) := rfl
/-- A row of `n + 1` devices is that of one device and of `n`. -/
theorem rights_succ (n : ℕ) (d s : Dev nD) : rights (F := F) (n + 1) d s = iprop(anyR (F := F) d s ∗ rights n (sh 7 d) s) := rfl
/-- The rows held before hop `k`, -/
def RowIn (k : ℕ) (c : Dev nD) : sProp 𝕄 := iprop(rights (F := F) (min k 7) (sh 7 c) (sh (7 - k) c) ∗ mineR (F := F) (7 - k) c)
/-- and during it. -/
def rowMid (k : ℕ) (c : Dev nD) : sProp 𝕄 := if k ≤ 6 then mineR (F := F) (6 - k) c else RowIn (F := F) k c

/-- Before hop `k` a device can hand the rows that go with it to its right neighbour. -/
theorem row_out (k : ℕ) (c : Dev nD) : (RowIn (F := F) k c : sProp 𝕄) ⊢ iprop(rowsWith false k (fwd false c) ∗ rowMid k c) := by
  unfold rowsWith rowMid
  by_cases h : k ≤ 6
  · rw [if_pos ⟨rfl, h⟩, if_pos h]
    unfold RowIn
    have e1 : sh 7 (fwd false c) = c := by unfold fwd; rw [sh_sh]; exact (sh_congr (by decide) c).trans (sh_zero c)
    have e2 : sh (6 - k) (fwd false c) = sh (7 - k) c := by
      unfold fwd; rw [sh_sh]; exact congrArg (fun n => sh n c) (show 1 + (6 - k) = 7 - k by omega)
    rw [e1, e2, show min k 7 = k by omega]
    rw [show 7 - k = (6 - k) + 1 by omega, mineR_succ, rights_succ]
    iintro ⟨HR, H, HM⟩
    isplitl [HR H]
    · isplitl [H]; · iexact H
      iexact HR
    · iexact HM
  · rw [if_neg (by rintro ⟨-, h'⟩; exact h h'), if_neg h]
    iintro H; isplitr; · iempintro
    iexact H
/-- With the rows that land at hop `k` a device has those it holds before hop `k + 1`. -/
theorem row_in (k : ℕ) (c : Dev nD) : iprop(rowsWith (F := F) false k c ∗ rowMid (F := F) k c) ⊢ (RowIn (F := F) (k + 1) c : sProp 𝕄) := by
  unfold rowsWith rowMid
  by_cases h : k ≤ 6
  · rw [if_pos ⟨rfl, h⟩, if_pos h]
    unfold RowIn
    rw [show min (k + 1) 7 = k + 1 by omega, show 7 - (k + 1) = 6 - k by omega]
  · rw [if_neg (by rintro ⟨-, h'⟩; exact h h'), if_neg h]
    unfold RowIn
    rw [show min k 7 = 7 by omega, show min (k + 1) 7 = 7 by omega, show 7 - k = 0 by omega, show 7 - (k + 1) = 0 by omega]
    iintro ⟨-, H⟩; iexact H

/-- The rows are held as long as the maxima are still to be sent. -/
def Row (B : CellTallies nD τ sig ℕ) (k : ℕ) (c : Dev nD) : sProp 𝕄 := open Classical in if B = 0 then iprop(emp) else RowIn (F := F) k c
/-- While maxima are owed the rows are held, -/
theorem row_ne {B : CellTallies nD τ sig ℕ} (h : B ≠ 0) (k : ℕ) (c : Dev nD) : Row (F := F) B k c = RowIn k c := if_neg h
/-- and no longer afterwards. -/
theorem row_zero (k : ℕ) (c : Dev nD) : Row (F := F) 0 k c = iprop(emp) := if_pos rfl
/-- The maxima are owed. -/
theorem oweA_ne (c : Dev nD) : oweA c ≠ 0 := by
  intro h
  have h1 : 0 < oweA c (cell (sh (1 + (0 : Fin 7).val) c) (.ra c)) 0 := by
    unfold oweA
    rw [Finset.sum_apply, Finsupp.finset_sum_apply]
    refine lt_of_lt_of_le ?_ (Finset.single_le_sum (fun _ _ => Nat.zero_le _) (Finset.mem_univ (0 : Fin 7)))
    rw [tallyAt_self]
    exact NA_pos
  rw [h] at h1
  exact absurd h1 (Nat.lt_irrefl 0)

/-! ### The states between the steps -/

/-- What a device holds of the protocol before hop `k`, beside the credits. -/
def Base (B : CellTallies nD τ sig ℕ) (k : ℕ) (c : Dev nD) : sProp 𝕄 :=
  iprop(Pos (F := F) false k c ∗ Pos (F := F) true k c ∗ Rem (F := F) false k c ∗ Rem (F := F) true k c ∗ Row (F := F) B k c ∗ ows c (Owe B c k))
/-- Before hop `k`: the neighbours' slots are free. -/
def Ready (B : CellTallies nD τ sig ℕ) (k : ℕ) (c : Dev nD) : sProp 𝕄 :=
  iprop(Base (F := F) B k c ∗ (At (F := F) c (.cred false) k ∗ At (F := F) c (.cred true) k) ∗ Go (F := F) false k c ∗ Go (F := F) true k c)
/-- After it: the credits are still to come. -/
def Done (B : CellTallies nD τ sig ℕ) (k : ℕ) (c : Dev nD) : sProp 𝕄 :=
  iprop(Base (F := F) B (k + 1) c ∗ (At (F := F) c (.cred false) k ∗ At (F := F) c (.cred true) k)
    ∗ cred (tallyAt (cell c (.cred false)) k 1) ∗ cred (tallyAt (cell c (.cred true)) k 1))

variable (V : Sent F) (K : Dev nD × Kd → ℕ)

section Rules

variable (c : Dev nD) {α : Type}

/-- The credits of hop `k` waited for. -/
theorem wp_creditWait (B : CellTallies nD τ sig ℕ) (j : ℕ) (hj : j ≤ 20) (hB : Above (3 * j + 5) B) {Q : α → sProp 𝕄} {k : PUnit → Pr F α} :
    iprop(Recs V K ∗ Done B j c) ⊢ iprop((Ready B (j + 1) c -∗ WP c (k ⟨⟩) Q) -∗ WP c (creditWait >>= k) Q) := by
  unfold Done Ready Base
  iintro ⟨#HR, ⟨Hp, Hp', Hm, Hm', Hrow, HO⟩, ⟨Hf, Ht⟩, Hcf, Hct⟩ Hk
  unfold At
  icases Hf with ⟨Hf, -⟩
  icases Ht with ⟨Ht, -⟩
  simp only [creditWait, bind_assoc]
  have hO := above_Owe (k := j + 1) B c hB (by omega)
  iapply (wp_waitCred V K c false j hj credCw rfl (Owe B c (j + 1)) hO) $$ [Hcf HO Hf]
  · isplitr; · iexact HR
    isplitl [Hcf]; · iexact Hcf
    isplitl [HO] <;> iassumption
  iintro ⟨HO, Hf, Hrf, Hpf⟩
  iapply (wp_waitCred V K c true j hj credCcw rfl (Owe B c (j + 1)) hO) $$ [Hct HO Ht]
  · isplitr; · iexact HR
    isplitl [Hct]; · iexact Hct
    isplitl [HO] <;> iassumption
  iintro ⟨HO, Ht, Hrt, Hpt⟩
  ihave Hpf := (Entails.of_eq (credPay_eq false j c)) $$ Hpf
  ihave Hpt := (Entails.of_eq (credPay_eq true j c)) $$ Hpt
  iapply Hk
  isplitl [Hp Hp' Hm Hm' Hrow HO]
  · isplitl [Hp]; · iexact Hp
    isplitl [Hp']; · iexact Hp'
    isplitl [Hm]; · iexact Hm
    isplitl [Hm']; · iexact Hm'
    isplitl [Hrow]; · iexact Hrow
    iexact HO
  isplitl [Hf Hrf Ht Hrt]
  · isplitl [Hf Hrf]
    · isplitl [Hf]; · iexact Hf
      iexact Hrf
    · isplitl [Ht]; · iexact Ht
      iexact Hrt
  isplitl [Hpf]; · iexact Hpf
  iexact Hpt

/-- The transfer of hop `j` in one direction. -/
theorem wp_sendHop (b : Bool) (j : ℕ) (hj : j ≤ 20) (n : Dev nD) (hn : n = fwd b c) (sa sb : DmaSem sig)
    (hs₁ : semOf (.snd b (par j)) = .dma sa) (hs₂ : semOf (.rcv b (par (j + 1))) = .dma sb)
    {s : Shape} {e : EltTy} (src dst : Memref sig .tc .vmem s e) {hM : dst.view.ref.isScScratch = false}
    {hsrc : src.view.WordExact} {hdst : dst.view.WordExact} {hsem : DmaTarget.Typed (nD := nD) (τ := τ) (p := .tc) .vmem (.dma sb) (.remote (Dev.tc n) dst (.dma sa) hM)}
    (hN : dst.view.dmaCredit = NH j) (qs : PosShare TreeShare) (X : s.Idx → Elt F e)
    (hl : (owns (c : Thread nD τ) src qs X : sProp 𝕄) ⊢ leftPay b j c)
    (hb : (owns ((fwd b c : Dev nD) : Thread nD τ) dst fullShare X : sProp 𝕄) ⊢ blockAt V b j (fwd b c))
    (ht : (tgt b j c : sProp 𝕄) ⊢ iprop(∃ Y, owns ((fwd b c : Dev nD) : Thread nD τ) dst fullShare Y))
    (O : CellTallies nD τ sig ℕ) {Q : α → sProp 𝕄} {k : PUnit → Pr F α} :
    iprop(Recs V K ∗ owns (c : Thread nD τ) src qs X ∗ Go b j c ∗ rowsWith b j (fwd b c)
        ∗ reached ER (cell c (.snd b (par j))) (j / 2) ∗ reached ER (cell c (.cred b)) j
        ∗ dutyTok ER (cell c (.snd b (par j))) (j / 2) false ∗ dutyTok ER (cell (fwd b c) (.rcv b (par (j + 1)))) (j / 2) false
        ∗ ows c (O + tallyAt (cell (fwd b c) (.rcv b (par (j + 1)))) j (NH j)))
      ⊢ iprop(((cred (tallyAt (cell c (.snd b (par j))) 0 (NH j)) ∗ ows c O) -∗ WP c (k ⟨⟩) Q)
          -∗ WP c ((Prog.lift (.enqueueDma src (.remote (Dev.tc n) dst (.dma sa) hM) (.dma sb) hsrc hdst hsem) : Pr F PUnit) >>= k) Q) := by
  subst hn
  unfold Go
  iintro ⟨#HR, Hs, ⟨Ht, Hrt⟩, Hrow, Hrs, Hrc, Ht₁, Ht₂, HO⟩ Hk
  iapply (wp_sendD V K c (fwd b c) (.snd b (par j)) (.rcv b (par (j + 1))) (j / 2) (j / 2) j sa sb hs₁ hs₂ (duty_snd hj) (duty_rcv hj)
    src dst (NH j) hN (amt_snd b j) (amt_rcv b j) qs X iprop(reached ER (cell c (.cred b)) j ∗ rowsWith b j (fwd b c))
    (by rw [pay_snd]; exact hl)
    (by
      rw [pay_rcv]; unfold landPay; rw [bk_fwd]
      iintro ⟨H, HG⟩
      isplitl [H]; · iapply hb; iexact H
      iexact HG) O) $$ [Hs Ht Hrt Hrow Hrs Hrc Ht₁ Ht₂ HO]
  · isplitr; · iexact HR
    isplitl [Hs]; · iexact Hs
    isplitl [Ht]; · iapply ht; iexact Ht
    isplitl [Hrc Hrow]
    · isplitl [Hrc] <;> iassumption
    isplitl [HO]; · iexact HO
    isplitl [Ht₁]; · iexact Ht₁
    isplitl [Hrs]; · iexact Hrs
    isplitl [Ht₂]; · iexact Ht₂
    iexact Hrt
  iexact Hk

/-- The waits of hop `j` in one direction: the slot sent from comes back, the neighbour's block has landed. -/
theorem wp_waitHop (b : Bool) (j : ℕ) (hj : j ≤ 20) (sa sb : DmaSem sig)
    (hs₁ : semOf (.snd b (par j)) = .dma sa) (hs₂ : semOf (.rcv b (par (j + 1))) = .dma sb)
    {s : Shape} {e : EltTy} (m₁ m₂ : Memref sig .tc .vmem s e)
    {h₁ : m₁.view.WordExact} {h₂ : m₂.view.WordExact} {h₃ : m₁.view.WordExact} {h₄ : m₂.view.WordExact}
    (hN₁ : m₁.view.dmaCredit = NH j) (hN₂ : m₂.view.dmaCredit = NH j) (O : CellTallies nD τ sig ℕ) (hO : Above (3 * j + 4) O)
    {Q : α → sProp 𝕄} {k : PUnit → Pr F α} :
    iprop(Recs V K ∗ cred (tallyAt (cell c (.snd b (par j))) 0 (NH j)) ∗ cred (tallyAt (cell c (.rcv b (par (j + 1)))) j (NH j)) ∗ ows c O ∗ Pos b j c)
      ⊢ iprop(((ows c O ∗ Pos b (j + 1) c ∗ leftPay b j c ∗ landPay V b j c) -∗ WP c (k ⟨⟩) Q)
          -∗ WP c ((Prog.lift (.waitDma2 sa m₂ m₁ h₂ h₁) : Pr F PUnit) >>= fun _ => (Prog.lift (.waitDma2 sb m₁ m₂ h₃ h₄) : Pr F PUnit) >>= k) Q) := by
  have hc₁ := amt_snd b j
  have hc₂ := amt_rcv b j
  rw [show Pos (F := F) b j c = iprop(At (F := F) c (.snd b (par j)) (j / 2) ∗ At (F := F) c (.snd b (par (j + 1))) ((j + 1) / 2)
    ∗ At (F := F) c (.rcv b (par (j + 1))) (j / 2) ∗ At (F := F) c (.rcv b (par j)) ((j + 1) / 2)) from rfl]
  iintro ⟨#HR, Hc₁, Hc₂, HO, Hs, Hs', Hr, Hr'⟩ Hk
  unfold At
  icases Hs with ⟨Hs, -⟩
  icases Hr with ⟨Hr, -⟩
  iapply (wp_waitD V K c (.snd b (par j)) (j / 2) 0 sa hs₁ (duty_snd hj) m₂ m₁ (by rw [hc₁, hN₁]) (by omega) O
    (hO.mono (show lvK (.snd b (par j)) 0 ≤ _ from Nat.zero_le _))) $$ [Hc₁ HO Hs]
  · isplitr; · iexact HR
    isplitl [Hc₁]; · rw [hc₁]; iexact Hc₁
    isplitl [HO] <;> iassumption
  iintro ⟨HO, Hs, Hrs, Hleft⟩
  iapply (wp_waitD V K c (.rcv b (par (j + 1))) (j / 2) j sb hs₂ (duty_rcv hj) m₁ m₂ (by rw [hc₂, hN₂]) hj O hO) $$ [Hc₂ HO Hr]
  · isplitr; · iexact HR
    isplitl [Hc₂]; · rw [hc₂]; iexact Hc₂
    isplitl [HO] <;> iassumption
  iintro ⟨HO, Hr, Hrr, Hland⟩
  ihave Hleft := (Entails.of_eq (pay_snd V c b j false)) $$ Hleft
  ihave Hland := (Entails.of_eq (pay_rcv V c b j false)) $$ Hland
  iapply Hk
  isplitl [HO]; · iexact HO
  isplitl [Hs Hrs Hs' Hr Hrr Hr']
  · iapply (pos_next b j c)
    unfold At
    isplitl [Hs']; · iexact Hs'
    isplitl [Hs Hrs]
    · isplitl [Hs] <;> iassumption
    isplitl [Hr']; · iexact Hr'
    isplitl [Hr] <;> iassumption
  isplitl [Hleft] <;> iassumption

/-- The slot a device frees at hop `j`. -/
def freeOwn (b : Bool) (j : ℕ) : sProp 𝕄 :=
  if j < 13 then anyS (F := F) c b (par j) else if j < 20 then anyB (F := F) c b (par j) fullShare else iprop(emp)
/-- The slot the device one place back gets to know free is the one freed here. -/
theorem freeSlot_bk (b : Bool) (j : ℕ) : freeSlot (F := F) b j (bk b 1 c) = freeOwn c b j := by
  unfold freeSlot freeOwn; rw [fwd_bk]

/-- A credit hands over the freed slot, and that the device giving it has come to the round of the next landing. -/
theorem pay_cred (b : Bool) (j : ℕ) : payK V (bk b 1 c) (.cred b) j false = iprop(freeOwn c b j ∗ reached ER (cell c (.rcv b (par j))) ((j + 1) / 2)) := by
  show credPay b j (bk b 1 c) = _
  unfold credPay; rw [freeSlot_bk, fwd_bk]

/-- The credits of hop `j` given. -/
theorem wp_creditGive (l r : Dev nD) (hl : l = sh 7 c) (hr : r = sh 1 c) (j : ℕ) (hj : j ≤ 20) (O : CellTallies nD τ sig ℕ) {Q : α → sProp 𝕄} {k : PUnit → Pr F α} :
    iprop(Recs V K ∗ ows c (O + due₂ c j)
        ∗ (dutyTok ER (cell (bk false 1 c) (.cred false)) j false ∗ freeOwn c false j ∗ reached ER (cell c (.rcv false (par j))) ((j + 1) / 2)
          ∗ reached ER (cell (bk false 1 c) (.cred false)) j)
        ∗ (dutyTok ER (cell (bk true 1 c) (.cred true)) j false ∗ freeOwn c true j ∗ reached ER (cell c (.rcv true (par j))) ((j + 1) / 2)
          ∗ reached ER (cell (bk true 1 c) (.cred true)) j))
      ⊢ iprop((ows c O -∗ WP c (k ⟨⟩) Q) -∗ WP c (creditGive l r >>= k) Q) := by
  have hl' : l = bk false 1 c := hl
  have hr' : r = bk true 1 c := hr
  have hm : false ∈ ({false} : Finset Bool) := Finset.mem_singleton_self _
  rw [hl', hr']
  unfold due₂ due₃
  rw [← add_assoc]
  iintro ⟨#HR, HO, ⟨Ht, Hf, Hr, Hc⟩, ⟨Ht', Hf', Hr', Hc'⟩⟩ Hk
  simp only [creditGive, bind_assoc]
  iapply (wp_give V K c (bk false 1 c) (.cred false) j j false credCw rfl (by rw [duty_cred hj]; exact hm) rfl
    (O + tallyAt (cell (bk true 1 c) (.cred true)) j 1)) $$ [HO Ht Hf Hr Hc]
  · isplitr; · iexact HR
    isplitl [HO]; · iexact HO
    isplitl [Ht]; · iexact Ht
    isplitl [Hf Hr]
    · iapply (Entails.of_eq (pay_cred V c false j).symm)
      isplitl [Hf]; · iexact Hf
      iexact Hr
    iexact Hc
  iintro HO
  iapply (wp_give V K c (bk true 1 c) (.cred true) j j false credCcw rfl (by rw [duty_cred hj]; exact hm) rfl O) $$ [HO Ht' Hf' Hr' Hc']
  · isplitr; · iexact HR
    isplitl [HO]; · iexact HO
    isplitl [Ht']; · iexact Ht'
    isplitl [Hf' Hr']
    · iapply (Entails.of_eq (pay_cred V c true j).symm)
      isplitl [Hf']; · iexact Hf'
      iexact Hr'
    iexact Hc'
  iexact Hk

end Rules

end Cert.Dist

end
-- ==== Proof.Pass.lean ====
/-
  A hop of a pass, whole: a block of partial sums sent each way, the products computed meanwhile, the neighbours' blocks
  landed and added to.
-/
module

public import proofs.«01_k».proof.Proof.Hop

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Sent F) (K : Dev nD × Kd → ℕ)

section Rules

variable (c : Dev nD) {α : Type}

/-- What is given up at hop 13 beside what was sent: the slot of codes the first codes land in; -/
def extraIn (b : Bool) (j : ℕ) : sProp 𝕄 := if j = 13 then anyB (F := F) c b (par j) fullShare else iprop(emp)
/-- and what is kept then: the slot sent from. -/
def kept (b : Bool) (j : ℕ) : sProp 𝕄 := if j = 13 then anyS (F := F) c b (par j) else iprop(emp)

/-- The slot a transfer of sums left from is freed for the neighbour; at hop 13 a slot of codes is, and the slot of sums kept. -/
theorem left_free (b : Bool) {j : ℕ} (hj : j < 14) : iprop(leftPay (F := F) b j c ∗ extraIn (F := F) c b j) ⊢ (iprop(freeOwn (F := F) c b j ∗ kept (F := F) c b j) : sProp 𝕄) := by
  unfold leftPay extraIn freeOwn kept
  rw [if_pos hj]
  by_cases h : j = 13
  · rw [if_pos h, if_neg (show ¬ j < 13 by omega), if_pos (show j < 20 by omega), if_pos h]
    iintro ⟨H, H'⟩; isplitl [H'] <;> iassumption
  · rw [if_neg h, if_pos (show j < 13 by omega), if_neg h]

/-- What lands at a hop of sums is a slot with the sum of the device one place back. -/
theorem landed_S (b : Bool) {j : ℕ} (hj : j < 14) : (landPay V b j c : sProp 𝕄)
    ⊢ iprop(ownS c b (par (j + 1)) (V.S b j (bk b 1 c)) ∗ reached ER (cell (bk b 1 c) (.cred b)) j ∗ rowsWith b j c) := by
  unfold landPay blockAt; rw [if_pos hj]

/-- No row of the maxima goes to the left. -/
theorem rowsWith_true (j : ℕ) (d : Dev nD) : rowsWith (F := F) true j d = iprop(emp) := by
  unfold rowsWith; exact if_neg (by simp)

/-- A hop of a pass up to its credits. -/
theorem wp_hopS (x : Vec F S4096x512 .f32) (w : Vec F S512x8192 .f32) (B : CellTallies nD τ sig ℕ) (j : ℕ) (hj : j < 14)
    (hB : Above 44 B) (hB0 : B ≠ 0) (s t : Fin 2) (hs : s = par j) (ht : t = par (j + 1)) (l r : Dev nD) (hl : l = sh 7 c) (hr : r = sh 1 c)
    (j₁ j₂ : Fin 8) (o₁ o₂ : Fin 2 → Nat) (h₁ : ∀ a, o₁ a + S512x512.size a ≤ S4096x512.size a)
    (h₂ : ∀ a, o₂ a + S512x512.size a ≤ S4096x512.size a) (p q : Fin 4) (e₁ : o₁ = ![512 * j₁.val, 0]) (e₂ : o₂ = ![512 * j₂.val, 0])
    {Q : α → sProp 𝕄} {k : FVec F S512x2048 .f32 × FVec F S512x2048 .f32 → Pr F α} :
    iprop(Recs V K ∗ Ready B j c ∗ ownS c false s (V.S false j c) ∗ ownS c true s (V.S true j c) ∗ ins c x w ∗ extraIn c false j ∗ extraIn c true j)
      ⊢ iprop(((Done B j c ∗ ownS c false t (V.S false j (bk false 1 c)) ∗ ownS c true t (V.S true j (bk true 1 c)) ∗ ins c x w
              ∗ kept c false j ∗ kept c true j) -∗ WP c (k (prodOf x w j₁ p, prodOf x w j₂ q)) Q)
          -∗ WP c (hopS s t l r o₁ o₂ h₁ h₂ p q >>= k) Q) := by
  subst hs ht
  have hNF : NF = NH j := (if_pos hj).symm
  have hO₁ : ∀ n, n < 3 * j + 5 → Above n (Owe B c (j + 1) + due₂ c j) := fun n hn =>
    (above_Owe B c (hB.mono (by omega)) (by omega)).add (above_due₂ c (by omega) hn)
  unfold Ready Base
  rw [Owe_step B c (show j ≤ 20 by omega), Rem_step false c (show j ≤ 20 by omega), Rem_step true c (show j ≤ 20 by omega)]
  unfold due due₁
  rw [← add_assoc, ← add_assoc, row_ne hB0]
  iintro ⟨#HR, ⟨⟨Hp, Hp', ⟨Hu, Hm⟩, ⟨Hu', Hm'⟩, Hrow, HO⟩, ⟨Hf, Ht⟩, Hg, Hg'⟩, HS, HS', Hin, Hex, Hex'⟩ Hk
  unfold Use
  icases Hu with ⟨Hts, Htr, Htc, Hcr, Hcc⟩
  icases Hu' with ⟨Hts', Htr', Htc', Hcr', Hcc'⟩
  unfold At
  icases Hf with ⟨Hf, #Hrf⟩
  icases Ht with ⟨Ht, #Hrt⟩
  simp only [hopS, startS, sendS, waitS, waitSnd, bind_assoc]
  ihave Hrows := (row_out j c) $$ Hrow
  icases Hrows with ⟨Hrow, Hmid⟩
  unfold Pos
  icases Hp with ⟨Hp₁, Hp₂, Hp₃, Hp₄⟩
  icases Hp' with ⟨Hp₁', Hp₂', Hp₃', Hp₄'⟩
  unfold At
  icases Hp₁ with ⟨Hp₁, #Hr₁⟩
  icases Hp₁' with ⟨Hp₁', #Hr₁'⟩
  icases Hp₄ with ⟨Hp₄, #Hr₄⟩
  icases Hp₄' with ⟨Hp₄', #Hr₄'⟩
  iapply (wp_sendHop V K c false j (by omega) r hr (sndCw (par j)) (rcvCw (par (j + 1))) rfl rfl (slotM cwM (par j)) (slotM cwM (par (j + 1)))
    hNF fullShare (V.S false j c)
    (by unfold leftPay; rw [if_pos hj]; iintro H; iexists _; iexact H)
    (by unfold blockAt; rw [if_pos hj, bk_fwd])
    (by unfold tgt; rw [if_pos hj]) (Owe B c (j + 1) + due₂ c j + tallyAt (cell (fwd true c) (.rcv true (par (j + 1)))) j (NH j)))
    $$ [HS Hg Hrow Hts Htr HO]
  · isplitr; · iexact HR
    isplitl [HS]; · iexact HS
    isplitl [Hg]; · iexact Hg
    isplitl [Hrow]; · iexact Hrow
    isplitr; · iexact Hr₁
    isplitr; · iexact Hrf
    isplitl [Hts]; · iexact Hts
    isplitl [Htr]; · iexact Htr
    iexact HO
  iintro ⟨Hcs, HO⟩
  iapply (wp_sendHop V K c true j (by omega) l hl (sndCcw (par j)) (rcvCcw (par (j + 1))) rfl rfl (slotM ccwM (par j)) (slotM ccwM (par (j + 1)))
    hNF fullShare (V.S true j c)
    (by unfold leftPay; rw [if_pos hj]; iintro H; iexists _; iexact H)
    (by unfold blockAt; rw [if_pos hj, bk_fwd])
    (by unfold tgt; rw [if_pos hj]) (Owe B c (j + 1) + due₂ c j))
    $$ [HS' Hg' Hts' Htr' HO]
  · isplitr; · iexact HR
    isplitl [HS']; · iexact HS'
    isplitl [Hg']; · iexact Hg'
    isplitr; · rw [rowsWith_true]; iempintro
    isplitr; · iexact Hr₁'
    isplitr; · iexact Hrt
    isplitl [Hts']; · iexact Hts'
    isplitl [Htr']; · iexact Htr'
    iexact HO
  iintro ⟨Hcs', HO⟩
  iapply (wp_prodsAt c x w j₁ j₂ o₁ o₂ h₁ h₂ p q e₁ e₂) $$ Hin
  iintro Hin
  iapply (wp_waitHop V K c false j (by omega) (sndCw (par j)) (rcvCw (par (j + 1))) rfl rfl (slotM cwM (par j)) (slotM cwM (par (j + 1)))
    hNF hNF (Owe B c (j + 1) + due₂ c j) (hO₁ _ (by omega))) $$ [Hcs Hcr HO Hp₁ Hp₂ Hp₃ Hp₄]
  · isplitr; · iexact HR
    isplitl [Hcs]; · iexact Hcs
    isplitl [Hcr]; · iexact Hcr
    isplitl [HO]; · iexact HO
    unfold Pos At
    isplitl [Hp₁]; · isplitl [Hp₁] <;> iassumption
    isplitl [Hp₂]; · iexact Hp₂
    isplitl [Hp₃]; · iexact Hp₃
    isplitl [Hp₄] <;> iassumption
  iintro ⟨HO, Hp, Hleft, Hland⟩
  iapply (wp_waitHop V K c true j (by omega) (sndCcw (par j)) (rcvCcw (par (j + 1))) rfl rfl (slotM ccwM (par j)) (slotM ccwM (par (j + 1)))
    hNF hNF (Owe B c (j + 1) + due₂ c j) (hO₁ _ (by omega))) $$ [Hcs' Hcr' HO Hp₁' Hp₂' Hp₃' Hp₄']
  · isplitr; · iexact HR
    isplitl [Hcs']; · iexact Hcs'
    isplitl [Hcr']; · iexact Hcr'
    isplitl [HO]; · iexact HO
    unfold Pos At
    isplitl [Hp₁']; · isplitl [Hp₁'] <;> iassumption
    isplitl [Hp₂']; · iexact Hp₂'
    isplitl [Hp₃']; · iexact Hp₃'
    isplitl [Hp₄'] <;> iassumption
  iintro ⟨HO, Hp', Hleft', Hland'⟩
  ihave Hl := (landed_S V c false hj) $$ Hland
  ihave Hl' := (landed_S V c true hj) $$ Hland'
  icases Hl with ⟨HS, #Hrl, Hrow⟩
  icases Hl' with ⟨HS', #Hrl', -⟩
  ihave Hfr := (left_free c false hj) $$ [Hleft Hex]
  · isplitl [Hleft] <;> iassumption
  ihave Hfr' := (left_free c true hj) $$ [Hleft' Hex']
  · isplitl [Hleft'] <;> iassumption
  icases Hfr with ⟨Hfr, Hkp⟩
  icases Hfr' with ⟨Hfr', Hkp'⟩
  iapply (wp_creditGive V K c l r hl hr j (by omega) (Owe B c (j + 1))) $$ [HO Htc Hfr Htc' Hfr']
  · isplitr; · iexact HR
    isplitl [HO]; · iexact HO
    isplitl [Htc Hfr]
    · isplitl [Htc]; · iexact Htc
      isplitl [Hfr]; · iexact Hfr
      isplitr; · iexact Hr₄
      iexact Hrl
    · isplitl [Htc']; · iexact Htc'
      isplitl [Hfr']; · iexact Hfr'
      isplitr; · iexact Hr₄'
      iexact Hrl'
  iintro HO
  rw [pure_bind]
  iapply Hk
  isplitr [HS HS' Hin Hkp Hkp']
  · unfold Done Base At
    isplitl [Hp Hp' Hm Hm' Hrow Hmid HO]
    · isplitl [Hp]; · iexact Hp
      isplitl [Hp']; · iexact Hp'
      isplitl [Hm]; · iexact Hm
      isplitl [Hm']; · iexact Hm'
      isplitl [Hrow Hmid]
      · rw [row_ne hB0]; iapply (row_in j c); isplitl [Hrow] <;> iassumption
      iexact HO
    isplitl [Hf Ht]
    · isplitl [Hf]
      · isplitl [Hf] <;> iassumption
      · isplitl [Ht] <;> iassumption
    isplitl [Hcc] <;> iassumption
  isplitl [HS]; · iexact HS
  isplitl [HS']; · iexact HS'
  isplitl [Hin]; · iexact Hin
  isplitl [Hkp] <;> iassumption

end Rules

end Cert.Dist

end
-- ==== Proof.Contents.lean ====
/-
  What the devices compute, as values: the partial sums each sends at each hop, the blocks of the product they end in, the
  maxima, the codes and the blocks of the result.
-/
module

public import proofs.«01_k».proof.Proof.Pass

@[expose] public section

noncomputable section

namespace Cert.Dist

open Cert.KernelIdeal Cert.KernelIdeal.Gen
open Idealize.ShloMosaic
open Idealize.ShloMosaic.TcCoe

variable {F : FTy → Type} [FloatOps F]
variable (x : Dev nD → Vec F S4096x512 .f32) (w : Dev nD → Vec F S512x8192 .f32)

/-- The quarter of the columns that direction `b` sums in pass `p`. -/
def qtr (b : Bool) (p : ℕ) : Fin 4 := ⟨2 * (p % 2) + (bif b then 1 else 0), by cases b <;> (simp only [cond]; omega)⟩

/-- Device `c`'s product for the rows of device `j`, quarter `p`. -/
def pr (c j : Dev nD) (p : Fin 4) : Vec F S512x2048 .f32 := prodOf (x c) (w c) j p
/-- The partial sum `c` sends at place `h` of pass `p`: its own product added to what came. -/
def sums (b : Bool) (p : ℕ) : ℕ → Dev nD → Vec F S512x2048 .f32
  | 0, c => pr x w c (bk b 1 c) (qtr b p)
  | h + 1, c => addf (φ := .f32) (sums b p h (bk b 1 c)) (pr x w c (bk b (h + 2) c) (qtr b p))
/-- The block of the product that device `c` ends with: its own rows, the positive part. -/
def final (b : Bool) (p : ℕ) (c : Dev nD) : Vec F S512x2048 .f32 := relu (sums x w b p 7 c)
/-- Its largest element. -/
def amax (c : Dev nD) : F .f32 :=
  maxStep (maxStep (Scalar.ofBits .f32 0x00000000#32) (final x w false 0 c) (final x w true 0 c)) (final x w false 1 c) (final x w true 1 c)
/-- The buffer of maxima at device `c` once all have come: its own row was left at zero. -/
def maxima (c : Dev nD) : Vec F S8x128 .f32 :=
  fun i => if (i 0).val = c.val then Scalar.ofBits .f32 0x00000000#32 else amax x w ⟨(i 0).val, (i 0).isLt⟩
/-- The largest of all, as device `c` finds it. -/
def amaxAll (c : Dev nD) : F .f32 := allMax (amax x w c) (maxima x w c)
/-- Quarter `i` of device `o`'s rows. -/
def blk (i : Fin 4) (o : Dev nD) : Vec F S512x2048 .f32 := ![final x w false 0 o, final x w true 0 o, final x w false 1 o, final x w true 1 o] i
/-- Its codes. -/
def code (i : Fin 4) (o : Dev nD) : Vec F S512x2048 .i8 := quant (invOf (amaxAll x w o)) (up (F := F) (e := .f32) (blk x w i o))
/-- The codes of device `o`'s rows, the two halves of the columns apart. -/
def codesOf (b : Bool) (o : Dev nD) : Vec F S512x4096 .i8 := join (code x w (bif b then 2 else 0) o) (code x w (bif b then 3 else 1) o)
/-- Quarter `i` of device `o`'s rows of the result, as device `c` writes it. -/
def resBlk (c : Dev nD) (i : Fin 4) (o : Dev nD) : Vec F S512x2048 .f32 :=
  dequant (scaleOf (amaxAll x w c)) (up (F := F) (e := .i8) (code x w i o))

/-- All that is sent. -/
def sent : Sent F where
  S b k c := sums x w b (k / 7) (k % 7) c
  C := codesOf x w
  A := amax x w

/-- Within a pass, the next partial sum sent is the one that landed plus the device's own product. -/
theorem sent_next (b : Bool) {j : ℕ} (h : j % 7 < 6) (c : Dev nD) :
    (sent x w).S b (j + 1) c = addf (φ := .f32) ((sent x w).S b j (bk b 1 c)) (pr x w c (bk b (j % 7 + 2) c) (qtr b (j / 7))) := by
  show sums x w b ((j + 1) / 7) ((j + 1) % 7) c = _
  rw [show (j + 1) / 7 = j / 7 by omega, show (j + 1) % 7 = j % 7 + 1 by omega]; rfl
/-- At a pass's last hop, the landed sum plus the device's own product, cut at zero, is the final block. -/
theorem sent_last (b : Bool) {j : ℕ} (h : j % 7 = 6) (c : Dev nD) :
    relu (addf (φ := .f32) ((sent x w).S b j (bk b 1 c)) (pr x w c c (qtr b (j / 7)))) = final x w b (j / 7) c := by
  have e : bk b (6 + 2) c = c := by unfold bk; cases b <;> exact (sh_congr (by decide) c).trans (sh_zero c)
  conv_lhs => rw [show pr x w c c (qtr b (j / 7)) = pr x w c (bk b (6 + 2) c) (qtr b (j / 7)) by rw [e]]
  show relu (addf (φ := .f32) (sums x w b (j / 7) (j % 7) (bk b 1 c)) _) = _
  rw [h]; rfl

/-! ### Where the kernel's words put the blocks -/

/-- The rows a pass starts with to the right are those of the device one place back. -/
theorem off1_eq (c : Dev nD) : k0_off1 c = ![512 * (bk false 1 c).val, 0] := by revert c; decide +kernel
/-- The rows a pass starts with to the left are those of the device one place back against it. -/
theorem off2_eq (c : Dev nD) : k0_off2 c = ![512 * (bk true 1 c).val, 0] := by revert c; decide +kernel
/-- The rows multiplied during hop `h` to the right are those of the device `h + 2` places back. -/
theorem off3_eq (c : Dev nD) (h : Fin 6) : k0_off3 c (BitVec.ofNat 32 h.val) = ![512 * (bk false (h.val + 2) c).val, 0] := by revert c h; decide +kernel
/-- The same to the left. -/
theorem off4_eq (c : Dev nD) (h : Fin 6) : k0_off4 c (BitVec.ofNat 32 h.val) = ![512 * (bk true (h.val + 2) c).val, 0] := by revert c h; decide +kernel
/-- The rows multiplied last are the device's own. -/
theorem off5_eq (c : Dev nD) : k0_off5 c = ![512 * c.val, 0] := by revert c; decide +kernel

/-- Where quarter `i` of device `o`'s rows lies in the result. -/
def qoff (o : Dev nD) (i : Fin 4) : Fin 2 → Nat := ![512 * o.val, 2048 * i.val]
/-- Every quarter lies inside the result. -/
theorem qoff_inb (o : Dev nD) (i : Fin 4) : ∀ a, qoff o i a + S512x2048.size a ≤ S4096x8192.size a := by revert o i; decide +kernel
/-- A device's own quarters lie in its own rows. -/
theorem ownQ_eq (c : Dev nD) (i : Fin 4) : (ownQ c).o i = qoff c i := by revert c i; decide +kernel
/-- The quarters written during gather hop `a` lie in the rows of the devices `a` places back, one for each direction. -/
theorem gatherQ_eq (c : Dev nD) (a : Fin 7) (i : Fin 4) : (gatherQ c a).o i = qoff (bk (decide (2 ≤ i.val)) a.val c) i := by
  revert c a i; decide +kernel
/-- The quarters written at the end lie in the rows of the devices seven places back. -/
theorem endQ_eq (c : Dev nD) (i : Fin 4) : (endQ c).o i = qoff (bk (decide (2 ≤ i.val)) 7 c) i := by revert c i; decide +kernel
/-- A device writes its maximum into the row of its own number. -/
theorem off11_eq (c : Dev nD) : k0_off11 c = ![c.val, 0] := by revert c; decide +kernel
/-- The row waited for at step `j` is that of the device `1 + j` places on. -/
theorem off13_eq (c : Dev nD) (j : Fin 7) : k0_off13 c (BitVec.ofNat 32 (1 + j.val)) = ![(sh (1 + j.val) c).val, 0] := by revert c j; decide +kernel
/-- A maximum is announced on the semaphore of its sender's number. -/
theorem arr10_eq (c : Dev nD) : arrSem (k0_off10 c) (Facts₀.k0_off10_inb c) = rcvA c := by revert c; decide +kernel
/-- The semaphore waited on at step `j` is that of the device `1 + j` places on. -/
theorem arr12_eq (c : Dev nD) (j : Fin 7) : arrSem (k0_off12 c (BitVec.ofNat 32 (1 + j.val))) (Facts₀.k0_off12_inb c j) = rcvA (sh (1 + j.val) c) := by
  revert c j; decide +kernel

end Cert.Dist

end
-- ==== Proof.Passes.lean ====
/-
  The two passes: seven hops each, at whose end every device holds its own rows of two quarters of the product and copies
  them to the result.
-/
module

public import proofs.«01_k».proof.Proof.Contents

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Blocks of the result -/

/-- Quarter `i` of device `o`'s rows of the result, as a block of device `c`'s memory. -/
abbrev outQ (o : Dev nD) (i : Fin 4) : Memref sig .tc .hbm S512x2048 .f32 := outM (qoff o i) (qoff_inb o i)
abbrev ownO (c o : Dev nD) (i : Fin 4) (X : Vec F S512x2048 .f32) : sProp 𝕄 := owns (c : Thread nD τ) (outQ o i) fullShare X
abbrev anyO (c o : Dev nD) (i : Fin 4) : sProp 𝕄 := iprop(∃ X, ownO (F := F) c o i X)
/-- The counter of a local copy, at rest. -/
abbrev idle (c : Dev nD) (q : Fin 4) : sProp 𝕄 := semVal ((c : Thread nD τ), SemLoc.dma (locS q)) 0
/-- A local copy under way that will hand over `D`. -/
abbrev fly (c : Dev nD) (q : Fin 4) (D : sProp 𝕄) : sProp 𝕄 := Transfers.Flight EC (c : Thread nD τ) (.dma (locS q)) 0 NF D

/-- Local copies are at level 0. -/
theorem lv_loc (c : Dev nD) (q : Fin 4) : lv ((c : Thread nD τ), SemLoc.dma (locS q)) 0 = 0 := by
  have : kindOf (SemLoc.dma (locS q) : SemLoc sig) = none := by revert q; decide
  show (kindOf (SemLoc.dma (locS q) : SemLoc sig)).elim 0 _ = 0
  rw [this]; rfl

section Rules

variable (c : Dev nD) {α : Type}

/-- Starting a copy of a slot into a quarter of the result. -/
theorem wp_outStart (b : Bool) (s : Fin 2) (o : Dev nD) (i : Fin 4) (off : Fin 2 → Nat) (h : ∀ a, off a + S512x2048.size a ≤ S4096x8192.size a)
    (ho : off = qoff o i) (q : Fin 4) (X : Vec F S512x2048 .f32) {Q : α → sProp 𝕄} {k : PUnit → Pr F α} :
    iprop(ownS c b s X ∗ anyO c o i ∗ idle c q)
      ⊢ iprop((fly c q iprop(ownO c o i X ∗ ownS c b s X) -∗ WP c (k ⟨⟩) Q) -∗ WP c (outStart (bufS b) s off h (locS q) >>= k) Q) := by
  subst ho
  exact wp_copy c (slotM (bufS b) s) (outQ o i) (locS q) (by decide) fullShare X

/-- Waiting for a copy: it hands over what it was to. -/
theorem wp_outWait (b : Bool) (s : Fin 2) (o : Dev nD) (i : Fin 4) (off : Fin 2 → Nat) (h : ∀ a, off a + S512x2048.size a ≤ S4096x8192.size a)
    (ho : off = qoff o i) (q : Fin 4) (D : sProp 𝕄) (O : CellTallies nD τ sig ℕ) (hO : Above 0 O) {Q : α → sProp 𝕄} {k : PUnit → Pr F α} :
    iprop(levAts L lv ∗ fly c q D ∗ ows c O)
      ⊢ iprop(((D ∗ idle c q ∗ ows c O) -∗ WP c (k ⟨⟩) Q) -∗ WP c (outWait (bufS b) s off h (locS q) >>= k) Q) := by
  subst ho
  exact wp_copyWait c (slotM (bufS b) s) (outQ o i) (locS q) D O hO (lv_loc c q)

/-- Starting a copy of a quarter of the result back into a slot. -/
theorem wp_backStart (b : Bool) (s : Fin 2) (o : Dev nD) (i : Fin 4) (off : Fin 2 → Nat) (h : ∀ a, off a + S512x2048.size a ≤ S4096x8192.size a)
    (ho : off = qoff o i) (q : Fin 4) (X : Vec F S512x2048 .f32) {Q : α → sProp 𝕄} {k : PUnit → Pr F α} :
    iprop(ownO c o i X ∗ anyS c b s ∗ idle c q)
      ⊢ iprop((fly c q iprop(ownS c b s X ∗ ownO c o i X) -∗ WP c (k ⟨⟩) Q) -∗ WP c (backStart (bufS b) s off h (locS q) >>= k) Q) := by
  subst ho
  exact wp_copy c (outQ o i) (slotM (bufS b) s) (locS q) (by decide) fullShare X

/-- Two slots copied to two blocks of the result. -/
theorem wp_outPair (s : Fin 2) (o₁ o₂ : Dev nD) (i₁ i₂ : Fin 4) (f₁ f₂ : Fin 2 → Nat) (h₁ : ∀ a, f₁ a + S512x2048.size a ≤ S4096x8192.size a)
    (h₂ : ∀ a, f₂ a + S512x2048.size a ≤ S4096x8192.size a) (e₁ : f₁ = qoff o₁ i₁) (e₂ : f₂ = qoff o₂ i₂)
    (X Y : Vec F S512x2048 .f32) (O : CellTallies nD τ sig ℕ) (hO : Above 0 O) {Q : α → sProp 𝕄} {k : PUnit → Pr F α} :
    iprop(levAts L lv ∗ ownS c false s X ∗ ownS c true s Y ∗ anyO c o₁ i₁ ∗ anyO c o₂ i₂ ∗ idle c 0 ∗ idle c 1 ∗ ows c O)
      ⊢ iprop(((ownS c false s X ∗ ownS c true s Y ∗ ownO c o₁ i₁ X ∗ ownO c o₂ i₂ Y ∗ idle c 0 ∗ idle c 1 ∗ ows c O) -∗ WP c (k ⟨⟩) Q)
          -∗ WP c (outPair s f₁ f₂ h₁ h₂ >>= k) Q) := by
  iintro ⟨#HR, HX, HY, HA, HB, H0, H1, HO⟩ Hk
  simp only [outPair, bind_assoc]
  iapply (wp_outStart c false s o₁ i₁ f₁ h₁ e₁ 0 X) $$ [HX HA H0]
  · isplitl [HX]; · iexact HX
    isplitl [HA] <;> iassumption
  iintro HF
  iapply (wp_outStart c true s o₂ i₂ f₂ h₂ e₂ 1 Y) $$ [HY HB H1]
  · isplitl [HY]; · iexact HY
    isplitl [HB] <;> iassumption
  iintro HF'
  iapply (wp_outWait c false s o₁ i₁ f₁ h₁ e₁ 0 _ O hO) $$ [HF HO]
  · isplitr; · iexact HR
    isplitl [HF] <;> iassumption
  iintro ⟨⟨HA, HX⟩, H0, HO⟩
  iapply (wp_outWait c true s o₂ i₂ f₂ h₂ e₂ 1 _ O hO) $$ [HF' HO]
  · isplitr; · iexact HR
    isplitl [HF'] <;> iassumption
  iintro ⟨⟨HB, HY⟩, H1, HO⟩
  iapply Hk
  isplitl [HX]; · iexact HX
  isplitl [HY]; · iexact HY
  isplitl [HA]; · iexact HA
  isplitl [HB]; · iexact HB
  isplitl [H0]; · iexact H0
  isplitl [H1] <;> iassumption

end Rules

/-- What a device owes can be taken out of its state and put back. -/
theorem done_ows (B : CellTallies nD τ sig ℕ) (j : ℕ) (c : Dev nD) :
    (Done (F := F) B j c : sProp 𝕄) ⊢ iprop(ows c (Owe B c (j + 1)) ∗ (ows c (Owe B c (j + 1)) -∗ Done B j c)) := by
  unfold Done Base
  iintro ⟨⟨H1, H2, H3, H4, H5, HO⟩, H6, H7, H8⟩
  isplitl [HO]; · iexact HO
  iintro HO
  isplitl [H1 H2 H3 H4 H5 HO]
  · isplitl [H1]; · iexact H1
    isplitl [H2]; · iexact H2
    isplitl [H3]; · iexact H3
    isplitl [H4]; · iexact H4
    isplitl [H5] <;> iassumption
  isplitl [H6]; · iexact H6
  isplitl [H7] <;> iassumption

variable (x : Dev nD → Vec F S4096x512 .f32) (w : Dev nD → Vec F S512x8192 .f32) (K : Dev nD × Kd → ℕ)

/-- The two blocks device `c` sends at hop `j`, in its slots. -/
def Srcs (j : ℕ) (c : Dev nD) : sProp 𝕄 :=
  iprop(ownS c false (par j) ((sent x w).S false j c) ∗ ownS c true (par j) ((sent x w).S true j c))

section Rules

variable (c : Dev nD) {α : Type}

/-- A hop of a pass that is not its last. -/
theorem wp_hopAt (B : CellTallies nD τ sig ℕ) (j : ℕ) (hj : j < 13) (hB : Above 44 B) (hB0 : B ≠ 0) (s t : Fin 2) (hs : s = par j) (ht : t = par (j + 1))
    (h : Fin 6) (hjh : j % 7 = h.val) (p q : Fin 4) (hp : p = qtr false (j / 7)) (hq : q = qtr true (j / 7))
    {Q : α → sProp 𝕄} {k : PUnit → Pr F α} :
    iprop(Recs (sent x w) K ∗ Ready B j c ∗ Srcs x w j c ∗ ins c (x c) (w c))
      ⊢ iprop(((Done B j c ∗ Srcs x w (j + 1) c ∗ ins c (x c) (w c)) -∗ WP c (k ⟨⟩) Q) -∗ WP c (hopAt s t c h p q >>= k) Q) := by
  subst hp hq
  have hlt : j % 7 < 6 := by have := h.isLt; omega
  unfold Srcs
  iintro ⟨#HR, Hready, ⟨HS, HS'⟩, Hin⟩ Hk
  simp only [hopAt, hopMid, bind_assoc]
  iapply (wp_hopS (sent x w) K c (x c) (w c) B j (by omega) hB hB0 s t hs ht (devL c) (devR c) (devL_eq c) (devR_eq c)
    (bk false (h.val + 2) c) (bk true (h.val + 2) c) _ _ _ _ _ _ (off3_eq c h) (off4_eq c h)) $$ [Hready HS HS' Hin]
  · isplitr; · iexact HR
    isplitl [Hready]; · iexact Hready
    isplitl [HS]; · rw [hs]; iexact HS
    isplitl [HS']; · rw [hs]; iexact HS'
    isplitl [Hin]; · iexact Hin
    unfold extraIn
    rw [if_neg (show ¬ j = 13 by omega), if_neg (show ¬ j = 13 by omega)]
    isplitr <;> iempintro
  iintro ⟨Hdone, HS, HS', Hin, -, -⟩
  iapply (wp_accS c false t _ _) $$ HS
  iintro HS
  iapply (wp_accS c true t _ _) $$ HS'
  iintro HS'
  iapply Hk
  isplitl [Hdone]; · iexact Hdone
  isplitl [HS HS']
  · rw [sent_next x w false hlt c, sent_next x w true hlt c, ← ht, hjh]
    isplitl [HS]; · iexact HS
    iexact HS'
  iexact Hin

/-- The last hop of a pass: the final blocks, and the running maximum. -/
theorem wp_lastAt (B : CellTallies nD τ sig ℕ) (j : ℕ) (hj : j < 14) (hj6 : j % 7 = 6) (hB : Above 44 B) (hB0 : B ≠ 0) (s t : Fin 2) (hs : s = par j) (ht : t = par (j + 1))
    (p q : Fin 4) (hp : p = qtr false (j / 7)) (hq : q = qtr true (j / 7)) (a : F .f32)
    {Q : α → sProp 𝕄} {k : F .f32 → Pr F α} :
    iprop(Recs (sent x w) K ∗ Ready B j c ∗ Srcs x w j c ∗ ins c (x c) (w c) ∗ extraIn c false j ∗ extraIn c true j)
      ⊢ iprop(((Done B j c ∗ ownS c false t (final x w false (j / 7) c) ∗ ownS c true t (final x w true (j / 7) c) ∗ ins c (x c) (w c)
              ∗ kept c false j ∗ kept c true j)
            -∗ WP c (k (maxStep a (final x w false (j / 7) c) (final x w true (j / 7) c))) Q) -∗ WP c (lastAt s t c p q a >>= k) Q) := by
  subst hp hq
  unfold Srcs
  iintro ⟨#HR, Hready, ⟨HS, HS'⟩, Hin, Hex, Hex'⟩ Hk
  simp only [lastAt, hopLast, bind_assoc]
  iapply (wp_hopS (sent x w) K c (x c) (w c) B j (by omega) hB hB0 s t hs ht (devL c) (devR c) (devL_eq c) (devR_eq c)
    c c _ _ _ _ _ _ (off5_eq c) (off5_eq c)) $$ [Hready HS HS' Hin Hex Hex']
  · isplitr; · iexact HR
    isplitl [Hready]; · iexact Hready
    isplitl [HS]; · rw [hs]; iexact HS
    isplitl [HS']; · rw [hs]; iexact HS'
    isplitl [Hin]; · iexact Hin
    isplitl [Hex] <;> iassumption
  iintro ⟨Hdone, HS, HS', Hin, Hk₁, Hk₂⟩
  iapply (wp_lastS c t _ _ _ _ a) $$ [HS HS']
  · isplitl [HS]; · iexact HS
    iexact HS'
  iintro ⟨HS, HS'⟩
  have e₁ := sent_last x w false hj6 c
  have e₂ := sent_last x w true hj6 c
  unfold pr at e₁ e₂
  dsimp only
  rw [e₁, e₂]
  iapply Hk
  isplitl [Hdone]; · iexact Hdone
  isplitl [HS]; · iexact HS
  isplitl [HS']; · iexact HS'
  isplitl [Hin]; · iexact Hin
  isplitl [Hk₁] <;> iassumption

/-- What holds between a hop and the next. -/
def Mid (j : ℕ) (c : Dev nD) : sProp 𝕄 := iprop(Done (oweA c) j c ∗ Srcs x w (j + 1) c ∗ ins c (x c) (w c))

/-- The maxima owed lie above level 44. -/
theorem above_A (c : Dev nD) : Above 44 (oweA c) := above_oweA c (by omega)

/-- The credits of a hop, and the next hop. -/
theorem wp_next (j : ℕ) (hj : j < 12) (s t : Fin 2) (hs : s = par (j + 1)) (ht : t = par (j + 2))
    (h : Fin 6) (hjh : (j + 1) % 7 = h.val) (p q : Fin 4) (hp : p = qtr false ((j + 1) / 7)) (hq : q = qtr true ((j + 1) / 7))
    {Q : α → sProp 𝕄} {k : PUnit → Pr F α} :
    iprop(Recs (sent x w) K ∗ Mid x w j c) ⊢ iprop((Mid x w (j + 1) c -∗ WP c (k ⟨⟩) Q) -∗ WP c (creditWait >>= fun _ => hopAt s t c h p q >>= k) Q) := by
  unfold Mid
  iintro ⟨#HR, Hd, HS, Hin⟩ Hk
  iapply (wp_creditWait (sent x w) K c (oweA c) j (by omega) (above_oweA c (by omega))) $$ [Hd]
  · isplitr; · iexact HR
    iexact Hd
  iintro Hd
  iapply (wp_hopAt x w K c (oweA c) (j + 1) (by omega) (above_A c) (oweA_ne c) s t hs ht h hjh p q hp hq) $$ [Hd HS Hin]
  · isplitr; · iexact HR
    isplitl [Hd]; · iexact Hd
    isplitl [HS] <;> iassumption
  iexact Hk

/-- The first products of a pass. -/
theorem wp_firstAt (j : ℕ) (hj : j % 7 = 0) (s : Fin 2) (hs : s = par j) (p q : Fin 4) (hp : p = qtr false (j / 7)) (hq : q = qtr true (j / 7))
    {Q : α → sProp 𝕄} {k : PUnit → Pr F α} :
    iprop(anyS c false s ∗ anyS c true s ∗ ins c (x c) (w c))
      ⊢ iprop(((Srcs x w j c ∗ ins c (x c) (w c)) -∗ WP c (k ⟨⟩) Q) -∗ WP c (firstAt s c p q >>= k) Q) := by
  subst hp hq hs
  iintro ⟨HS, HS', Hin⟩ Hk
  simp only [firstAt, firstPair, bind_assoc]
  iapply (wp_firstS c (x c) (w c) false (par j) (bk false 1 c) _ _ _ (off1_eq c)) $$ [HS Hin]
  · isplitl [Hin] <;> iassumption
  iintro ⟨Hin, HS⟩
  iapply (wp_firstS c (x c) (w c) true (par j) (bk true 1 c) _ _ _ (off2_eq c)) $$ [HS' Hin]
  · isplitl [Hin] <;> iassumption
  iintro ⟨Hin, HS'⟩
  iapply Hk
  unfold Srcs
  rw [show (sent x w).S false j c = pr x w c (bk false 1 c) (qtr false (j / 7)) by show sums x w false (j / 7) (j % 7) c = _; rw [hj]; rfl,
    show (sent x w).S true j c = pr x w c (bk true 1 c) (qtr true (j / 7)) by show sums x w true (j / 7) (j % 7) c = _; rw [hj]; rfl]
  isplitl [HS HS']
  · isplitl [HS]; · iexact HS
    iexact HS'
  iexact Hin

/-- The first pass. -/
theorem wp_pass₀ {Q : α → sProp 𝕄} {k : F .f32 → Pr F α} :
    iprop(Recs (sent x w) K ∗ Ready (oweA c) 0 c ∗ anyS c false 0 ∗ anyS c true 0 ∗ ins c (x c) (w c)
        ∗ anyO c c 0 ∗ anyO c c 1 ∗ idle c 0 ∗ idle c 1)
      ⊢ iprop(((Done (oweA c) 6 c ∗ anyS c false 1 ∗ anyS c true 1 ∗ ins c (x c) (w c)
              ∗ ownO c c 0 (final x w false 0 c) ∗ ownO c c 1 (final x w true 0 c) ∗ idle c 0 ∗ idle c 1)
            -∗ WP c (k (maxStep (Scalar.ofBits .f32 0x00000000#32) (final x w false 0 c) (final x w true 0 c))) Q)
          -∗ WP c (pass₀ c >>= k) Q) := by
  iintro ⟨#HR, Hready, HS, HS', Hin, HA, HB, H0, H1⟩ Hk
  simp only [pass₀, bind_assoc]
  iapply (wp_firstAt x w c 0 rfl 0 rfl 0 1 rfl rfl) $$ [HS HS' Hin]
  · isplitl [HS]; · iexact HS
    isplitl [HS'] <;> iassumption
  iintro ⟨HS, Hin⟩
  iapply (wp_hopAt x w K c (oweA c) 0 (by omega) (above_A c) (oweA_ne c) 0 1 rfl rfl 0 rfl 0 1 rfl rfl) $$ [Hready HS Hin]
  · isplitr; · iexact HR
    isplitl [Hready]; · iexact Hready
    isplitl [HS] <;> iassumption
  iintro HM₀
  ihave HM : Mid x w 0 c $$ [HM₀]
  · unfold Mid
    iexact HM₀
  iapply (wp_next x w K c 0 (by omega) 1 0 rfl rfl 1 rfl 0 1 rfl rfl) $$ [HM]
  · isplitr; · iexact HR
    iexact HM
  iintro HM
  iapply (wp_next x w K c 1 (by omega) 0 1 rfl rfl 2 rfl 0 1 rfl rfl) $$ [HM]
  · isplitr; · iexact HR
    iexact HM
  iintro HM
  iapply (wp_next x w K c 2 (by omega) 1 0 rfl rfl 3 rfl 0 1 rfl rfl) $$ [HM]
  · isplitr; · iexact HR
    iexact HM
  iintro HM
  iapply (wp_next x w K c 3 (by omega) 0 1 rfl rfl 4 rfl 0 1 rfl rfl) $$ [HM]
  · isplitr; · iexact HR
    iexact HM
  iintro HM
  iapply (wp_next x w K c 4 (by omega) 1 0 rfl rfl 5 rfl 0 1 rfl rfl) $$ [HM]
  · isplitr; · iexact HR
    iexact HM
  unfold Mid
  iintro ⟨Hd, HS, Hin⟩
  iapply (wp_creditWait (sent x w) K c (oweA c) 5 (by omega) (above_oweA c (by omega))) $$ [Hd]
  · isplitr; · iexact HR
    iexact Hd
  iintro Hd
  iapply (wp_lastAt x w K c (oweA c) 6 (by omega) rfl (above_A c) (oweA_ne c) 0 1 rfl rfl 0 1 rfl rfl _) $$ [Hd HS Hin]
  · isplitr; · iexact HR
    isplitl [Hd]; · iexact Hd
    isplitl [HS]; · iexact HS
    isplitl [Hin]; · iexact Hin
    unfold extraIn
    rw [if_neg (show ¬ 6 = 13 by omega), if_neg (show ¬ 6 = 13 by omega)]
    isplitr <;> iempintro
  iintro ⟨Hd, HS, HS', Hin, -, -⟩
  ihave Hd' := (done_ows (oweA c) 6 c) $$ Hd
  icases Hd' with ⟨HO, Hd⟩
  iapply (wp_outPair c 1 c c 0 1 _ _ _ _ (ownQ_eq c 0) (ownQ_eq c 1) _ _ (Owe (oweA c) c 7) (above_Owe _ c (above_oweA c (by omega)) (by omega)))
    $$ [HS HS' HA HB H0 H1 HO]
  · isplitr; · iapply (lev_at (sent x w) K); iexact HR
    isplitl [HS]; · iexact HS
    isplitl [HS']; · iexact HS'
    isplitl [HA]; · iexact HA
    isplitl [HB]; · iexact HB
    isplitl [H0]; · iexact H0
    isplitl [H1] <;> iassumption
  iintro ⟨HS, HS', HA, HB, H0, H1, HO⟩
  rw [pure_bind]
  iapply Hk
  isplitl [HO Hd]; · iapply Hd; iexact HO
  isplitl [HS]; · iexists _; iexact HS
  isplitl [HS']; · iexists _; iexact HS'
  isplitl [Hin]; · iexact Hin
  isplitl [HA]; · iexact HA
  isplitl [HB]; · iexact HB
  isplitl [H0] <;> iassumption

/-- The second pass: at its end slot 1 of the codes has been handed on, both slots of the partial sums are the device's own. -/
theorem wp_pass₁ (a : F .f32) {Q : α → sProp 𝕄} {k : F .f32 → Pr F α} :
    iprop(Recs (sent x w) K ∗ Done (oweA c) 6 c ∗ anyS c false 1 ∗ anyS c true 1 ∗ ins c (x c) (w c)
        ∗ anyB c false 1 fullShare ∗ anyB c true 1 fullShare ∗ anyO c c 2 ∗ anyO c c 3 ∗ idle c 0 ∗ idle c 1)
      ⊢ iprop(((Done (oweA c) 13 c ∗ (anyS c false 0 ∗ anyS c true 0 ∗ anyS c false 1 ∗ anyS c true 1) ∗ ins c (x c) (w c)
              ∗ ownO c c 2 (final x w false 1 c) ∗ ownO c c 3 (final x w true 1 c) ∗ idle c 0 ∗ idle c 1)
            -∗ WP c (k (maxStep a (final x w false 1 c) (final x w true 1 c))) Q)
          -∗ WP c (pass₁ c a >>= k) Q) := by
  iintro ⟨#HR, Hd, HS, HS', Hin, HBf, HBt, HA, HB, H0, H1⟩ Hk
  simp only [pass₁, bind_assoc]
  iapply (wp_firstAt x w c 7 rfl 1 rfl 2 3 rfl rfl) $$ [HS HS' Hin]
  · isplitl [HS]; · iexact HS
    isplitl [HS'] <;> iassumption
  iintro ⟨HS, Hin⟩
  ihave HM : Mid x w 6 c $$ [Hd HS Hin]
  · unfold Mid
    isplitl [Hd]; · iexact Hd
    isplitl [HS] <;> iassumption
  iapply (wp_next x w K c 6 (by omega) 1 0 rfl rfl 0 rfl 2 3 rfl rfl) $$ [HM]
  · isplitr; · iexact HR
    iexact HM
  iintro HM
  iapply (wp_next x w K c 7 (by omega) 0 1 rfl rfl 1 rfl 2 3 rfl rfl) $$ [HM]
  · isplitr; · iexact HR
    iexact HM
  iintro HM
  iapply (wp_next x w K c 8 (by omega) 1 0 rfl rfl 2 rfl 2 3 rfl rfl) $$ [HM]
  · isplitr; · iexact HR
    iexact HM
  iintro HM
  iapply (wp_next x w K c 9 (by omega) 0 1 rfl rfl 3 rfl 2 3 rfl rfl) $$ [HM]
  · isplitr; · iexact HR
    iexact HM
  iintro HM
  iapply (wp_next x w K c 10 (by omega) 1 0 rfl rfl 4 rfl 2 3 rfl rfl) $$ [HM]
  · isplitr; · iexact HR
    iexact HM
  iintro HM
  iapply (wp_next x w K c 11 (by omega) 0 1 rfl rfl 5 rfl 2 3 rfl rfl) $$ [HM]
  · isplitr; · iexact HR
    iexact HM
  unfold Mid
  iintro ⟨Hd, HS, Hin⟩
  iapply (wp_creditWait (sent x w) K c (oweA c) 12 (by omega) (above_oweA c (by omega))) $$ [Hd]
  · isplitr; · iexact HR
    iexact Hd
  iintro Hd
  iapply (wp_lastAt x w K c (oweA c) 13 (by omega) rfl (above_A c) (oweA_ne c) 1 0 rfl rfl 2 3 rfl rfl a) $$ [Hd HS Hin HBf HBt]
  · isplitr; · iexact HR
    isplitl [Hd]; · iexact Hd
    isplitl [HS]; · iexact HS
    isplitl [Hin]; · iexact Hin
    unfold extraIn
    rw [if_pos (show 13 = 13 from rfl), if_pos (show 13 = 13 from rfl)]
    isplitl [HBf]; · iexact HBf
    iexact HBt
  unfold kept
  rw [if_pos (show 13 = 13 from rfl), if_pos (show 13 = 13 from rfl)]
  iintro ⟨Hd, HS, HS', Hin, Hk₁, Hk₂⟩
  ihave Hd' := (done_ows (oweA c) 13 c) $$ Hd
  icases Hd' with ⟨HO, Hd⟩
  iapply (wp_outPair c 0 c c 2 3 _ _ _ _ (ownQ_eq c 2) (ownQ_eq c 3) _ _ (Owe (oweA c) c 14) (above_Owe _ c (above_oweA c (by omega)) (by omega)))
    $$ [HS HS' HA HB H0 H1 HO]
  · isplitr; · iapply (lev_at (sent x w) K); iexact HR
    isplitl [HS]; · iexact HS
    isplitl [HS']; · iexact HS'
    isplitl [HA]; · iexact HA
    isplitl [HB]; · iexact HB
    isplitl [H0]; · iexact H0
    isplitl [H1] <;> iassumption
  iintro ⟨HS, HS', HA, HB, H0, H1, HO⟩
  rw [pure_bind]
  iapply Hk
  isplitl [HO Hd]; · iapply Hd; iexact HO
  isplitl [HS HS' Hk₁ Hk₂]
  · isplitl [HS]; · iexists _; iexact HS
    isplitl [HS']; · iexists _; iexact HS'
    isplitl [Hk₁]; · iexact Hk₁
    iexact Hk₂
  isplitl [Hin]; · iexact Hin
  isplitl [HA]; · iexact HA
  isplitl [HB]; · iexact HB
  isplitl [H0] <;> iassumption

end Rules

end Cert.Dist

end
-- ==== Proof.Gather.lean ====
/-
  The gathering of the codes: seven hops, at each of which a device writes the rows whose codes it holds and sends the
  codes on.
-/
module

public import proofs.«01_k».proof.Proof.Passes
public import Idealize.ShloMosaic.Lib.MemrefSat

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The four slots of partial sums, free. -/
def Slots (c : Dev nD) : sProp 𝕄 :=
  iprop(anyS (F := F) c false 0 ∗ anyS (F := F) c false 1 ∗ anyS (F := F) c true 0 ∗ anyS (F := F) c true 1)
/-- The counters of the four local copies, at rest. -/
def Idles (c : Dev nD) : sProp 𝕄 := iprop(idle (F := F) c 0 ∗ idle (F := F) c 1 ∗ idle (F := F) c 2 ∗ idle (F := F) c 3)
/-- The quarters of the result that one hop writes: two of the rows of device `o`, two of those of `o'`. -/
def Outs (c o o' : Dev nD) : sProp 𝕄 := iprop(anyO (F := F) c o 0 ∗ anyO (F := F) c o 1 ∗ anyO (F := F) c o' 2 ∗ anyO (F := F) c o' 3)
/-- Those quarters with the values of the codes `X` and `X'`. -/
def OutsAt (c o o' : Dev nD) (sc : F .f32) (X X' : Vec F S512x4096 .i8) : sProp 𝕄 :=
  iprop(ownO c o 0 (dequant sc (up (F := F) (e := .i8) (halfOf X 0))) ∗ ownO c o 1 (dequant sc (up (F := F) (e := .i8) (halfOf X 1)))
    ∗ ownO c o' 2 (dequant sc (up (F := F) (e := .i8) (halfOf X' 0))) ∗ ownO c o' 3 (dequant sc (up (F := F) (e := .i8) (halfOf X' 1))))
/-- A quarter on its way out of a slot. -/
def flyQ (c o : Dev nD) (b : Bool) (t : Fin 2) (i q : Fin 4) (Z : Vec F S512x2048 .f32) : sProp 𝕄 :=
  fly c q iprop(ownO c o i Z ∗ ownS c b t Z)
/-- All four. -/
def Flys (c o o' : Dev nD) (sc : F .f32) (X X' : Vec F S512x4096 .i8) : sProp 𝕄 :=
  iprop(flyQ c o false 0 0 0 (dequant sc (up (F := F) (e := .i8) (halfOf X 0))) ∗ flyQ c o false 1 1 1 (dequant sc (up (F := F) (e := .i8) (halfOf X 1)))
    ∗ flyQ c o' true 0 2 2 (dequant sc (up (F := F) (e := .i8) (halfOf X' 0))) ∗ flyQ c o' true 1 3 3 (dequant sc (up (F := F) (e := .i8) (halfOf X' 1))))

section Rules

variable (c : Dev nD) {α : Type}

/-- Half a slot of codes is turned into numbers in a slot of sums, and that slot's copy into the result is started. -/
theorem wp_dequantStart (b : Bool) (s j t : Fin 2) (o : Dev nD) (i : Fin 4) (off : Fin 2 → Nat)
    (h : ∀ a, off a + S512x2048.size a ≤ S4096x8192.size a) (ho : off = qoff o i) (q : Fin 4) (sc : F .f32) (qs : PosShare TreeShare)
    (X : Vec F S512x4096 .i8) {Q : α → sProp 𝕄} {k : PUnit → Pr F α} :
    iprop(ownB c b s qs X ∗ anyS c b t ∗ anyO c o i ∗ idle c q)
      ⊢ iprop(((ownB c b s qs X ∗ flyQ c o b t i q (dequant sc (up (F := F) (e := .i8) (halfOf X j)))) -∗ WP c (k ⟨⟩) Q)
          -∗ WP c (dequantStart (bufB b) (bufS b) s j t off h (locS q) sc >>= k) Q) := by
  iintro ⟨HB, ⟨%Y, HS⟩, HA, H0⟩ Hk
  simp only [dequantStart, bind_assoc]
  iapply (wp_ldB c (bufB b) s j qs X) $$ HB
  iintro HB
  iapply (wp_ldS c (bufS b) t fullShare Y) $$ HS
  iintro HS
  iapply (wp_stS c (bufS b) t Y _) $$ HS
  iintro HS
  iapply (wp_outStart c b t o i off h ho q _) $$ [HS HA H0]
  · isplitl [HS]; · iexact HS
    isplitl [HA] <;> iassumption
  iintro HF
  iapply Hk
  isplitl [HB]; · iexact HB
  unfold flyQ
  iexact HF

/-- The four quarters started on their way. -/
theorem wp_writeStart (s : Fin 2) (Qr : Quarters) (o o' : Dev nD) (e0 : Qr.o 0 = qoff o 0) (e1 : Qr.o 1 = qoff o 1) (e2 : Qr.o 2 = qoff o' 2)
    (e3 : Qr.o 3 = qoff o' 3) (sc : F .f32) (qs : PosShare TreeShare) (X X' : Vec F S512x4096 .i8) {Q : α → sProp 𝕄} {k : PUnit → Pr F α} :
    iprop(ownB c false s qs X ∗ ownB c true s qs X' ∗ Slots c ∗ Outs c o o' ∗ Idles c)
      ⊢ iprop(((ownB c false s qs X ∗ ownB c true s qs X' ∗ Flys c o o' sc X X') -∗ WP c (k ⟨⟩) Q)
          -∗ WP c (writeStart s Qr sc >>= k) Q) := by
  unfold Slots Outs Idles Flys
  iintro ⟨HB, HB', ⟨HS0, HS1, HS2, HS3⟩, ⟨HA0, HA1, HA2, HA3⟩, ⟨H0, H1, H2, H3⟩⟩ Hk
  simp only [writeStart, bind_assoc]
  iapply (wp_dequantStart c false s 0 0 o 0 _ _ e0 0 sc qs X) $$ [HB HS0 HA0 H0]
  · isplitl [HB]; · iexact HB
    isplitl [HS0]; · iexact HS0
    isplitl [HA0] <;> iassumption
  iintro ⟨HB, H0⟩
  iapply (wp_dequantStart c false s 1 1 o 1 _ _ e1 1 sc qs X) $$ [HB HS1 HA1 H1]
  · isplitl [HB]; · iexact HB
    isplitl [HS1]; · iexact HS1
    isplitl [HA1] <;> iassumption
  iintro ⟨HB, H1⟩
  iapply (wp_dequantStart c true s 0 0 o' 2 _ _ e2 2 sc qs X') $$ [HB' HS2 HA2 H2]
  · isplitl [HB']; · iexact HB'
    isplitl [HS2]; · iexact HS2
    isplitl [HA2] <;> iassumption
  iintro ⟨HB', H2⟩
  iapply (wp_dequantStart c true s 1 1 o' 3 _ _ e3 3 sc qs X') $$ [HB' HS3 HA3 H3]
  · isplitl [HB']; · iexact HB'
    isplitl [HS3]; · iexact HS3
    isplitl [HA3] <;> iassumption
  iintro ⟨HB', H3⟩
  iapply Hk
  isplitl [HB]; · iexact HB
  isplitl [HB']; · iexact HB'
  isplitl [H0]; · iexact H0
  isplitl [H1]; · iexact H1
  isplitl [H2] <;> iassumption

/-- The four quarters waited for. -/
theorem wp_writeWait (Qr : Quarters) (o o' : Dev nD) (e0 : Qr.o 0 = qoff o 0) (e1 : Qr.o 1 = qoff o 1) (e2 : Qr.o 2 = qoff o' 2)
    (e3 : Qr.o 3 = qoff o' 3) (sc : F .f32) (X X' : Vec F S512x4096 .i8) (O : CellTallies nD τ sig ℕ) (hO : Above 0 O)
    {Q : α → sProp 𝕄} {k : PUnit → Pr F α} :
    iprop(levAts L lv ∗ Flys c o o' sc X X' ∗ ows c O)
      ⊢ iprop(((Slots c ∗ OutsAt c o o' sc X X' ∗ Idles c ∗ ows c O) -∗ WP c (k ⟨⟩) Q) -∗ WP c (writeWait Qr >>= k) Q) := by
  unfold Slots OutsAt Idles Flys flyQ
  iintro ⟨#HR, ⟨H0, H1, H2, H3⟩, HO⟩ Hk
  simp only [writeWait, bind_assoc]
  iapply (wp_outWait c false 0 o 0 _ _ e0 0 _ O hO) $$ [H0 HO]
  · isplitr; · iexact HR
    isplitl [H0] <;> iassumption
  iintro ⟨⟨HA0, HS0⟩, H0, HO⟩
  iapply (wp_outWait c false 1 o 1 _ _ e1 1 _ O hO) $$ [H1 HO]
  · isplitr; · iexact HR
    isplitl [H1] <;> iassumption
  iintro ⟨⟨HA1, HS1⟩, H1, HO⟩
  iapply (wp_outWait c true 0 o' 2 _ _ e2 2 _ O hO) $$ [H2 HO]
  · isplitr; · iexact HR
    isplitl [H2] <;> iassumption
  iintro ⟨⟨HA2, HS2⟩, H2, HO⟩
  iapply (wp_outWait c true 1 o' 3 _ _ e3 3 _ O hO) $$ [H3 HO]
  · isplitr; · iexact HR
    isplitl [H3] <;> iassumption
  iintro ⟨⟨HA3, HS3⟩, H3, HO⟩
  iapply Hk
  isplitl [HS0 HS1 HS2 HS3]
  · isplitl [HS0]; · iexists _; iexact HS0
    isplitl [HS1]; · iexists _; iexact HS1
    isplitl [HS2]; · iexists _; iexact HS2
    iexists _; iexact HS3
  isplitl [HA0 HA1 HA2 HA3]
  · isplitl [HA0]; · iexact HA0
    isplitl [HA1]; · iexact HA1
    isplitl [HA2] <;> iassumption
  isplitl [H0 H1 H2 H3]
  · isplitl [H0]; · iexact H0
    isplitl [H1]; · iexact H1
    isplitl [H2] <;> iassumption
  iexact HO

/-- The slot of codes kept at the last hop. -/
def keptB (b : Bool) (j : ℕ) : sProp 𝕄 := if j = 20 then anyB (F := F) c b (par j) fullShare else iprop(emp)

/-- At the end of a gather hop the slot of codes is freed for the neighbour, or kept at the last one. -/
theorem free_keep (b : Bool) {j : ℕ} (hj : 14 ≤ j) (hj' : j ≤ 20) :
    (anyB (F := F) c b (par j) fullShare : sProp 𝕄) ⊢ iprop(freeOwn c b j ∗ keptB c b j) := by
  unfold freeOwn keptB
  rw [if_neg (show ¬ j < 13 by omega)]
  by_cases h : j = 20
  · rw [if_neg (show ¬ j < 20 by omega), if_pos h]
    iintro H; isplitr; · iempintro
    iexact H
  · rw [if_pos (show j < 20 by omega), if_neg h]
    iintro H; isplitl [H]; · iexact H
    iempintro

/-- The lent half of a slot of codes put back. -/
theorem codes_back (b : Bool) (s : Fin 2) (X : Vec F S512x4096 .i8) :
    iprop(ownB c b s fullShare.left X ∗ anyB (F := F) c b s fullShare.right) ⊢ (anyB (F := F) c b s fullShare : sProp 𝕄) := by
  iintro ⟨H, ⟨%Y, H'⟩⟩
  iexists X
  iapply (owns_rejoin (c : Thread nD τ) (bslotM (bufB b) s) fullShare X (Φ := fun _ => True))
  isplitl [H]; · iexact H
  iapply ((ownsSat_true (c : Thread nD τ) (bslotM (bufB b) s) fullShare.right)).2
  iexists Y; iexact H'

/-- One place on and `n + 1` back is `n` back. -/
theorem bk_of_fwd (b : Bool) (n : ℕ) : bk b (n + 1) (fwd b c) = bk b n c := by
  rw [show n + 1 = 1 + n by omega, ← bk_bk, bk_fwd]

/-- What lands at a gather hop is a whole slot of codes, those of the device `j - 13` places back. -/
theorem landed_B (V : Sent F) (b : Bool) {j : ℕ} (hj : 14 ≤ j) : (landPay V b j c : sProp 𝕄)
    ⊢ iprop(ownB c b (par (j + 1)) fullShare (V.C b (bk b (j - 13) c)) ∗ reached ER (cell (bk b 1 c) (.cred b)) j ∗ rowsWith b j c) := by
  unfold landPay blockAt; rw [if_neg (show ¬ j < 14 by omega)]

/-- No row of the maxima comes with a gather hop. -/
theorem rowsWith_late {j : ℕ} (hj : 14 ≤ j) (d : Dev nD) : rowsWith (F := F) false j d = iprop(emp) := by
  unfold rowsWith; exact if_neg (by rintro ⟨-, h⟩; omega)

/-- One hop of the gathering. -/
theorem wp_hopB (V : Sent F) (K : Dev nD × Kd → ℕ) (j : ℕ) (hj : 14 ≤ j) (hj' : j ≤ 20) (s t : Fin 2) (hs : s = par j) (ht : t = par (j + 1))
    (l r : Dev nD) (hl : l = sh 7 c) (hr : r = sh 1 c) (Qr : Quarters) (o o' : Dev nD) (e0 : Qr.o 0 = qoff o 0) (e1 : Qr.o 1 = qoff o 1)
    (e2 : Qr.o 2 = qoff o' 2) (e3 : Qr.o 3 = qoff o' 3) (ho : o = bk false (j - 14) c) (ho' : o' = bk true (j - 14) c) (sc : F .f32)
    {Q : α → sProp 𝕄} {k : PUnit → Pr F α} :
    iprop(Recs V K ∗ Ready 0 j c ∗ ownB c false s fullShare (V.C false o) ∗ ownB c true s fullShare (V.C true o') ∗ Slots c ∗ Outs c o o' ∗ Idles c)
      ⊢ iprop(((Done 0 j c ∗ ownB c false t fullShare (V.C false (bk false (j - 13) c)) ∗ ownB c true t fullShare (V.C true (bk true (j - 13) c))
              ∗ Slots c ∗ OutsAt c o o' sc (V.C false o) (V.C true o') ∗ Idles c ∗ keptB c false j ∗ keptB c true j) -∗ WP c (k ⟨⟩) Q)
          -∗ WP c (hopB s t l r Qr sc >>= k) Q) := by
  subst hs ht
  have hNF : NB = NH j := (if_neg (show ¬ j < 14 by omega)).symm
  have hO₁ : ∀ n, n < 3 * j + 5 → Above n (Owe 0 c (j + 1) + due₂ c j) := fun n hn =>
    (above_Owe 0 c (Above.zero _) (by omega)).add (above_due₂ c (by omega) hn)
  unfold Ready Base
  rw [Owe_step 0 c hj', Rem_step false c hj', Rem_step true c hj']
  unfold due due₁
  rw [← add_assoc, ← add_assoc]
  iintro ⟨#HR, ⟨⟨Hp, Hp', ⟨Hu, Hm⟩, ⟨Hu', Hm'⟩, Hrow, HO⟩, ⟨Hf, Ht⟩, Hg, Hg'⟩, HB, HB', HS, HA, HI⟩ Hk
  unfold Use
  icases Hu with ⟨Hts, Htr, Htc, Hcr, Hcc⟩
  icases Hu' with ⟨Hts', Htr', Htc', Hcr', Hcc'⟩
  unfold At
  icases Hf with ⟨Hf, #Hrf⟩
  icases Ht with ⟨Ht, #Hrt⟩
  simp only [hopB, startB, sendB, waitB, waitSndB, bind_assoc]
  unfold Pos
  icases Hp with ⟨Hp₁, Hp₂, Hp₃, Hp₄⟩
  icases Hp' with ⟨Hp₁', Hp₂', Hp₃', Hp₄'⟩
  unfold At
  icases Hp₁ with ⟨Hp₁, #Hr₁⟩
  icases Hp₁' with ⟨Hp₁', #Hr₁'⟩
  icases Hp₄ with ⟨Hp₄, #Hr₄⟩
  icases Hp₄' with ⟨Hp₄', #Hr₄'⟩
  ihave HBs := ((owns_halves (c : Thread nD τ) (bslotM (bufB false) (par j)) fullShare (V.C false o))).1 $$ HB
  icases HBs with ⟨HBl, HBr⟩
  ihave HBs' := ((owns_halves (c : Thread nD τ) (bslotM (bufB true) (par j)) fullShare (V.C true o'))).1 $$ HB'
  icases HBs' with ⟨HBl', HBr'⟩
  iapply (wp_sendHop V K c false j hj' r hr (sndCw (par j)) (rcvCw (par (j + 1))) rfl rfl (bslotM cwB (par j)) (bslotM cwB (par (j + 1)))
    hNF fullShare.right (V.C false o)
    (by unfold leftPay; rw [if_neg (show ¬ j < 14 by omega)]; iintro H; iexists _; iexact H)
    (by unfold blockAt; rw [if_neg (show ¬ j < 14 by omega), show j - 13 = (j - 14) + 1 by omega, bk_of_fwd, ho])
    (by unfold tgt; rw [if_neg (show ¬ j < 14 by omega), if_pos (show j < 21 by omega)])
    (Owe 0 c (j + 1) + due₂ c j + tallyAt (cell (fwd true c) (.rcv true (par (j + 1)))) j (NH j)))
    $$ [HBr Hg Hts Htr HO]
  · isplitr; · iexact HR
    isplitl [HBr]; · iexact HBr
    isplitl [Hg]; · iexact Hg
    isplitr; · rw [rowsWith_late hj]; iempintro
    isplitr; · iexact Hr₁
    isplitr; · iexact Hrf
    isplitl [Hts]; · iexact Hts
    isplitl [Htr]; · iexact Htr
    iexact HO
  iintro ⟨Hcs, HO⟩
  iapply (wp_sendHop V K c true j hj' l hl (sndCcw (par j)) (rcvCcw (par (j + 1))) rfl rfl (bslotM ccwB (par j)) (bslotM ccwB (par (j + 1)))
    hNF fullShare.right (V.C true o')
    (by unfold leftPay; rw [if_neg (show ¬ j < 14 by omega)]; iintro H; iexists _; iexact H)
    (by unfold blockAt; rw [if_neg (show ¬ j < 14 by omega), show j - 13 = (j - 14) + 1 by omega, bk_of_fwd, ho'])
    (by unfold tgt; rw [if_neg (show ¬ j < 14 by omega), if_pos (show j < 21 by omega)])
    (Owe 0 c (j + 1) + due₂ c j))
    $$ [HBr' Hg' Hts' Htr' HO]
  · isplitr; · iexact HR
    isplitl [HBr']; · iexact HBr'
    isplitl [Hg']; · iexact Hg'
    isplitr; · rw [rowsWith_true]; iempintro
    isplitr; · iexact Hr₁'
    isplitr; · iexact Hrt
    isplitl [Hts']; · iexact Hts'
    isplitl [Htr']; · iexact Htr'
    iexact HO
  iintro ⟨Hcs', HO⟩
  iapply (wp_writeStart c (par j) Qr o o' e0 e1 e2 e3 sc fullShare.left (V.C false o) (V.C true o')) $$ [HBl HBl' HS HA HI]
  · isplitl [HBl]; · iexact HBl
    isplitl [HBl']; · iexact HBl'
    isplitl [HS]; · iexact HS
    isplitl [HA] <;> iassumption
  iintro ⟨HBl, HBl', HF⟩
  iapply (wp_writeWait c Qr o o' e0 e1 e2 e3 sc (V.C false o) (V.C true o') _ (hO₁ 0 (by omega))) $$ [HF HO]
  · isplitr; · iapply (lev_at V K); iexact HR
    isplitl [HF] <;> iassumption
  iintro ⟨HS, HA, HI, HO⟩
  iapply (wp_waitHop V K c false j hj' (sndCw (par j)) (rcvCw (par (j + 1))) rfl rfl (bslotM cwB (par j)) (bslotM cwB (par (j + 1)))
    hNF hNF (Owe 0 c (j + 1) + due₂ c j) (hO₁ _ (by omega))) $$ [Hcs Hcr HO Hp₁ Hp₂ Hp₃ Hp₄]
  · isplitr; · iexact HR
    isplitl [Hcs]; · iexact Hcs
    isplitl [Hcr]; · iexact Hcr
    isplitl [HO]; · iexact HO
    unfold Pos At
    isplitl [Hp₁]; · isplitl [Hp₁] <;> iassumption
    isplitl [Hp₂]; · iexact Hp₂
    isplitl [Hp₃]; · iexact Hp₃
    isplitl [Hp₄] <;> iassumption
  iintro ⟨HO, Hp, Hleft, Hland⟩
  iapply (wp_waitHop V K c true j hj' (sndCcw (par j)) (rcvCcw (par (j + 1))) rfl rfl (bslotM ccwB (par j)) (bslotM ccwB (par (j + 1)))
    hNF hNF (Owe 0 c (j + 1) + due₂ c j) (hO₁ _ (by omega))) $$ [Hcs' Hcr' HO Hp₁' Hp₂' Hp₃' Hp₄']
  · isplitr; · iexact HR
    isplitl [Hcs']; · iexact Hcs'
    isplitl [Hcr']; · iexact Hcr'
    isplitl [HO]; · iexact HO
    unfold Pos At
    isplitl [Hp₁']; · isplitl [Hp₁'] <;> iassumption
    isplitl [Hp₂']; · iexact Hp₂'
    isplitl [Hp₃']; · iexact Hp₃'
    isplitl [Hp₄'] <;> iassumption
  iintro ⟨HO, Hp', Hleft', Hland'⟩
  ihave Hl := (landed_B c V false hj) $$ Hland
  ihave Hl' := (landed_B c V true hj) $$ Hland'
  icases Hl with ⟨HB, #Hrl, -⟩
  icases Hl' with ⟨HB', #Hrl', -⟩
  ihave Hleft := (Entails.of_eq (show leftPay (F := F) false j c = anyB c false (par j) fullShare.right from if_neg (show ¬ j < 14 by omega))) $$ Hleft
  ihave Hleft' := (Entails.of_eq (show leftPay (F := F) true j c = anyB c true (par j) fullShare.right from if_neg (show ¬ j < 14 by omega))) $$ Hleft'
  ihave Hfr : iprop(freeOwn c false j ∗ keptB c false j) $$ [Hleft HBl]
  · iapply (free_keep c false hj hj')
    iapply (codes_back c false (par j) (V.C false o))
    isplitl [HBl] <;> iassumption
  ihave Hfr' : iprop(freeOwn c true j ∗ keptB c true j) $$ [Hleft' HBl']
  · iapply (free_keep c true hj hj')
    iapply (codes_back c true (par j) (V.C true o'))
    isplitl [HBl'] <;> iassumption
  icases Hfr with ⟨Hfr, Hkp⟩
  icases Hfr' with ⟨Hfr', Hkp'⟩
  iapply (wp_creditGive V K c l r hl hr j hj' (Owe 0 c (j + 1))) $$ [HO Htc Hfr Htc' Hfr']
  · isplitr; · iexact HR
    isplitl [HO]; · iexact HO
    isplitl [Htc Hfr]
    · isplitl [Htc]; · iexact Htc
      isplitl [Hfr]; · iexact Hfr
      isplitr; · iexact Hr₄
      iexact Hrl
    · isplitl [Htc']; · iexact Htc'
      isplitl [Hfr']; · iexact Hfr'
      isplitr; · iexact Hr₄'
      iexact Hrl'
  iintro HO
  iapply Hk
  isplitr [HB HB' HS HA HI Hkp Hkp']
  · unfold Done Base At
    isplitl [Hp Hp' Hm Hm' HO]
    · isplitl [Hp]; · iexact Hp
      isplitl [Hp']; · iexact Hp'
      isplitl [Hm]; · iexact Hm
      isplitl [Hm']; · iexact Hm'
      isplitr
      · rw [row_zero]; iempintro
      iexact HO
    isplitl [Hf Ht]
    · isplitl [Hf]
      · isplitl [Hf] <;> iassumption
      · isplitl [Ht] <;> iassumption
    isplitl [Hcc] <;> iassumption
  isplitl [HB]; · iexact HB
  isplitl [HB']; · iexact HB'
  isplitl [HS]; · iexact HS
  isplitl [HA]; · iexact HA
  isplitl [HI]; · iexact HI
  isplitl [Hkp] <;> iassumption

end Rules

end Cert.Dist

end
-- ==== Proof.Gathered.lean ====
/-
  The whole gathering: the hops in order, and the last rows.
-/
module

public import proofs.«01_k».proof.Proof.Gather

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The quarters of the result still to be written: those of the last `n` hops. -/
def Todo : ℕ → Dev nD → sProp 𝕄
  | 0, _ => iprop(emp)
  | n + 1, c => iprop(Outs (F := F) c (bk false (7 - n) c) (bk true (7 - n) c) ∗ Todo n c)
/-- Those written by the first `n` hops. -/
def Made (V : Sent F) (sc : F .f32) : ℕ → Dev nD → sProp 𝕄
  | 0, _ => iprop(emp)
  | n + 1, c => iprop(OutsAt c (bk false n c) (bk true n c) sc (V.C false (bk false n c)) (V.C true (bk true n c)) ∗ Made V sc n c)

/-- The quarters of the last `n + 1` hops are one hop's and those of the last `n`. -/
theorem todo_succ (n : ℕ) (c : Dev nD) : Todo (F := F) (n + 1) c = iprop(Outs (F := F) c (bk false (7 - n) c) (bk true (7 - n) c) ∗ Todo n c) := rfl

/-- The quarters of the first `n + 1` hops are one hop's and those of the first `n`. -/
theorem made_succ (V : Sent F) (sc : F .f32) (n : ℕ) (c : Dev nD) : Made V sc (n + 1) c
    = iprop(OutsAt c (bk false n c) (bk true n c) sc (V.C false (bk false n c)) (V.C true (bk true n c)) ∗ Made V sc n c) := rfl

/-- What holds after `a` hops of the gathering. -/
def GS (V : Sent F) (sc : F .f32) (a : ℕ) (c : Dev nD) : sProp 𝕄 :=
  iprop(Done 0 (13 + a) c ∗ ownB c false (par a) fullShare (V.C false (bk false a c)) ∗ ownB c true (par a) fullShare (V.C true (bk true a c))
    ∗ Slots c ∗ Todo (8 - a) c ∗ Made V sc a c ∗ Idles c ∗ keptB c false (13 + a) ∗ keptB c true (13 + a))

section Rules

variable (V : Sent F) (K : Dev nD × Kd → ℕ) (c : Dev nD) (sc : F .f32) {α : Type}

/-- The credits of a hop, and the next hop of the gathering. -/
theorem wp_gatherStep (a : Fin 7) (s t : Fin 2) (hs : s = par a.val) (ht : t = par (a.val + 1)) {Q : α → sProp 𝕄} {k : PUnit → Pr F α} :
    iprop(Recs V K ∗ GS V sc a.val c) ⊢ iprop((GS V sc (a.val + 1) c -∗ WP c (k ⟨⟩) Q)
      -∗ WP c (creditWait >>= fun _ => hopB s t (devL c) (devR c) (gatherQ c a) sc >>= k) Q) := by
  have ha := a.isLt
  have e14 : par a.val = par (13 + a.val + 1) := Fin.ext (by simp only [par]; omega)
  have e15 : par (a.val + 1) = par (13 + a.val + 1 + 1) := Fin.ext (by simp only [par]; omega)
  unfold GS
  rw [show 8 - a.val = (8 - (a.val + 1)) + 1 by omega, todo_succ, show 7 - (8 - (a.val + 1)) = a.val by omega]
  iintro ⟨#HR, Hd, HB, HB', HS, ⟨HA, HT⟩, HM, HI, -, -⟩ Hk
  iapply (wp_creditWait V K c 0 (13 + a.val) (by omega) (Above.zero _)) $$ [Hd]
  · isplitr; · iexact HR
    iexact Hd
  iintro Hd
  iapply (wp_hopB c V K (13 + a.val + 1) (by omega) (by omega) s t (hs.trans e14) (ht.trans e15) (devL c) (devR c) (devL_eq c) (devR_eq c)
    (gatherQ c a) (bk false a.val c) (bk true a.val c) (gatherQ_eq c a 0) (gatherQ_eq c a 1) (gatherQ_eq c a 2) (gatherQ_eq c a 3)
    (by rw [show 13 + a.val + 1 - 14 = a.val by omega]) (by rw [show 13 + a.val + 1 - 14 = a.val by omega]) sc) $$ [Hd HB HB' HS HA HI]
  · isplitr; · iexact HR
    isplitl [Hd]; · iexact Hd
    isplitl [HB]; · rw [hs]; iexact HB
    isplitl [HB']; · rw [hs]; iexact HB'
    isplitl [HS]; · iexact HS
    isplitl [HA]; · iexact HA
    iexact HI
  iintro ⟨Hd, HB, HB', HS, HA, HI, Hkp, Hkp'⟩
  iapply Hk
  rw [← ht, show 13 + a.val + 1 - 13 = a.val + 1 by omega]
  isplitl [Hd]; · iexact Hd
  isplitl [HB]; · iexact HB
  isplitl [HB']; · iexact HB'
  isplitl [HS]; · iexact HS
  isplitl [HT]; · iexact HT
  isplitl [HA HM]
  · rw [made_succ]
    isplitl [HA]; · iexact HA
    iexact HM
  isplitl [HI]; · iexact HI
  isplitl [Hkp]; · iexact Hkp
  iexact Hkp'

/-- The whole gathering: all the result is written. -/
theorem wp_gather {Q : α → sProp 𝕄} {k : PUnit → Pr F α} :
    iprop(Recs V K ∗ GS V sc 0 c) ⊢ iprop(((Ready 0 21 c ∗ Slots c ∗ Made V sc 8 c ∗ Idles c
          ∗ (anyB c false 0 fullShare ∗ anyB c false 1 fullShare) ∗ (anyB c true 0 fullShare ∗ anyB c true 1 fullShare)) -∗ WP c (k ⟨⟩) Q)
      -∗ WP c (gather c sc >>= k) Q) := by
  iintro ⟨#HR, H⟩ Hk
  simp only [gather, bind_assoc]
  iapply (wp_gatherStep V K c sc 0 0 1 rfl rfl) $$ [H]
  · isplitr; · iexact HR
    iexact H
  iintro H
  iapply (wp_gatherStep V K c sc 1 1 0 rfl rfl) $$ [H]
  · isplitr; · iexact HR
    iexact H
  iintro H
  iapply (wp_gatherStep V K c sc 2 0 1 rfl rfl) $$ [H]
  · isplitr; · iexact HR
    iexact H
  iintro H
  iapply (wp_gatherStep V K c sc 3 1 0 rfl rfl) $$ [H]
  · isplitr; · iexact HR
    iexact H
  iintro H
  iapply (wp_gatherStep V K c sc 4 0 1 rfl rfl) $$ [H]
  · isplitr; · iexact HR
    iexact H
  iintro H
  iapply (wp_gatherStep V K c sc 5 1 0 rfl rfl) $$ [H]
  · isplitr; · iexact HR
    iexact H
  iintro H
  iapply (wp_gatherStep V K c sc 6 0 1 rfl rfl) $$ [H]
  · isplitr; · iexact HR
    iexact H
  iintro H
  ihave H : GS V sc 7 c $$ [H]
  · iexact H
  unfold GS
  icases H with ⟨Hd, HB, HB', HS, HA, HM, HI, Hkp, Hkp'⟩
  ihave HA := (Entails.of_eq (show Todo (F := F) (8 - 7) c = iprop(Outs (F := F) c (bk false 7 c) (bk true 7 c) ∗ emp) from rfl)) $$ HA
  icases HA with ⟨HA, -⟩
  ihave Hkp := (Entails.of_eq (show keptB (F := F) c false (13 + 7) = anyB (F := F) c false 0 fullShare from if_pos rfl)) $$ Hkp
  ihave Hkp' := (Entails.of_eq (show keptB (F := F) c true (13 + 7) = anyB (F := F) c true 0 fullShare from if_pos rfl)) $$ Hkp'
  iapply (wp_writeStart c 1 (endQ c) (bk false 7 c) (bk true 7 c) (endQ_eq c 0) (endQ_eq c 1) (endQ_eq c 2) (endQ_eq c 3) sc fullShare
    (V.C false (bk false 7 c)) (V.C true (bk true 7 c))) $$ [HB HB' HS HA HI]
  · isplitl [HB]; · iexact HB
    isplitl [HB']; · iexact HB'
    isplitl [HS]; · iexact HS
    isplitl [HA]; · iexact HA
    iexact HI
  iintro ⟨HB, HB', HF⟩
  ihave Hd' := (done_ows 0 (13 + 7) c) $$ Hd
  icases Hd' with ⟨HO, Hd⟩
  iapply (wp_writeWait c (endQ c) (bk false 7 c) (bk true 7 c) (endQ_eq c 0) (endQ_eq c 1) (endQ_eq c 2) (endQ_eq c 3) sc
    (V.C false (bk false 7 c)) (V.C true (bk true 7 c)) (Owe 0 c (13 + 7 + 1)) (above_Owe _ c (Above.zero _) (by omega))) $$ [HF HO]
  · isplitr; · iapply (lev_at V K); iexact HR
    isplitl [HF] <;> iassumption
  iintro ⟨HS, HA, HI, HO⟩
  iapply (wp_creditWait V K c 0 (13 + 7) (by omega) (Above.zero _)) $$ [Hd HO]
  · isplitr; · iexact HR
    iapply Hd; iexact HO
  iintro Hd
  iapply Hk
  isplitl [Hd]; · iexact Hd
  isplitl [HS]; · iexact HS
  isplitl [HA HM]
  · iapply (Entails.of_eq (made_succ V sc 7 c).symm)
    isplitl [HA]; · iexact HA
    iexact HM
  isplitl [HI]; · iexact HI
  isplitl [Hkp HB]
  · isplitl [Hkp]; · iexact Hkp
    iexists _; iexact HB
  · isplitl [Hkp']; · iexact Hkp'
    iexists _; iexact HB'

end Rules

end Cert.Dist

end
-- ==== Proof.Entry.lean ====
/-
  The entry of the kernel: the barrier, and the buffer of maxima cleared and cut into its rows.
-/
module

public import proofs.«01_k».proof.Proof.Gathered

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Whole buffers loaded and stored -/

section Rules

variable (c : Dev nD) {α : Type}

/-- Loading a matrix whole. -/
theorem wp_ldAll {m n : ℕ} (M : Memref sig .tc .vmem ⟨2, ![m, n]⟩ .f32) (h : ∀ a, (![0, 0] : Fin 2 → Nat) a + (![m, n] : Fin 2 → Nat) a ≤ (⟨2, ![m, n]⟩ : Shape).size a)
    (hl : M.view.LoadsAt (Rect.unit (s := ⟨2, ![m, n]⟩) ![0, 0] ![m, n] h).toLoadRect)
    (q : PosShare TreeShare) (X : Vec F ⟨2, ![m, n]⟩ .f32) {Q : α → sProp 𝕄} {k : Vec F ⟨2, ![m, n]⟩ .f32 → Pr F α} :
    (owns (c : Thread nD τ) M q X : sProp 𝕄)
      ⊢ iprop((owns (c : Thread nD τ) M q X -∗ WP c (k X) Q)
          -∗ WP c ((Prog.lift (.load M (Rect.unit (s := ⟨2, ![m, n]⟩) ![0, 0] ![m, n] h).toLoadRect hl) : Pr F (Vec F ⟨2, ![m, n]⟩ .f32)) >>= k) Q) := by
  unfold owns
  iintro ⟨%f, %hf, H⟩ Hk
  simp only [Prog.lift, Prog.bind_op, Prog.bind_ret]
  iapply (wp_load_rect 𝒱₀ (c : Thread nD τ) none Set.univ (m := M) (r := Rect.unit (s := ⟨2, ![m, n]⟩) ![0, 0] ![m, n] h)
    (View.set_slice_subset _ _)) $$ H
  iintro H
  have e : (M.access (Rect.unit (s := ⟨2, ![m, n]⟩) ![0, 0] ![m, n] h)).read (Elt F) f = X := by
    rw [← hf]
    funext i
    refine congrArg (M.view.read (Elt F) f) (idx_ext (m := m) (n := n) _ _ ?_ ?_)
    · show 0 + 1 * (i 0).val = (i 0).val; omega
    · show 0 + 1 * (i 1).val = (i 1).val; omega
  rw [e]
  iapply Hk
  iexists f; isplitr; · ipureintro; exact hf
  iexact H

/-- Storing a matrix whole. -/
theorem wp_stAll {m n : ℕ} (M : Memref sig .tc .vmem ⟨2, ![m, n]⟩ .f32) (h : ∀ a, (![0, 0] : Fin 2 → Nat) a + (![m, n] : Fin 2 → Nat) a ≤ (⟨2, ![m, n]⟩ : Shape).size a)
    (v : Vec F ⟨2, ![m, n]⟩ .f32)
    (hx : (M.access (Rect.unit (s := ⟨2, ![m, n]⟩) ![0, 0] ![m, n] h) : View sig .tc _ _ _).Stores Finset.univ) {Q : α → sProp 𝕄} {k : PUnit → Pr F α} :
    (iprop(∃ X, owns (c : Thread nD τ) M fullShare X) : sProp 𝕄)
      ⊢ iprop((owns (c : Thread nD τ) M fullShare v -∗ WP c (k ⟨⟩) Q)
          -∗ WP c ((Prog.lift (.store M (Rect.unit (s := ⟨2, ![m, n]⟩) ![0, 0] ![m, n] h) v Finset.univ hx (.inl rfl)) : Pr F PUnit) >>= k) Q) := by
  unfold owns
  iintro ⟨%X, %f, %hf, H⟩ Hk
  simp only [Prog.lift, Prog.bind_op, Prog.bind_ret]
  iapply (wp_store 𝒱₀ (c : Thread nD τ) none Set.univ (m := M) (r := Rect.unit (s := ⟨2, ![m, n]⟩) ![0, 0] ![m, n] h) (Mk := Finset.univ)
    (View.set_slice_subset _ _)) $$ H
  iintro H
  iapply Hk
  iexists _; isplitr
  swap; · iexact H
  ipureintro
  have e := View.read_write_univ (v := M.access (Rect.unit (s := ⟨2, ![m, n]⟩) ![0, 0] ![m, n] h)) (Val := Elt F) (f := f) v
  funext i
  refine Eq.trans ?_ (congrFun e i)
  refine congrArg (M.view.read (Elt F) _) (idx_ext (m := m) (n := n) _ _ ?_ ?_)
  · show (i 0).val = 0 + 1 * (i 0).val; omega
  · show (i 1).val = 0 + 1 * (i 1).val; omega

end Rules

/-! ### The rows of the buffer of maxima -/

abbrev rowRect (j : Fin 8) : Rect S8x128 := Rect.unit (s := S8x128) ![j.val, 0] S1x128.size (row_inb j)
/-- Row `j` of the buffer. -/
def rowOf (X : Vec F S8x128 .f32) (j : Fin 8) : Vec F S1x128 .f32 := fun i => X ((rowRect j).emb i)

/-- Two rows of the buffer of maxima do not meet. -/
theorem row_disjoint (j j' : Fin 8) (h : j ≠ j') : Disjoint (rowRect j).set (rowRect j').set := by
  rw [Finset.disjoint_left]
  intro i hi hi'
  rw [Rect.mem_set_unit] at hi hi'
  have h1 : j.val ≤ (i 0).val := (hi 0).1
  have h2 : (i 0).val < j.val + 1 := (hi 0).2
  have h3 : j'.val ≤ (i 0).val := (hi' 0).1
  have h4 : (i 0).val < j'.val + 1 := (hi' 0).2
  exact h (Fin.ext (by omega))
/-- The eight rows make up the buffer of maxima. -/
theorem row_cover : (Finset.univ : Finset S8x128.Idx) = Finset.univ.biUnion fun j : Fin 8 => (rowRect j).set := by
  ext i
  simp only [Finset.mem_univ, Finset.mem_biUnion, true_and, true_iff]
  refine ⟨⟨(i 0).val, (i 0).isLt⟩, ?_⟩
  rw [Rect.mem_set_unit]
  intro a
  match a with
  | ⟨0, _⟩ => exact ⟨Nat.le_refl _, Nat.lt_succ_self _⟩
  | ⟨1, _⟩ => exact ⟨Nat.zero_le _, by have : (i 1).val < 128 := (i 1).isLt; show (i 1).val < 0 + 128; omega⟩

/-- The buffer of maxima, held whole, is held row by row; -/
theorem rows_split (c : Dev nD) (X : Vec F S8x128 .f32) :
    (owns (c : Thread nD τ) rbM fullShare X : sProp 𝕄) ⊢ bigSep Finset.univ fun j : Fin 8 => ownR c j (rowOf X j) :=
  owns_rects (c : Thread nD τ) rbM fullShare rowRect (fun _ _ => rfl) row_disjoint row_cover.symm X
/-- and back. -/
theorem rows_join (c : Dev nD) (X : Vec F S8x128 .f32) :
    (bigSep Finset.univ fun j : Fin 8 => ownR c j (rowOf X j) : sProp 𝕄) ⊢ owns (c : Thread nD τ) rbM fullShare X :=
  owns_of_rects (c : Thread nD τ) rbM fullShare rowRect (fun _ _ => rfl) row_disjoint row_cover.symm X

/-- Something for each device is that for `c` and for the seven others in order. -/
theorem around (Φ : Fin 8 → sProp 𝕄) (c : Dev nD) : (bigSep Finset.univ Φ : sProp 𝕄)
    = iprop(Φ c ∗ Φ (sh 1 c) ∗ Φ (sh 2 c) ∗ Φ (sh 3 c) ∗ Φ (sh 4 c) ∗ Φ (sh 5 c) ∗ Φ (sh 6 c) ∗ Φ (sh 7 c)) := by
  rw [bigSep_univ_eq_bigSepL [c, sh 1 c, sh 2 c, sh 3 c, sh 4 c, sh 5 c, sh 6 c, sh 7 c] (by revert c; decide) (by revert c; decide)]
  simp only [bigSepL_cons_cons, bigSepL_singleton]
  rfl

/-- A row of zeros. -/
def zeroRow : Vec F S1x128 .f32 := fun _ => Scalar.ofBits .f32 0x00000000#32

/-- In the collected maxima a device's own row is zero, -/
theorem maxima_own (x : Dev nD → Vec F S4096x512 .f32) (w : Dev nD → Vec F S512x8192 .f32) (c : Dev nD) :
    rowOf (maxima x w c) c = zeroRow := by
  funext i
  have h0 : (i 0).val = 0 := by have : (i 0).val < 1 := (i 0).isLt; omega
  show maxima x w c _ = _
  unfold maxima
  exact if_pos (show c.val + 1 * (i 0).val = c.val by omega)
/-- and any other row holds that device's maximum all along. -/
theorem maxima_other (x : Dev nD → Vec F S4096x512 .f32) (w : Dev nD → Vec F S512x8192 .f32) (c j : Dev nD) (h : j ≠ c) :
    rowOf (maxima x w c) j = spread (amax x w j) := by
  funext i
  have h0 : (i 0).val = 0 := by have : (i 0).val < 1 := (i 0).isLt; omega
  show maxima x w c _ = amax x w j
  unfold maxima
  have e : (((rowRect j).emb i) 0).val = j.val := by show j.val + 1 * (i 0).val = j.val; omega
  rw [if_neg (by rw [e]; exact fun h' => h (Fin.ext h'))]
  exact congrArg (amax x w) (Fin.ext e)

/-! ### The entry -/

section Rules

variable (V : Sent F) (K : Dev nD × Kd → ℕ) (c : Dev nD) {α : Type}

/-- The barrier's wait: the two neighbours' slots. -/
theorem wp_waitBar (O : CellTallies nD τ sig ℕ) (hO : Above 1 O) {Q : α → sProp 𝕄} {k : PUnit → Pr F α} :
    iprop(Recs V K ∗ cred (tallyAt (cell c .bar) 0 2) ∗ ows c O ∗ atPos ER (cell c .bar) 0 ∅ 0)
      ⊢ iprop(((ows c O ∗ atPos ER (cell c .bar) 1 ∅ 0 ∗ anyS (F := F) (fwd false c) false 1 ∗ anyS (F := F) (fwd true c) true 1) -∗ WP c (k ⟨⟩) Q)
          -∗ WP c ((semWaitWord barS 2#32 : Pr F PUnit) >>= k) Q) := by
  unfold ows
  have hinv := inv_at V K c .bar
  have hexp := expect_bar V c
  have hrest := rest_bar V c
  have hmay := mayWait (F := F) c (semOf .bar) 0 (by omega) O (by rw [lv_cell c .bar 0]; exact hO)
  simp only [cell, show semOf .bar = .reg barS from rfl] at *
  iintro ⟨#HR, Hc, ⟨%W, HO⟩, Hat⟩ Hk
  simp only [semWaitWord, Prog.bind_op, Prog.bind_ret]
  iapply (Rounds.wp_wait_rest_token 𝒱₀ ER (rd V) (c : Thread nD τ) none (κ := K (c, .bar))
      (wpE_semWait_eq 𝒱₀ (c : Thread nD τ) none Set.univ) (Set.mem_univ _) 0 (O := O) (W := W) (R := 0) (m := 0) (T := ∅)
      (by rw [hexp]; decide)) $$ [Hc HO Hat]
  · isplitr; · iapply hinv; iexact HR
    isplitl [Hc]; · iexact Hc
    isplitl [HO]; · iexact HO
    isplitr; · iapply hmay; iapply (lev_at V K); iexact HR
    iexact Hat
  iintro ⟨HO, Hat, Hr, Hpay⟩
  iapply Hk
  isplitl [HO]; · iexists _; iexact HO
  isplitl [Hat]; · iexact Hat
  iapply (Entails.of_eq hrest); iexact Hpay

/-- The entry: the neighbours' first slots come, the rows are cleared. -/
theorem wp_entry {Q : α → sProp 𝕄} {k : PUnit → Pr F α} :
    iprop(Recs V K ∗ ows c (Owe (oweA c) c 0 + tallyAt (cell (sh 1 c) .bar) 0 1 + tallyAt (cell (sh 7 c) .bar) 0 1)
        ∗ dutyTok ER (cell (sh 7 c) .bar) 0 false ∗ dutyTok ER (cell (sh 1 c) .bar) 0 true
        ∗ anyS (F := F) c false 1 ∗ anyS (F := F) c true 1 ∗ cred (tallyAt (cell c .bar) 0 2) ∗ atPos ER (cell c .bar) 0 ∅ 0
        ∗ (∃ X, owns (c : Thread nD τ) rbM fullShare X))
      ⊢ iprop(((ows c (Owe (oweA c) c 0) ∗ Go (F := F) false 0 c ∗ Go (F := F) true 0 c ∗ atPos ER (cell c .bar) 1 ∅ 0 ∗ ownR c c (zeroRow (F := F)) ∗ RowIn (F := F) 0 c)
            -∗ WP c (k ⟨⟩) Q)
          -∗ WP c (entry (devL c) (devR c) >>= k) Q) := by
  have e7 : fwd false (sh 7 c) = c := by unfold fwd; rw [sh_sh]; exact (sh_congr (by decide) c).trans (sh_zero c)
  have e1 : fwd true (sh 1 c) = c := by unfold fwd; rw [sh_sh]; exact (sh_congr (by decide) c).trans (sh_zero c)
  rw [devL_eq c, devR_eq c]
  iintro ⟨#HR, HO, Ht, Ht', HS, HS', Hc, Hat, ⟨%X, Hrb⟩⟩ Hk
  simp only [entry, bind_assoc]
  iapply (wp_give V K c (sh 7 c) .bar 0 0 false barS rfl (Finset.mem_univ _) rfl _) $$ [HO Ht HS]
  · isplitr; · iexact HR
    isplitl [HO]; · iexact HO
    isplitl [Ht]; · iexact Ht
    isplitl [HS]
    · iapply (Entails.of_eq (show anyS (F := F) c false 1 = payK V (sh 7 c) .bar 0 false by
        show _ = anyS (F := F) (fwd false (sh 7 c)) false 1; rw [e7])); iexact HS
    iapply (reached_at V K); iexact HR
  iintro HO
  iapply (wp_give V K c (sh 1 c) .bar 0 0 true barS rfl (Finset.mem_univ _) rfl _) $$ [HO Ht' HS']
  · isplitr; · iexact HR
    isplitl [HO]; · iexact HO
    isplitl [Ht']; · iexact Ht'
    isplitl [HS']
    · iapply (Entails.of_eq (show anyS (F := F) c true 1 = payK V (sh 1 c) .bar 0 true by
        show _ = anyS (F := F) (fwd true (sh 1 c)) true 1; rw [e1])); iexact HS'
    iapply (reached_at V K); iexact HR
  iintro HO
  iapply (wp_waitBar V K c (Owe (oweA c) c 0) (above_Owe _ c (above_oweA c (by omega)) (by omega))) $$ [Hc HO Hat]
  · isplitr; · iexact HR
    isplitl [Hc]; · iexact Hc
    isplitl [HO] <;> iassumption
  iintro ⟨HO, Hat, HS, HS'⟩
  iapply (wp_ldAll c rbM _ _ fullShare X) $$ Hrb
  iintro Hrb
  iapply (wp_stAll c rbM _ (zeros (F := F)) _) $$ [Hrb]
  · iexists X; iexact Hrb
  iintro Hrb
  ihave Hrows := (rows_split c _) $$ Hrb
  ihave Hrows := (Entails.of_eq (around _ c)) $$ Hrows
  icases Hrows with ⟨Hr0, Hr1, Hr2, Hr3, Hr4, Hr5, Hr6, Hr7⟩
  iapply Hk
  isplitl [HO]; · iexact HO
  isplitl [HS]
  · unfold Go
    isplitl [HS]
    · iapply (Entails.of_eq (show anyS (F := F) (fwd false c) false 1 = tgt false 0 c from (if_pos (by omega)).symm)); iexact HS
    iapply (reached_at V K (fwd false c) (.rcv false (par (0 + 1)))); iexact HR
  isplitl [HS']
  · unfold Go
    isplitl [HS']
    · iapply (Entails.of_eq (show anyS (F := F) (fwd true c) true 1 = tgt true 0 c from (if_pos (by omega)).symm)); iexact HS'
    iapply (reached_at V K (fwd true c) (.rcv true (par (0 + 1)))); iexact HR
  isplitl [Hat]; · iexact Hat
  isplitl [Hr0]; · iexact Hr0
  unfold RowIn
  isplitr
  · iapply (Entails.of_eq (show (iprop(emp) : sProp 𝕄) = rights (F := F) (min 0 7) (sh 7 c) (sh (7 - 0) c) from rfl)); iempintro
  iapply (Entails.of_eq (show (iprop(anyR c (sh 7 c) ∗ anyR c (sh 6 c) ∗ anyR c (sh 5 c) ∗ anyR c (sh 4 c) ∗ anyR c (sh 3 c) ∗ anyR c (sh 2 c)
    ∗ anyR c (sh 1 c) ∗ emp) : sProp 𝕄) = mineR (F := F) (7 - 0) c from rfl))
  isplitl [Hr7]; · iexists _; iexact Hr7
  isplitl [Hr6]; · iexists _; iexact Hr6
  isplitl [Hr5]; · iexists _; iexact Hr5
  isplitl [Hr4]; · iexists _; iexact Hr4
  isplitl [Hr3]; · iexists _; iexact Hr3
  isplitl [Hr2]; · iexists _; iexact Hr2
  isplitl [Hr1]; · iexists _; iexact Hr1
  iempintro

end Rules

end Cert.Dist

end
-- ==== Proof.Exchange.lean ====
/-
  The exchange of the maxima: each device's to the other seven.
-/
module

public import proofs.«01_k».proof.Proof.Entry

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Something for each of the seven other devices. -/
def all7 (Φ : Fin 7 → sProp 𝕄) : sProp 𝕄 := iprop(Φ 0 ∗ Φ 1 ∗ Φ 2 ∗ Φ 3 ∗ Φ 4 ∗ Φ 5 ∗ Φ 6)

/-- What the transfer to the device `1 + i` places on uses up, beside that device's row. -/
def TokA (c : Dev nD) (i : Fin 7) : sProp 𝕄 :=
  iprop(dutyTok ER (cell c (.sa i.succ)) 0 false ∗ dutyTok ER (cell (sh (1 + i.val) c) (.ra c)) 0 false)
/-- That device's row. -/
def RowA (c : Dev nD) (i : Fin 7) : sProp 𝕄 := anyR (F := F) (sh (1 + i.val) c) c
/-- The right to wait for what that device sends, -/
def WaitA (c : Dev nD) (i : Fin 7) : sProp 𝕄 :=
  iprop(cred (tallyAt (cell c (.ra (sh (1 + i.val) c))) 0 NA) ∗ atPos ER (cell c (.ra (sh (1 + i.val) c))) 0 ∅ 0)
/-- and what has come from it. -/
def GotA (V : Sent F) (c : Dev nD) (i : Fin 7) : sProp 𝕄 :=
  iprop(atPos ER (cell c (.ra (sh (1 + i.val) c))) 1 ∅ 0 ∗ ownR c (sh (1 + i.val) c) (spread (V.A (sh (1 + i.val) c))))
/-- The place before the wait for a transfer to have left, -/
def StayA (c : Dev nD) (i : Fin 7) : sProp 𝕄 := atPos ER (cell c (.sa i.succ)) 0 ∅ 0
/-- the credit the transfer gave, -/
def CredA (c : Dev nD) (i : Fin 7) : sProp 𝕄 := cred (tallyAt (cell c (.sa i.succ)) 0 NA)
/-- and what comes back with it. -/
def BackA (V : Sent F) (c : Dev nD) (i : Fin 7) : sProp 𝕄 :=
  iprop(atPos ER (cell c (.sa i.succ)) 1 ∅ 0 ∗ owns (c : Thread nD τ) sbM (rsh i.val).left (spread (V.A c)))

/-- The maxima still owed, the last `n` transfers. -/
def oweN (c : Dev nD) : ℕ → CellTallies nD τ sig ℕ
  | 0 => 0
  | n + 1 => oweN c n + tallyAt (cell (sh (1 + (6 - n)) c) (.ra c)) 0 NA
/-- All that is owed in the exchange is what seven transfers owe. -/
theorem oweA_eq (c : Dev nD) : oweA c = oweN c 7 := by
  unfold oweA
  rw [Fin.sum_univ_seven]
  simp only [oweN]
  rw [zero_add]
  show tallyAt (cell (sh (1 + 0) c) (.ra c)) 0 NA + tallyAt (cell (sh (1 + 1) c) (.ra c)) 0 NA + tallyAt (cell (sh (1 + 2) c) (.ra c)) 0 NA
    + tallyAt (cell (sh (1 + 3) c) (.ra c)) 0 NA + tallyAt (cell (sh (1 + 4) c) (.ra c)) 0 NA + tallyAt (cell (sh (1 + 5) c) (.ra c)) 0 NA
    + tallyAt (cell (sh (1 + 6) c) (.ra c)) 0 NA = tallyAt (cell (sh (1 + 6) c) (.ra c)) 0 NA + tallyAt (cell (sh (1 + 5) c) (.ra c)) 0 NA
    + tallyAt (cell (sh (1 + 4) c) (.ra c)) 0 NA + tallyAt (cell (sh (1 + 3) c) (.ra c)) 0 NA + tallyAt (cell (sh (1 + 2) c) (.ra c)) 0 NA
    + tallyAt (cell (sh (1 + 1) c) (.ra c)) 0 NA + tallyAt (cell (sh (1 + 0) c) (.ra c)) 0 NA
  ac_rfl

/-- The rows a device may write at the other seven. -/
theorem rights_peers (c : Dev nD) : (RowIn (F := F) 14 c : sProp 𝕄) ⊢ all7 (RowA (F := F) c) := by
  have e (n m : ℕ) (h : (n + 7) % 8 = m % 8) : sh 7 (sh n c) = sh m c := by rw [sh_sh]; exact sh_congr h c
  have h : RowIn (F := F) 14 c = iprop((anyR (F := F) (sh 7 c) (sh 0 c) ∗ anyR (F := F) (sh 7 (sh 7 c)) (sh 0 c) ∗ anyR (F := F) (sh 7 (sh 7 (sh 7 c))) (sh 0 c)
    ∗ anyR (F := F) (sh 7 (sh 7 (sh 7 (sh 7 c)))) (sh 0 c) ∗ anyR (F := F) (sh 7 (sh 7 (sh 7 (sh 7 (sh 7 c))))) (sh 0 c)
    ∗ anyR (F := F) (sh 7 (sh 7 (sh 7 (sh 7 (sh 7 (sh 7 c)))))) (sh 0 c) ∗ anyR (F := F) (sh 7 (sh 7 (sh 7 (sh 7 (sh 7 (sh 7 (sh 7 c))))))) (sh 0 c) ∗ emp) ∗ emp) := rfl
  rw [h, e 7 6 rfl, e 6 5 rfl, e 5 4 rfl, e 4 3 rfl, e 3 2 rfl, e 2 1 rfl, sh_zero]
  unfold all7 RowA
  iintro ⟨⟨H7, H6, H5, H4, H3, H2, H1, -⟩, -⟩
  isplitl [H1]; · iexact H1
  isplitl [H2]; · iexact H2
  isplitl [H3]; · iexact H3
  isplitl [H4]; · iexact H4
  isplitl [H5]; · iexact H5
  isplitl [H6]; · iexact H6
  iexact H7

/-- The state after the second pass, opened for the exchange of the maxima. -/
theorem done_open (c : Dev nD) : (Done (F := F) (oweA c) 13 c : sProp 𝕄)
    ⊢ iprop(ows c (Owe 0 c 14 + oweN c 7) ∗ RowIn (F := F) 14 c ∗ (ows c (Owe 0 c 14) -∗ Done 0 13 c)) := by
  have e : Owe (oweA c) c 14 = Owe 0 c 14 + oweN c 7 := by unfold Owe; rw [zero_add, add_comm, oweA_eq]
  unfold Done Base
  rw [row_ne (oweA_ne c), row_zero, e]
  iintro ⟨⟨H1, H2, H3, H4, H5, HO⟩, H6, H7, H8⟩
  isplitl [HO]; · iexact HO
  isplitl [H5]; · iexact H5
  iintro HO
  isplitl [H1 H2 H3 H4 HO]
  · isplitl [H1]; · iexact H1
    isplitl [H2]; · iexact H2
    isplitl [H3]; · iexact H3
    isplitl [H4]; · iexact H4
    isplitr; · iempintro
    iexact HO
  isplitl [H6]; · iexact H6
  isplitl [H7] <;> iassumption

/-- A device one to seven places on is another device. -/
theorem sh_ne (c : Dev nD) (i : Fin 7) : sh (1 + i.val) c ≠ c := by revert c i; decide

/-- A transfer of a maximum leaves once. -/
theorem duty_sa (c : Dev nD) (i : Fin 7) : dutK c (.sa i.succ) 0 = {false} := by
  unfold dutK
  exact if_pos ⟨rfl, Nat.succ_ne_zero _⟩
/-- A maximum lands once on each other device, -/
theorem duty_ra (c : Dev nD) (i : Fin 7) : dutK (sh (1 + i.val) c) (.ra c) 0 = {false} := by
  unfold dutK
  exact if_pos ⟨rfl, fun h => sh_ne c i (Fin.ext h.symm)⟩
/-- and one lands here from each other device. -/
theorem duty_ra' (c : Dev nD) (i : Fin 7) : dutK c (.ra (sh (1 + i.val) c)) 0 = {false} := by
  unfold dutK
  exact if_pos ⟨rfl, fun h => sh_ne c i (Fin.ext h)⟩
/-- A transfer that has left gives back the share of the row it was sent from. -/
theorem pay_sa (V : Sent F) (c : Dev nD) (i : Fin 7) :
    (payK V c (.sa i.succ) 0 false : sProp 𝕄) = owns (c : Thread nD τ) sbM (rsh i.val).left (spread (V.A c)) := rfl
/-- A landing hands over the row, holding the sender's maximum. -/
theorem pay_ra (V : Sent F) (c j : Dev nD) : (payK V c (.ra j) 0 false : sProp 𝕄) = ownR c j (spread (V.A j)) := rfl

section Rules

variable (V : Sent F) (K : Dev nD × Kd → ℕ) (c : Dev nD) {α : Type}

/-- One transfer of the maximum. -/
theorem wp_sendA (i : Fin 7) (off : Fin 2 → Nat) (h : ∀ a, off a + S1x128.size a ≤ S8x128.size a) (ho : off = ![c.val, 0])
    (n : Dev nD) (hn : n = sh (1 + i.val) c) (sa sb : DmaSem sig) (ha : sa = sndA i.succ) (hb : sb = rcvA c) (O : CellTallies nD τ sig ℕ)
    {Q : α → sProp 𝕄} {k : PUnit → Pr F α} :
    iprop(Recs V K ∗ owns (c : Thread nD τ) sbM (rsh i.val) (spread (V.A c)) ∗ RowA (F := F) c i ∗ TokA (F := F) c i
        ∗ ows c (O + tallyAt (cell (sh (1 + i.val) c) (.ra c)) 0 NA))
      ⊢ iprop(((owns (c : Thread nD τ) sbM (rsh (i.val + 1)) (spread (V.A c)) ∗ CredA (F := F) c i ∗ ows c O) -∗ WP c (k ⟨⟩) Q)
          -∗ WP c (sendA off h n sa sb >>= k) Q) := by
  subst ho hn ha hb
  unfold RowA TokA CredA
  iintro ⟨#HR, Hs, Hd, ⟨Ht, Ht'⟩, HO⟩ Hk
  ihave Hs2 := (owns_halves (c : Thread nD τ) sbM (rsh i.val) (spread (V.A c))).1 $$ Hs
  icases Hs2 with ⟨Hl, Hr⟩
  simp only [sendA]
  iapply (wp_sendD V K c (sh (1 + i.val) c) (.sa i.succ) (.ra c) 0 0 0 (sndA i.succ) (rcvA c) rfl rfl
    (duty_sa c i) (duty_ra c i)
    sbM (rowK c) NA rfl rfl rfl (rsh i.val).left (spread (V.A c)) iprop(emp)
    (by rfl) (by
      iintro ⟨H, -⟩
      iapply (Entails.of_eq (pay_ra V (sh (1 + i.val) c) c).symm); iexact H) O)
    $$ [Hl Hd HO Ht Ht']
  · isplitr; · iexact HR
    isplitl [Hl]; · iexact Hl
    isplitl [Hd]; · iexact Hd
    isplitr; · iempintro
    isplitl [HO]; · iexact HO
    isplitl [Ht]; · iexact Ht
    isplitr; · iapply (reached_at V K); iexact HR
    isplitl [Ht']; · iexact Ht'
    iapply (reached_at V K); iexact HR
  iintro ⟨Hc, HO⟩
  iapply Hk
  isplitl [Hr]; · iexact Hr
  isplitl [Hc] <;> iassumption

/-- All seven. -/
theorem wp_sendAll (O : CellTallies nD τ sig ℕ) {Q : α → sProp 𝕄} {k : PUnit → Pr F α} :
    iprop(Recs V K ∗ owns (c : Thread nD τ) sbM fullShare (spread (V.A c)) ∗ all7 (RowA (F := F) c) ∗ all7 (TokA (F := F) c) ∗ ows c (O + oweN c 7))
      ⊢ iprop(((owns (c : Thread nD τ) sbM (rsh 7) (spread (V.A c)) ∗ all7 (CredA (F := F) c) ∗ ows c O) -∗ WP c (k ⟨⟩) Q)
          -∗ WP c (sendAll c (peersOf c) >>= k) Q) := by
  unfold all7
  simp only [oweN, ← add_assoc, add_zero]
  iintro ⟨#HR, Hs, ⟨H0, H1, H2, H3, H4, H5, H6⟩, ⟨T0, T1, T2, T3, T4, T5, T6⟩, HO⟩ Hk
  simp only [sendAll, bind_assoc]
  iapply (wp_sendA V K c 0 _ _ (off11_eq c) _ (peersOf_eq c 0) _ _ rfl (arr10_eq c) _) $$ [Hs H0 T0 HO]
  · isplitr; · iexact HR
    isplitl [Hs]; · iexact Hs
    isplitl [H0]; · iexact H0
    isplitl [T0] <;> iassumption
  iintro ⟨Hs, C0, HO⟩
  iapply (wp_sendA V K c 1 _ _ (off11_eq c) _ (peersOf_eq c 1) _ _ rfl (arr10_eq c) _) $$ [Hs H1 T1 HO]
  · isplitr; · iexact HR
    isplitl [Hs]; · iexact Hs
    isplitl [H1]; · iexact H1
    isplitl [T1] <;> iassumption
  iintro ⟨Hs, C1, HO⟩
  iapply (wp_sendA V K c 2 _ _ (off11_eq c) _ (peersOf_eq c 2) _ _ rfl (arr10_eq c) _) $$ [Hs H2 T2 HO]
  · isplitr; · iexact HR
    isplitl [Hs]; · iexact Hs
    isplitl [H2]; · iexact H2
    isplitl [T2] <;> iassumption
  iintro ⟨Hs, C2, HO⟩
  iapply (wp_sendA V K c 3 _ _ (off11_eq c) _ (peersOf_eq c 3) _ _ rfl (arr10_eq c) _) $$ [Hs H3 T3 HO]
  · isplitr; · iexact HR
    isplitl [Hs]; · iexact Hs
    isplitl [H3]; · iexact H3
    isplitl [T3] <;> iassumption
  iintro ⟨Hs, C3, HO⟩
  iapply (wp_sendA V K c 4 _ _ (off11_eq c) _ (peersOf_eq c 4) _ _ rfl (arr10_eq c) _) $$ [Hs H4 T4 HO]
  · isplitr; · iexact HR
    isplitl [Hs]; · iexact Hs
    isplitl [H4]; · iexact H4
    isplitl [T4] <;> iassumption
  iintro ⟨Hs, C4, HO⟩
  iapply (wp_sendA V K c 5 _ _ (off11_eq c) _ (peersOf_eq c 5) _ _ rfl (arr10_eq c) _) $$ [Hs H5 T5 HO]
  · isplitr; · iexact HR
    isplitl [Hs]; · iexact Hs
    isplitl [H5]; · iexact H5
    isplitl [T5] <;> iassumption
  iintro ⟨Hs, C5, HO⟩
  iapply (wp_sendA V K c 6 _ _ (off11_eq c) _ (peersOf_eq c 6) _ _ rfl (arr10_eq c) _) $$ [Hs H6 T6 HO]
  · isplitr; · iexact HR
    isplitl [Hs]; · iexact Hs
    isplitl [H6]; · iexact H6
    isplitl [T6] <;> iassumption
  iintro ⟨Hs, C6, HO⟩
  iapply Hk
  isplitl [Hs]; · iexact Hs
  isplitr [HO]
  · isplitl [C0]; · iexact C0
    isplitl [C1]; · iexact C1
    isplitl [C2]; · iexact C2
    isplitl [C3]; · iexact C3
    isplitl [C4]; · iexact C4
    isplitl [C5]; · iexact C5
    iexact C6
  iexact HO

/-- The wait for what one device sent. -/
theorem wp_waitArrOf (i : Fin 7) (O : CellTallies nD τ sig ℕ) (hO : Above 45 O) {Q : α → sProp 𝕄} {k : PUnit → Pr F α} :
    iprop(Recs V K ∗ WaitA (F := F) c i ∗ ows c O) ⊢ iprop(((GotA V c i ∗ ows c O) -∗ WP c (k ⟨⟩) Q) -∗ WP c (waitArrOf c i >>= k) Q) := by
  unfold WaitA GotA
  iintro ⟨#HR, ⟨Hc, Hat⟩, HO⟩ Hk
  simp only [waitArrOf, waitArr]
  rw [arr12_eq c i]
  iapply (wp_waitD V K c (.ra (sh (1 + i.val) c)) 0 0 (rcvA (sh (1 + i.val) c)) rfl (duty_ra' c i)
    sbM (rowM _ _) rfl (by omega) O hO) $$ [Hc HO Hat]
  · isplitr; · iexact HR
    isplitl [Hc]; · iexact Hc
    isplitl [HO] <;> iassumption
  iintro ⟨HO, Hat, -, Hp⟩
  iapply Hk
  isplitr [HO]
  · isplitl [Hat]; · iexact Hat
    iapply (Entails.of_eq (pay_ra V c (sh (1 + i.val) c))); iexact Hp
  iexact HO

/-- The waits for the seven landings: each hands over its row. -/
theorem wp_waitAll (O : CellTallies nD τ sig ℕ) (hO : Above 45 O) {Q : α → sProp 𝕄} {k : PUnit → Pr F α} :
    iprop(Recs V K ∗ all7 (WaitA (F := F) c) ∗ ows c O) ⊢ iprop(((all7 (GotA V c) ∗ ows c O) -∗ WP c (k ⟨⟩) Q) -∗ WP c (waitAll c >>= k) Q) := by
  unfold all7
  iintro ⟨#HR, ⟨H0, H1, H2, H3, H4, H5, H6⟩, HO⟩ Hk
  simp only [waitAll, bind_assoc]
  iapply (wp_waitArrOf V K c 0 O hO) $$ [H0 HO]
  · isplitr; · iexact HR
    isplitl [H0] <;> iassumption
  iintro ⟨H0, HO⟩
  iapply (wp_waitArrOf V K c 1 O hO) $$ [H1 HO]
  · isplitr; · iexact HR
    isplitl [H1] <;> iassumption
  iintro ⟨H1, HO⟩
  iapply (wp_waitArrOf V K c 2 O hO) $$ [H2 HO]
  · isplitr; · iexact HR
    isplitl [H2] <;> iassumption
  iintro ⟨H2, HO⟩
  iapply (wp_waitArrOf V K c 3 O hO) $$ [H3 HO]
  · isplitr; · iexact HR
    isplitl [H3] <;> iassumption
  iintro ⟨H3, HO⟩
  iapply (wp_waitArrOf V K c 4 O hO) $$ [H4 HO]
  · isplitr; · iexact HR
    isplitl [H4] <;> iassumption
  iintro ⟨H4, HO⟩
  iapply (wp_waitArrOf V K c 5 O hO) $$ [H5 HO]
  · isplitr; · iexact HR
    isplitl [H5] <;> iassumption
  iintro ⟨H5, HO⟩
  iapply (wp_waitArrOf V K c 6 O hO) $$ [H6 HO]
  · isplitr; · iexact HR
    isplitl [H6] <;> iassumption
  iintro ⟨H6, HO⟩
  iapply Hk
  isplitr [HO]
  · isplitl [H0]; · iexact H0
    isplitl [H1]; · iexact H1
    isplitl [H2]; · iexact H2
    isplitl [H3]; · iexact H3
    isplitl [H4]; · iexact H4
    isplitl [H5]; · iexact H5
    iexact H6
  iexact HO

/-- The wait for one transfer to have left. -/
theorem wp_waitDep (i : Fin 7) (off : Fin 2 → Nat) (h : ∀ a, off a + S1x128.size a ≤ S8x128.size a) (sa : DmaSem sig) (ha : sa = sndA i.succ)
    (O : CellTallies nD τ sig ℕ) (hO : Above 0 O) {Q : α → sProp 𝕄} {k : PUnit → Pr F α} :
    iprop(Recs V K ∗ CredA (F := F) c i ∗ StayA (F := F) c i ∗ ows c O)
      ⊢ iprop(((BackA V c i ∗ ows c O) -∗ WP c (k ⟨⟩) Q) -∗ WP c (waitDep off h sa >>= k) Q) := by
  subst ha
  unfold CredA StayA BackA
  iintro ⟨#HR, Hc, Hat, HO⟩ Hk
  simp only [waitDep]
  iapply (wp_waitD V K c (.sa i.succ) 0 0 (sndA i.succ) rfl (duty_sa c i) (rowM _ _) sbM rfl (by omega) O hO) $$ [Hc HO Hat]
  · isplitr; · iexact HR
    isplitl [Hc]; · iexact Hc
    isplitl [HO] <;> iassumption
  iintro ⟨HO, Hat, -, Hp⟩
  iapply Hk
  isplitr [HO]
  · isplitl [Hat]; · iexact Hat
    iapply (Entails.of_eq (pay_sa V c i)); iexact Hp
  iexact HO

/-- The waits for the seven transfers to have left: each gives its share back. -/
theorem wp_leftAll (O : CellTallies nD τ sig ℕ) (hO : Above 0 O) {Q : α → sProp 𝕄} {k : PUnit → Pr F α} :
    iprop(Recs V K ∗ all7 (CredA (F := F) c) ∗ all7 (StayA (F := F) c) ∗ ows c O)
      ⊢ iprop(((all7 (BackA V c) ∗ ows c O) -∗ WP c (k ⟨⟩) Q) -∗ WP c (leftAll c >>= k) Q) := by
  unfold all7
  iintro ⟨#HR, ⟨H0, H1, H2, H3, H4, H5, H6⟩, ⟨S0, S1, S2, S3, S4, S5, S6⟩, HO⟩ Hk
  simp only [leftAll, bind_assoc]
  iapply (wp_waitDep V K c 0 _ _ _ rfl O hO) $$ [H0 S0 HO]
  · isplitr; · iexact HR
    isplitl [H0]; · iexact H0
    isplitl [S0] <;> iassumption
  iintro ⟨H0, HO⟩
  iapply (wp_waitDep V K c 1 _ _ _ rfl O hO) $$ [H1 S1 HO]
  · isplitr; · iexact HR
    isplitl [H1]; · iexact H1
    isplitl [S1] <;> iassumption
  iintro ⟨H1, HO⟩
  iapply (wp_waitDep V K c 2 _ _ _ rfl O hO) $$ [H2 S2 HO]
  · isplitr; · iexact HR
    isplitl [H2]; · iexact H2
    isplitl [S2] <;> iassumption
  iintro ⟨H2, HO⟩
  iapply (wp_waitDep V K c 3 _ _ _ rfl O hO) $$ [H3 S3 HO]
  · isplitr; · iexact HR
    isplitl [H3]; · iexact H3
    isplitl [S3] <;> iassumption
  iintro ⟨H3, HO⟩
  iapply (wp_waitDep V K c 4 _ _ _ rfl O hO) $$ [H4 S4 HO]
  · isplitr; · iexact HR
    isplitl [H4]; · iexact H4
    isplitl [S4] <;> iassumption
  iintro ⟨H4, HO⟩
  iapply (wp_waitDep V K c 5 _ _ _ rfl O hO) $$ [H5 S5 HO]
  · isplitr; · iexact HR
    isplitl [H5]; · iexact H5
    isplitl [S5] <;> iassumption
  iintro ⟨H5, HO⟩
  iapply (wp_waitDep V K c 6 _ _ _ rfl O hO) $$ [H6 S6 HO]
  · isplitr; · iexact HR
    isplitl [H6]; · iexact H6
    isplitl [S6] <;> iassumption
  iintro ⟨H6, HO⟩
  iapply Hk
  isplitr [HO]
  · isplitl [H0]; · iexact H0
    isplitl [H1]; · iexact H1
    isplitl [H2]; · iexact H2
    isplitl [H3]; · iexact H3
    isplitl [H4]; · iexact H4
    isplitl [H5]; · iexact H5
    iexact H6
  iexact HO

/-- A share of the row sent from, put back. -/
theorem row_back (n : ℕ) (X : Vec F S1x128 .f32) :
    iprop(owns (c : Thread nD τ) sbM (rsh (n + 1)) X ∗ owns (c : Thread nD τ) sbM (rsh n).left X) ⊢ (owns (c : Thread nD τ) sbM (rsh n) X : sProp 𝕄) := by
  iintro ⟨Hr, Hl⟩
  iapply (owns_halves (c : Thread nD τ) sbM (rsh n) X).2
  isplitl [Hl]; · iexact Hl
  iexact Hr

/-- The places of the cells of the exchange after it. -/
def OverA (c : Dev nD) (i : Fin 7) : sProp 𝕄 := iprop(atPos ER (cell c (.sa i.succ)) 1 ∅ 0 ∗ atPos ER (cell c (.ra (sh (1 + i.val) c))) 1 ∅ 0)

end Rules

end Cert.Dist

end
-- ==== Proof.Codes.lean ====
/-
  The codes of a device's own rows: the maxima exchanged, the sums read back, the codes stored.
-/
module

public import proofs.«01_k».proof.Proof.Exchange
public import proofs.«01_k».proof.Proof.Gathered

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (x : Dev nD → Vec F S4096x512 .f32) (w : Dev nD → Vec F S512x8192 .f32)

/-- The quarters of a device's own rows, with its sums. -/
def OwnSums (c : Dev nD) : sProp 𝕄 :=
  iprop(ownO c c 0 (blk x w 0 c) ∗ ownO c c 1 (blk x w 1 c) ∗ ownO c c 2 (blk x w 2 c) ∗ ownO c c 3 (blk x w 3 c))
/-- A quarter on its way back into a slot. -/
def flyIn (c : Dev nD) (b : Bool) (t : Fin 2) (i : Fin 4) : sProp 𝕄 := fly c i iprop(ownS c b t (blk x w i c) ∗ ownO c c i (blk x w i c))
def FlysIn (c : Dev nD) : sProp 𝕄 :=
  iprop(flyIn x w c false 0 0 ∗ flyIn x w c false 1 1 ∗ flyIn x w c true 0 2 ∗ flyIn x w c true 1 3)

section Rules

variable (c : Dev nD) {α : Type}

/-- Starting the four copies back: a device's own sums and its free slots become four copies under way. -/
theorem wp_backAll {Q : α → sProp 𝕄} {k : PUnit → Pr F α} :
    iprop(OwnSums x w c ∗ Slots c ∗ Idles c) ⊢ iprop((FlysIn x w c -∗ WP c (k ⟨⟩) Q) -∗ WP c (backAll (ownQ c) >>= k) Q) := by
  unfold OwnSums Slots Idles FlysIn flyIn
  iintro ⟨⟨A0, A1, A2, A3⟩, ⟨S0, S1, S2, S3⟩, ⟨H0, H1, H2, H3⟩⟩ Hk
  simp only [backAll, bind_assoc]
  iapply (wp_backStart c false 0 c 0 _ _ (ownQ_eq c 0) 0 (blk x w 0 c)) $$ [A0 S0 H0]
  · isplitl [A0]; · iexact A0
    isplitl [S0] <;> iassumption
  iintro H0
  iapply (wp_backStart c false 1 c 1 _ _ (ownQ_eq c 1) 1 (blk x w 1 c)) $$ [A1 S1 H1]
  · isplitl [A1]; · iexact A1
    isplitl [S1] <;> iassumption
  iintro H1
  iapply (wp_backStart c true 0 c 2 _ _ (ownQ_eq c 2) 2 (blk x w 2 c)) $$ [A2 S2 H2]
  · isplitl [A2]; · iexact A2
    isplitl [S2] <;> iassumption
  iintro H2
  iapply (wp_backStart c true 1 c 3 _ _ (ownQ_eq c 3) 3 (blk x w 3 c)) $$ [A3 S3 H3]
  · isplitl [A3]; · iexact A3
    isplitl [S3] <;> iassumption
  iintro H3
  iapply Hk
  isplitl [H0]; · iexact H0
  isplitl [H1]; · iexact H1
  isplitl [H2] <;> iassumption

/-- A quarter is back in its slot: its codes are stored. -/
theorem wp_backCodes (b : Bool) (s j : Fin 2) (i : Fin 4) (off : Fin 2 → Nat) (h : ∀ a, off a + S512x2048.size a ≤ S4096x8192.size a)
    (ho : off = qoff c i) (v : F .f32) (X : Vec F S512x4096 .i8) (hst : ((bufB b).access (halfR 0 j) : View sig .tc _ _ _).Stores Finset.univ)
    (O : CellTallies nD τ sig ℕ) (hO : Above 0 O) {Q : α → sProp 𝕄} {k : PUnit → Pr F α} :
    iprop(levAts L lv ∗ flyIn x w c b s i ∗ ownB c b 0 fullShare X ∗ ows c O)
      ⊢ iprop(((anyS c b s ∗ anyO c c i ∗ idle c i ∗ ows c O ∗ (∃ Y, ⌜halfOf Y j = quant v (up (F := F) (e := .f32) (blk x w i c))
            ∧ ∀ j', j' ≠ j → halfOf Y j' = halfOf X j'⌝ ∗ ownB c b 0 fullShare Y)) -∗ WP c (k ⟨⟩) Q)
          -∗ WP c (backCodes (bufS b) (bufB b) s j off h (locS i) v hst >>= k) Q) := by
  subst ho
  iintro ⟨#HR, HF, HB, HO⟩ Hk
  simp only [backCodes, bind_assoc]
  iapply (wp_copyWait c (outQ c i) (slotM (bufS b) s) (locS i) iprop(ownS c b s (blk x w i c) ∗ ownO c c i (blk x w i c)) O hO (lv_loc c i)) $$ [HF HO]
  · isplitr; · iexact HR
    isplitl [HF]; · unfold flyIn; iexact HF
    iexact HO
  iintro ⟨⟨HS, HA⟩, HI, HO⟩
  iapply (wp_ldS c (bufS b) s fullShare _) $$ HS
  iintro HS
  iapply (wp_ldB c (bufB b) 0 j fullShare X) $$ HB
  iintro HB
  iapply (wp_stB c (bufB b) j X _ hst) $$ HB
  iintro HB
  iapply Hk
  isplitl [HS]; · iexists _; iexact HS
  isplitl [HA]; · iexists _; iexact HA
  isplitl [HI]; · iexact HI
  isplitl [HO]; · iexact HO
  iexact HB

/-- All four. -/
theorem wp_codesAll (O : CellTallies nD τ sig ℕ) (hO : Above 0 O) {Q : α → sProp 𝕄} {k : PUnit → Pr F α} :
    iprop(levAts L lv ∗ FlysIn x w c ∗ anyB c false 0 fullShare ∗ anyB c true 0 fullShare ∗ ows c O)
      ⊢ iprop(((Slots c ∗ Outs c c c ∗ Idles c ∗ ows c O ∗ ownB c false 0 fullShare (codesOf x w false c) ∗ ownB c true 0 fullShare (codesOf x w true c))
            -∗ WP c (k ⟨⟩) Q)
          -∗ WP c (codesAll (ownQ c) (invOf (amaxAll x w c)) >>= k) Q) := by
  have key (b : Bool) (Y Z : Vec F S512x4096 .i8) (h0 : halfOf Y 0 = code x w (bif b then 2 else 0) c) (h1 : halfOf Z 1 = code x w (bif b then 3 else 1) c)
      (h : halfOf Z 0 = halfOf Y 0) : Z = codesOf x w b c := by
    apply half_ext
    · rw [h, h0]; unfold codesOf; rw [halfOf_join_zero]
    · rw [h1]; unfold codesOf; rw [halfOf_join_one]
  unfold FlysIn Slots Outs Idles
  iintro ⟨#HR, ⟨H0, H1, H2, H3⟩, ⟨%X, HB⟩, ⟨%X', HB'⟩, HO⟩ Hk
  simp only [codesAll, bind_assoc]
  iapply (wp_backCodes x w c false 0 0 0 _ _ (ownQ_eq c 0) _ X _ O hO) $$ [H0 HB HO]
  · isplitr; · iexact HR
    isplitl [H0]; · iexact H0
    isplitl [HB] <;> iassumption
  iintro ⟨S0, A0, I0, HO, %Y, %hY, HB⟩
  iapply (wp_backCodes x w c false 1 1 1 _ _ (ownQ_eq c 1) _ Y _ O hO) $$ [H1 HB HO]
  · isplitr; · iexact HR
    isplitl [H1]; · iexact H1
    isplitl [HB] <;> iassumption
  iintro ⟨S1, A1, I1, HO, %Z, %hZ, HB⟩
  iapply (wp_backCodes x w c true 0 0 2 _ _ (ownQ_eq c 2) _ X' _ O hO) $$ [H2 HB' HO]
  · isplitr; · iexact HR
    isplitl [H2]; · iexact H2
    isplitl [HB'] <;> iassumption
  iintro ⟨S2, A2, I2, HO, %Y', %hY', HB'⟩
  iapply (wp_backCodes x w c true 1 1 3 _ _ (ownQ_eq c 3) _ Y' _ O hO) $$ [H3 HB' HO]
  · isplitr; · iexact HR
    isplitl [H3]; · iexact H3
    isplitl [HB'] <;> iassumption
  iintro ⟨S3, A3, I3, HO, %Z', %hZ', HB'⟩
  iapply Hk
  isplitl [S0 S1 S2 S3]
  · isplitl [S0]; · iexact S0
    isplitl [S1]; · iexact S1
    isplitl [S2] <;> iassumption
  isplitl [A0 A1 A2 A3]
  · isplitl [A0]; · iexact A0
    isplitl [A1]; · iexact A1
    isplitl [A2] <;> iassumption
  isplitl [I0 I1 I2 I3]
  · isplitl [I0]; · iexact I0
    isplitl [I1]; · iexact I1
    isplitl [I2] <;> iassumption
  isplitl [HO]; · iexact HO
  isplitl [HB]
  · rw [← key false Y Z hY.1 hZ.1 (hZ.2 0 (by decide))]; iexact HB
  · rw [← key true Y' Z' hY'.1 hZ'.1 (hZ'.2 0 (by decide))]; iexact HB'

/-- The rows of the buffer of maxima together. -/
theorem maxima_whole : iprop(ownR c c zeroRow ∗ all7 fun i => ownR c (sh (1 + i.val) c) (spread (amax x w (sh (1 + i.val) c))))
    ⊢ (owns (c : Thread nD τ) rbM fullShare (maxima x w c) : sProp 𝕄) := by
  have e (i : Fin 7) : rowOf (maxima x w c) (sh (1 + i.val) c) = spread (amax x w (sh (1 + i.val) c)) := maxima_other x w c _ (sh_ne c i)
  refine BIBase.Entails.trans ?_ (rows_join c (maxima x w c))
  rw [around (fun j => ownR c j (rowOf (maxima x w c) j)) c, maxima_own]
  unfold all7
  simp only [← e]
  iintro ⟨H, H0, H1, H2, H3, H4, H5, H6⟩
  isplitl [H]; · iexact H
  isplitl [H0]; · iexact H0
  isplitl [H1]; · iexact H1
  isplitl [H2]; · iexact H2
  isplitl [H3]; · iexact H3
  isplitl [H4]; · iexact H4
  isplitl [H5]; · iexact H5
  iexact H6

/-- The shares of the row sent from together. -/
theorem shares_whole (X : Vec F S1x128 .f32) : iprop(owns (c : Thread nD τ) sbM (rsh 7) X ∗ all7 fun i => owns (c : Thread nD τ) sbM (rsh i.val).left X)
    ⊢ (owns (c : Thread nD τ) sbM fullShare X : sProp 𝕄) := by
  unfold all7
  iintro ⟨H, H0, H1, H2, H3, H4, H5, H6⟩
  ihave H := (row_back c 6 X) $$ [H H6]
  · isplitl [H]; · iexact H
    iexact H6
  ihave H := (row_back c 5 X) $$ [H H5]
  · isplitl [H]; · iexact H
    iexact H5
  ihave H := (row_back c 4 X) $$ [H H4]
  · isplitl [H]; · iexact H
    iexact H4
  ihave H := (row_back c 3 X) $$ [H H3]
  · isplitl [H]; · iexact H
    iexact H3
  ihave H := (row_back c 2 X) $$ [H H2]
  · isplitl [H]; · iexact H
    iexact H2
  ihave H := (row_back c 1 X) $$ [H H1]
  · isplitl [H]; · iexact H
    iexact H1
  ihave H := (row_back c 0 X) $$ [H H0]
  · isplitl [H]; · iexact H
    iexact H0
  iexact H

variable (K : Dev nD × Kd → ℕ)

/-- What the exchange of the maxima starts from, beside the state of the passes, -/
def ExIn (c : Dev nD) : sProp 𝕄 :=
  iprop(ownR (F := F) c c zeroRow ∗ (∃ X, owns (c : Thread nD τ) sbM fullShare X) ∗ all7 (TokA (F := F) c) ∗ all7 (WaitA (F := F) c) ∗ all7 (StayA (F := F) c))
/-- and what it ends with. -/
def ExOut (c : Dev nD) : sProp 𝕄 :=
  iprop((∃ X : Vec F S8x128 .f32, owns (c : Thread nD τ) rbM fullShare X) ∗ (∃ X : Vec F S1x128 .f32, owns (c : Thread nD τ) sbM fullShare X) ∗ all7 (OverA (F := F) c))

/-- The maxima exchanged and the own rows' codes made. -/
theorem wp_codes {Q : α → sProp 𝕄} {k : F .f32 → Pr F α} :
    iprop(Recs (sent x w) K ∗ Done (oweA c) 13 c ∗ Slots c ∗ OwnSums x w c ∗ Idles c ∗ anyB c false 0 fullShare ∗ anyB c true 0 fullShare ∗ ExIn c)
      ⊢ iprop(((Done 0 13 c ∗ ownB c false 0 fullShare (codesOf x w false c) ∗ ownB c true 0 fullShare (codesOf x w true c) ∗ Slots c ∗ Outs c c c ∗ Idles c
            ∗ ExOut c) -∗ WP c (k (scaleOf (amaxAll x w c))) Q)
          -∗ WP c (codes c (amax x w c) >>= k) Q) := by
  have hO : Above 45 (Owe 0 c 14) := above_Owe 0 c (Above.zero _) (by omega)
  have hO' : Above 0 (Owe 0 c 14) := hO.mono (Nat.zero_le _)
  unfold ExIn ExOut
  iintro ⟨#HR, Hd, HS, HA, HI, HB, HB', Hrow, Hsb, HT, HW, HY⟩ Hk
  simp only [codes, setMax, getMax, bind_assoc]
  icases (done_open c) $$ Hd with ⟨HO, Hrows, Hback⟩
  icases Hsb with ⟨%X₀, Hsb⟩
  iapply (wp_ldAll c sbM _ _ fullShare X₀) $$ Hsb
  iintro Hsb
  iapply (wp_stAll c sbM _ _ _) $$ [Hsb]
  · iexists _; iexact Hsb
  iintro Hsb
  iapply (wp_sendAll (sent x w) K c (Owe 0 c 14)) $$ [Hsb Hrows HT HO]
  · isplitr; · iexact HR
    isplitl [Hsb]; · iexact Hsb
    isplitl [Hrows]; · iapply (rights_peers c); iexact Hrows
    isplitl [HT] <;> iassumption
  iintro ⟨Hsb, HC, HO⟩
  iapply (wp_backAll x w c) $$ [HA HS HI]
  · isplitl [HA]; · iexact HA
    isplitl [HS] <;> iassumption
  iintro HF
  iapply (wp_waitAll (sent x w) K c _ hO) $$ [HW HO]
  · isplitr; · iexact HR
    isplitl [HW] <;> iassumption
  iintro ⟨HG, HO⟩
  iapply (wp_leftAll (sent x w) K c _ hO') $$ [HC HY HO]
  · isplitr; · iexact HR
    isplitl [HC]; · iexact HC
    isplitl [HY] <;> iassumption
  iintro ⟨HC, HO⟩
  unfold all7 GotA BackA
  icases HG with ⟨⟨G0, R0⟩, ⟨G1, R1⟩, ⟨G2, R2⟩, ⟨G3, R3⟩, ⟨G4, R4⟩, ⟨G5, R5⟩, ⟨G6, R6⟩⟩
  icases HC with ⟨⟨C0, L0⟩, ⟨C1, L1⟩, ⟨C2, L2⟩, ⟨C3, L3⟩, ⟨C4, L4⟩, ⟨C5, L5⟩, ⟨C6, L6⟩⟩
  ihave Hrb := (maxima_whole x w c) $$ [Hrow R0 R1 R2 R3 R4 R5 R6]
  · unfold all7
    isplitl [Hrow]; · iexact Hrow
    isplitl [R0]; · iexact R0
    isplitl [R1]; · iexact R1
    isplitl [R2]; · iexact R2
    isplitl [R3]; · iexact R3
    isplitl [R4]; · iexact R4
    isplitl [R5]; · iexact R5
    iexact R6
  ihave Hsb := (shares_whole c (spread (amax x w c))) $$ [Hsb L0 L1 L2 L3 L4 L5 L6]
  · unfold all7
    isplitl [Hsb]; · iexact Hsb
    isplitl [L0]; · iexact L0
    isplitl [L1]; · iexact L1
    isplitl [L2]; · iexact L2
    isplitl [L3]; · iexact L3
    isplitl [L4]; · iexact L4
    isplitl [L5]; · iexact L5
    iexact L6
  iapply (wp_ldAll c rbM _ _ fullShare (maxima x w c)) $$ Hrb
  iintro Hrb
  iapply (wp_codesAll x w c _ hO') $$ [HF HB HB' HO]
  · isplitr; · iapply (lev_at (sent x w) K); iexact HR
    isplitl [HF]; · iexact HF
    isplitl [HB]; · iexact HB
    isplitl [HB'] <;> iassumption
  iintro ⟨HS, HA, HI, HO, HB, HB'⟩
  rw [pure_bind]
  iapply Hk
  isplitl [Hback HO]; · iapply Hback; iexact HO
  isplitl [HB]; · iexact HB
  isplitl [HB']; · iexact HB'
  isplitl [HS]; · iexact HS
  isplitl [HA]; · iexact HA
  isplitl [HI]; · iexact HI
  isplitl [Hrb]; · iexists _; iexact Hrb
  isplitl [Hsb]; · iexists _; iexact Hsb
  unfold OverA
  isplitl [C0 G0]; · isplitl [C0] <;> iassumption
  isplitl [C1 G1]; · isplitl [C1] <;> iassumption
  isplitl [C2 G2]; · isplitl [C2] <;> iassumption
  isplitl [C3 G3]; · isplitl [C3] <;> iassumption
  isplitl [C4 G4]; · isplitl [C4] <;> iassumption
  isplitl [C5 G5]; · isplitl [C5] <;> iassumption
  isplitl [C6] <;> iassumption

end Rules

end Cert.Dist

end
-- ==== Proof.Whole.lean ====
/-
  The buffers whole and in their parts; the kernel's result from its quarters.
-/
module

public import proofs.«01_k».proof.Proof.Codes

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The two slots of a buffer -/

/-- A location held whole is two parts of it held, each with some contents. -/
theorem pts_two {ℓ : Loc nD τ sig} {I J : Finset (Idx ℓ)} (hd : Disjoint I J) (hu : I ∪ J = Finset.univ) :
    (iprop(∃ f : Buf (Elt F) ℓ, ℓ ↦{fullShare} f) : sProp 𝕄) = iprop((∃ f : Buf (Elt F) ℓ, ℓ ↦[I]{fullShare} f) ∗ ∃ f : Buf (Elt F) ℓ, ℓ ↦[J]{fullShare} f) := by
  have h₁ : (iprop(∃ f : Buf (Elt F) ℓ, ℓ ↦{fullShare} f) : sProp 𝕄)
      ⊢ iprop((∃ f : Buf (Elt F) ℓ, ℓ ↦[I]{fullShare} f) ∗ ∃ f : Buf (Elt F) ℓ, ℓ ↦[J]{fullShare} f) := by
    iintro ⟨%f, H⟩
    ihave H := (Entails.of_eq (show (ℓ ↦{fullShare} f : sProp 𝕄) = (ℓ ↦[I ∪ J]{fullShare} f) by rw [hu])) $$ H
    icases (pointsTo_union hd).1 $$ H with ⟨HI, HJ⟩
    isplitl [HI]
    · iexists f; iexact HI
    · iexists f; iexact HJ
  have h₂ : iprop((∃ f : Buf (Elt F) ℓ, ℓ ↦[I]{fullShare} f) ∗ ∃ f : Buf (Elt F) ℓ, ℓ ↦[J]{fullShare} f)
      ⊢ (iprop(∃ f : Buf (Elt F) ℓ, ℓ ↦{fullShare} f) : sProp 𝕄) := by
    iintro ⟨⟨%f, HI⟩, ⟨%g, HJ⟩⟩
    ihave H := (pointsTo_join hd (f := f) (g := g)) $$ [HI HJ]
    · isplitl [HI] <;> iassumption
    iexists _
    iapply (Entails.of_eq (show (ℓ ↦[I ∪ J]{fullShare} (J.piecewise g f) : sProp 𝕄) = (ℓ ↦{fullShare} (J.piecewise g f)) by rw [hu]))
    iexact H
  exact BI.equiv_iff.mp ⟨h₁, h₂⟩

/-- Some contents of a block, held, are some contents of the locations under it. -/
theorem owns_any (c : Dev nD) {sp : Space} {s : Shape} {e : EltTy} (m : Memref sig .tc sp s e) (q : PosShare TreeShare) :
    (iprop(∃ X, owns (c : Thread nD τ) m q X) : sProp 𝕄) = iprop(∃ f : Buf (Elt F) (m.view.loc (c : Thread nD τ)), m.view.loc (c : Thread nD τ) ↦[m.view.set]{q} f) := by
  have h₁ : (iprop(∃ X, owns (c : Thread nD τ) m q X) : sProp 𝕄)
      ⊢ iprop(∃ f : Buf (Elt F) (m.view.loc (c : Thread nD τ)), m.view.loc (c : Thread nD τ) ↦[m.view.set]{q} f) := by
    unfold owns
    iintro ⟨%X, %f, -, H⟩; iexists f; iexact H
  have h₂ : iprop(∃ f : Buf (Elt F) (m.view.loc (c : Thread nD τ)), m.view.loc (c : Thread nD τ) ↦[m.view.set]{q} f)
      ⊢ (iprop(∃ X, owns (c : Thread nD τ) m q X) : sProp 𝕄) := by
    iintro ⟨%f, H⟩; iexists _; iapply (owns_intro (c : Thread nD τ) m q f); iexact H
  exact BI.equiv_iff.mp ⟨h₁, h₂⟩

/-- The two slots of sums do not meet, -/
theorem slots_disjoint : Disjoint (slotR 0).set (slotR 1).set := by
  rw [Finset.disjoint_left]
  intro i hi hi'
  rw [Rect.mem_set_unit] at hi hi'
  have h1 : (i 0).val < 0 + 1 := (hi 0).2
  have h2 : 1 ≤ (i 0).val := (hi' 0).1
  omega
/-- and make up the buffer. -/
theorem slots_cover : (slotR 0).set ∪ (slotR 1).set = Finset.univ := by
  ext i
  have h0 : (i 0).val < 2 := (i 0).isLt
  have h1 : (i 1).val < 512 := (i 1).isLt
  have h2 : (i 2).val < 2048 := (i 2).isLt
  simp only [Finset.mem_union, Finset.mem_univ, iff_true, Rect.mem_set_unit]
  by_cases h : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 512; omega⟩
    | ⟨2, _⟩ => exact ⟨Nat.zero_le _, by show (i 2).val < 0 + 2048; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 512; omega⟩
    | ⟨2, _⟩ => exact ⟨Nat.zero_le _, by show (i 2).val < 0 + 2048; omega⟩
/-- The two slots of codes do not meet, -/
theorem bslots_disjoint : Disjoint (bslotR 0).set (bslotR 1).set := by
  rw [Finset.disjoint_left]
  intro i hi hi'
  rw [Rect.mem_set_unit] at hi hi'
  have h1 : (i 0).val < 0 + 1 := (hi 0).2
  have h2 : 1 ≤ (i 0).val := (hi' 0).1
  omega
/-- and make up the buffer. -/
theorem bslots_cover : (bslotR 0).set ∪ (bslotR 1).set = Finset.univ := by
  ext i
  have h0 : (i 0).val < 2 := (i 0).isLt
  have h1 : (i 1).val < 512 := (i 1).isLt
  have h2 : (i 2).val < 4096 := (i 2).isLt
  simp only [Finset.mem_union, Finset.mem_univ, iff_true, Rect.mem_set_unit]
  by_cases h : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 512; omega⟩
    | ⟨2, _⟩ => exact ⟨Nat.zero_le _, by show (i 2).val < 0 + 4096; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 512; omega⟩
    | ⟨2, _⟩ => exact ⟨Nat.zero_le _, by show (i 2).val < 0 + 4096; omega⟩

/-- A buffer held, as the launch holds it. -/
abbrev scr (c : Dev nD) (b : Ref sig .tc) : sProp 𝕄 := iprop(∃ f : Buf (Elt F) ((c : Thread nD τ).loc b), ((c : Thread nD τ).loc b) ↦{fullShare} f)

/-- A buffer held as the launch holds it is held whole. -/
theorem scr_whole (c : Dev nD) (b : Ref sig .tc) : (scr (F := F) c b : sProp 𝕄) = iprop(∃ X, owns (c : Thread nD τ) (Memref.whole b) fullShare X) := by
  unfold scr; simp only [owns_whole]

/-- A buffer of partial sums is its two slots; -/
theorem scr_slots (c : Dev nD) (b : Bool) : (scr (F := F) c (match b with | true => cc0_scratch1 | false => cc0_scratch0) : sProp 𝕄)
    = iprop(anyS (F := F) c b 0 ∗ anyS (F := F) c b 1) := by
  unfold anyS ownS
  rw [owns_any, owns_any]
  cases b
  · exact pts_two (ℓ := (c : Thread nD τ).loc cc0_scratch0) (I := (slotM cwM 0).view.set) (J := (slotM cwM 1).view.set)
      (by rw [slot_set, slot_set]; erw [View.set_slice_whole, View.set_slice_whole]; exact slots_disjoint)
      (by rw [slot_set, slot_set]; erw [View.set_slice_whole, View.set_slice_whole]; exact slots_cover)
  · exact pts_two (ℓ := (c : Thread nD τ).loc cc0_scratch1) (I := (slotM ccwM 0).view.set) (J := (slotM ccwM 1).view.set)
      (by rw [slot_set, slot_set]; erw [View.set_slice_whole, View.set_slice_whole]; exact slots_disjoint)
      (by rw [slot_set, slot_set]; erw [View.set_slice_whole, View.set_slice_whole]; exact slots_cover)
/-- a buffer of codes too. -/
theorem scr_bslots (c : Dev nD) (b : Bool) : (scr (F := F) c (match b with | true => cc0_scratch3 | false => cc0_scratch2) : sProp 𝕄)
    = iprop(anyB (F := F) c b 0 fullShare ∗ anyB (F := F) c b 1 fullShare) := by
  unfold anyB ownB
  rw [owns_any, owns_any]
  cases b
  · exact pts_two (ℓ := (c : Thread nD τ).loc cc0_scratch2) (I := (bslotM cwB 0).view.set) (J := (bslotM cwB 1).view.set)
      (by rw [bslot_set, bslot_set]; erw [View.set_slice_whole, View.set_slice_whole]; exact bslots_disjoint)
      (by rw [bslot_set, bslot_set]; erw [View.set_slice_whole, View.set_slice_whole]; exact bslots_cover)
  · exact pts_two (ℓ := (c : Thread nD τ).loc cc0_scratch3) (I := (bslotM ccwB 0).view.set) (J := (bslotM ccwB 1).view.set)
      (by rw [bslot_set, bslot_set]; erw [View.set_slice_whole, View.set_slice_whole]; exact bslots_disjoint)
      (by rw [bslot_set, bslot_set]; erw [View.set_slice_whole, View.set_slice_whole]; exact bslots_cover)

/-! ### The quarters of the result -/

abbrev qRect (t : Fin 8 × Fin 4) : Rect S4096x8192 := Rect.unit (s := S4096x8192) (qoff t.1 t.2) S512x2048.size (qoff_inb t.1 t.2)

/-- Two different quarters do not meet, -/
theorem q_disjoint (t t' : Fin 8 × Fin 4) (h : t ≠ t') : Disjoint (qRect t).set (qRect t').set := by
  rw [Finset.disjoint_left]
  intro i hi hi'
  rw [Rect.mem_set_unit] at hi hi'
  have h1 : 512 * t.1.val ≤ (i 0).val := (hi 0).1
  have h2 : (i 0).val < 512 * t.1.val + 512 := (hi 0).2
  have h3 : 512 * t'.1.val ≤ (i 0).val := (hi' 0).1
  have h4 : (i 0).val < 512 * t'.1.val + 512 := (hi' 0).2
  have h5 : 2048 * t.2.val ≤ (i 1).val := (hi 1).1
  have h6 : (i 1).val < 2048 * t.2.val + 2048 := (hi 1).2
  have h7 : 2048 * t'.2.val ≤ (i 1).val := (hi' 1).1
  have h8 : (i 1).val < 2048 * t'.2.val + 2048 := (hi' 1).2
  exact h (Prod.ext (Fin.ext (by omega)) (Fin.ext (by omega)))
/-- and all of them make up the result. -/
theorem q_cover : (Finset.univ.biUnion fun t : Fin 8 × Fin 4 => (qRect t).set) = (Finset.univ : Finset S4096x8192.Idx) := by
  ext i
  have h0 : (i 0).val < 4096 := (i 0).isLt
  have h1 : (i 1).val < 8192 := (i 1).isLt
  simp only [Finset.mem_univ, Finset.mem_biUnion, true_and, iff_true]
  refine ⟨(⟨(i 0).val / 512, by omega⟩, ⟨(i 1).val / 2048, by omega⟩), ?_⟩
  rw [Rect.mem_set_unit]
  intro a
  match a with
  | ⟨0, _⟩ => exact ⟨by show 512 * ((i 0).val / 512) ≤ (i 0).val; omega, by show (i 0).val < 512 * ((i 0).val / 512) + 512; omega⟩
  | ⟨1, _⟩ => exact ⟨by show 2048 * ((i 1).val / 2048) ≤ (i 1).val; omega, by show (i 1).val < 2048 * ((i 1).val / 2048) + 2048; omega⟩

/-- The place in its quarter of a place of the result. -/
def qIn (i : S4096x8192.Idx) : S512x2048.Idx := ValueIdx.ix2 (⟨(i 0).val % 512, Nat.mod_lt _ (by decide)⟩ : Fin 512) ⟨(i 1).val % 2048, Nat.mod_lt _ (by decide)⟩
/-- The device whose rows it is in, and the quarter. -/
def qRow (i : S4096x8192.Idx) : Fin 8 := ⟨(i 0).val / 512, by have : (i 0).val < 4096 := (i 0).isLt; omega⟩
def qCol (i : S4096x8192.Idx) : Fin 4 := ⟨(i 1).val / 2048, by have : (i 1).val < 8192 := (i 1).isLt; omega⟩

/-- An element of a quarter has that quarter's row, its column and its own place in it. -/
theorem q_emb (t : Fin 8 × Fin 4) (j : S512x2048.Idx) : qRow ((qRect t).emb j) = t.1 ∧ qCol ((qRect t).emb j) = t.2 ∧ qIn ((qRect t).emb j) = j := by
  have h0 : (j 0).val < 512 := (j 0).isLt
  have h1 : (j 1).val < 2048 := (j 1).isLt
  have e0 : (((qRect t).emb j) 0).val = 512 * t.1.val + 1 * (j 0).val := rfl
  have e1 : (((qRect t).emb j) 1).val = 2048 * t.2.val + 1 * (j 1).val := rfl
  refine ⟨Fin.ext ?_, Fin.ext ?_, idx_ext (m := 512) (n := 2048) _ _ ?_ ?_⟩
  · show (((qRect t).emb j) 0).val / 512 = _; omega
  · show (((qRect t).emb j) 1).val / 2048 = _; omega
  · show (((qRect t).emb j) 0).val % 512 = _; omega
  · show (((qRect t).emb j) 1).val % 2048 = _; omega

/-- The result put together from its quarters. -/
def glue (Z : Fin 4 → Dev nD → Vec F S512x2048 .f32) : Vec F S4096x8192 .f32 := fun i => Z (qCol i) (qRow i) (qIn i)

/-- A quarter of what was put together is the one that was put in. -/
theorem glue_emb (Z : Fin 4 → Dev nD → Vec F S512x2048 .f32) (t : Fin 8 × Fin 4) :
    (fun j => glue Z ((qRect t).emb j)) = Z t.2 t.1 := by
  funext j
  obtain ⟨h1, h2, h3⟩ := q_emb t j
  unfold glue
  rw [h1, h2, h3]

/-- The devices in the order they come round. -/
def bkEquiv (b : Bool) (c : Dev nD) : Fin 8 ≃ Dev nD :=
  Equiv.ofBijective (fun a => bk b a.val c) (by revert b c; decide)

/-- What is held of every quarter, in the order of the hops. -/
theorem quarters (Ψ : Dev nD → Fin 4 → sProp 𝕄) (c : Dev nD) : (bigSep Finset.univ fun t : Fin 8 × Fin 4 => Ψ t.1 t.2)
    = bigSep Finset.univ fun a : Fin 8 => iprop(Ψ (bk false a.val c) 0 ∗ Ψ (bk false a.val c) 1 ∗ Ψ (bk true a.val c) 2 ∗ Ψ (bk true a.val c) 3) := by
  rw [bigSep_univ_prod, bigSep_congr (s := Finset.univ) (fun (o : Dev nD) _ =>
    (bigSep_univ_eq_bigSepL [(0 : Fin 4), 1, 2, 3] (by decide) (by decide) (Ψ o)).trans (by
      simp only [bigSepL_cons_cons, bigSepL_singleton]
      exact (rfl : _ = iprop(Ψ o 0 ∗ Ψ o 1 ∗ Ψ o 2 ∗ Ψ o 3))))]
  rw [bigSep_sep', bigSep_sep', bigSep_sep', bigSep_sep', bigSep_sep', bigSep_sep',
    bigSep_univ_equiv (bkEquiv false c) (fun o => Ψ o 0), bigSep_univ_equiv (bkEquiv false c) (fun o => Ψ o 1),
    bigSep_univ_equiv (bkEquiv true c) (fun o => Ψ o 2), bigSep_univ_equiv (bkEquiv true c) (fun o => Ψ o 3)]
  rfl

/-- Something for each hop, one by one. -/
theorem eight (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) := by
  rw [bigSep_univ_eq_bigSepL [(0 : Fin 8), 1, 2, 3, 4, 5, 6, 7] (by decide) (by decide)]
  simp only [bigSepL_cons_cons, bigSepL_singleton]
  rfl

/-- The result before the kernel is all quarters still to be written. -/
theorem out_todo (c : Dev nD) (X : Vec F S4096x8192 .f32) : (owns (c : Thread nD τ) oM fullShare X : sProp 𝕄) ⊢ Todo (F := F) 8 c := by
  refine (owns_rects (c : Thread nD τ) oM fullShare qRect (fun _ _ => rfl) q_disjoint q_cover X).trans ?_
  refine (bigSep_mono (Ψ := fun t : Fin 8 × Fin 4 => anyO (F := F) c t.1 t.2) fun t _ => ?_).trans ?_
  · show (owns (c : Thread nD τ) (outQ t.1 t.2) fullShare _ : sProp 𝕄) ⊢ iprop(∃ X, ownO (F := F) c t.1 t.2 X)
    iintro H; iexists _; iexact H
  rw [quarters (fun o i => anyO (F := F) c o i) c, eight]
  show _ ⊢ iprop(Outs (F := F) c (bk false 0 c) (bk true 0 c) ∗ Outs (F := F) c (bk false 1 c) (bk true 1 c) ∗ Outs (F := F) c (bk false 2 c) (bk true 2 c)
    ∗ Outs (F := F) c (bk false 3 c) (bk true 3 c) ∗ Outs (F := F) c (bk false 4 c) (bk true 4 c) ∗ Outs (F := F) c (bk false 5 c) (bk true 5 c)
    ∗ Outs (F := F) c (bk false 6 c) (bk true 6 c) ∗ Outs (F := F) c (bk false 7 c) (bk true 7 c) ∗ emp)
  unfold Outs
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

variable (x : Dev nD → Vec F S4096x512 .f32) (w : Dev nD → Vec F S512x8192 .f32)

/-- The kernel's result on device `c`. -/
def result (c : Dev nD) : Vec F S4096x8192 .f32 := glue (resBlk x w c)

/-- The quarters written from the codes of two devices are those of the result. -/
theorem outsAt_res (c o o' : Dev nD) : OutsAt c o o' (scaleOf (amaxAll x w c)) (codesOf x w false o) (codesOf x w true o')
    = (iprop(ownO c o 0 (resBlk x w c 0 o) ∗ ownO c o 1 (resBlk x w c 1 o) ∗ ownO c o' 2 (resBlk x w c 2 o') ∗ ownO c o' 3 (resBlk x w c 3 o')) : sProp 𝕄) := by
  unfold OutsAt codesOf
  rw [halfOf_join_zero, halfOf_join_one, halfOf_join_zero, halfOf_join_one]
  rfl

/-- The quarters all written are the result. -/
theorem made_out (c : Dev nD) : (Made (sent x w) (scaleOf (amaxAll x w c)) 8 c : sProp 𝕄) ⊢ owns (c : Thread nD τ) oM fullShare (result x w c) := by
  refine BIBase.Entails.trans ?_ (owns_of_rects (c : Thread nD τ) oM fullShare qRect (fun _ _ => rfl) q_disjoint q_cover (result x w c))
  have e : (fun t : Fin 8 × Fin 4 => (owns (c : Thread nD τ) (oM.slice (qRect t) (fun _ => rfl)) fullShare (fun j => result x w c ((qRect t).emb j)) : sProp 𝕄))
      = fun t => ownO c t.1 t.2 (resBlk x w c t.2 t.1) := by
    funext t
    rw [show (fun j => result x w c ((qRect t).emb j)) = resBlk x w c t.2 t.1 from glue_emb (resBlk x w c) t]
  rw [e, quarters (fun o i => ownO c o i (resBlk x w c i o)) c, eight]
  simp only [← outsAt_res]
  iintro H
  ihave H := (Entails.of_eq (show (Made (sent x w) (scaleOf (amaxAll x w c)) 8 c : sProp 𝕄)
    = iprop(OutsAt c (bk false 7 c) (bk true 7 c) (scaleOf (amaxAll x w c)) (codesOf x w false (bk false 7 c)) (codesOf x w true (bk true 7 c))
      ∗ OutsAt c (bk false 6 c) (bk true 6 c) (scaleOf (amaxAll x w c)) (codesOf x w false (bk false 6 c)) (codesOf x w true (bk true 6 c))
      ∗ OutsAt c (bk false 5 c) (bk true 5 c) (scaleOf (amaxAll x w c)) (codesOf x w false (bk false 5 c)) (codesOf x w true (bk true 5 c))
      ∗ OutsAt c (bk false 4 c) (bk true 4 c) (scaleOf (amaxAll x w c)) (codesOf x w false (bk false 4 c)) (codesOf x w true (bk true 4 c))
      ∗ OutsAt c (bk false 3 c) (bk true 3 c) (scaleOf (amaxAll x w c)) (codesOf x w false (bk false 3 c)) (codesOf x w true (bk true 3 c))
      ∗ OutsAt c (bk false 2 c) (bk true 2 c) (scaleOf (amaxAll x w c)) (codesOf x w false (bk false 2 c)) (codesOf x w true (bk true 2 c))
      ∗ OutsAt c (bk false 1 c) (bk true 1 c) (scaleOf (amaxAll x w c)) (codesOf x w false (bk false 1 c)) (codesOf x w true (bk true 1 c))
      ∗ OutsAt c (bk false 0 c) (bk true 0 c) (scaleOf (amaxAll x w c)) (codesOf x w false (bk false 0 c)) (codesOf x w true (bk true 0 c)) ∗ emp) from rfl)) $$ H
  icases H with ⟨H7, H6, H5, H4, H3, H2, H1, H0, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Dist

end
-- ==== Proof.Body.lean ====
/-
  The kernel's body on one device, whole.
-/
module

public import proofs.«01_k».proof.Proof.Whole

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Something for each kind of cell, one by one. -/
theorem kinds (Φ : Kd → sProp 𝕄) (c : Dev nD) : (bigSep Finset.univ Φ : sProp 𝕄)
    = iprop(Φ (.snd false 0) ∗ Φ (.snd false 1) ∗ Φ (.snd true 0) ∗ Φ (.snd true 1) ∗ Φ (.rcv false 0) ∗ Φ (.rcv false 1) ∗ Φ (.rcv true 0) ∗ Φ (.rcv true 1) ∗ Φ (.cred false) ∗ Φ (.cred true) ∗ Φ .bar ∗ Φ (.sa 0) ∗ Φ (.ra c)
      ∗ Φ (.sa ((0 : Fin 7).succ)) ∗ Φ (.sa ((1 : Fin 7).succ)) ∗ Φ (.sa ((2 : Fin 7).succ)) ∗ Φ (.sa ((3 : Fin 7).succ)) ∗ Φ (.sa ((4 : Fin 7).succ)) ∗ Φ (.sa ((5 : Fin 7).succ)) ∗ Φ (.sa ((6 : Fin 7).succ))
      ∗ Φ (.ra (sh (1 + (0 : Fin 7).val) c)) ∗ Φ (.ra (sh (1 + (1 : Fin 7).val) c)) ∗ Φ (.ra (sh (1 + (2 : Fin 7).val) c)) ∗ Φ (.ra (sh (1 + (3 : Fin 7).val) c)) ∗ Φ (.ra (sh (1 + (4 : Fin 7).val) c)) ∗ Φ (.ra (sh (1 + (5 : Fin 7).val) c)) ∗ Φ (.ra (sh (1 + (6 : Fin 7).val) c))) := by
  rw [bigSep_univ_eq_bigSepL [(.snd false 0), (.snd false 1), (.snd true 0), (.snd true 1), (.rcv false 0), (.rcv false 1), (.rcv true 0), (.rcv true 1), (.cred false), (.cred true), .bar, (.sa 0), (.ra c), (.sa ((0 : Fin 7).succ)), (.sa ((1 : Fin 7).succ)), (.sa ((2 : Fin 7).succ)), (.sa ((3 : Fin 7).succ)), (.sa ((4 : Fin 7).succ)), (.sa ((5 : Fin 7).succ)), (.sa ((6 : Fin 7).succ)), (.ra (sh (1 + (0 : Fin 7).val) c)), (.ra (sh (1 + (1 : Fin 7).val) c)), (.ra (sh (1 + (2 : Fin 7).val) c)), (.ra (sh (1 + (3 : Fin 7).val) c)), (.ra (sh (1 + (4 : Fin 7).val) c)), (.ra (sh (1 + (5 : Fin 7).val) c)), (.ra (sh (1 + (6 : Fin 7).val) c))] (by revert c; decide) (by revert c; decide)]
  simp only [bigSepL_cons_cons, bigSepL_singleton]
  rfl

/-- The places a device starts at, -/
def atAll (c : Dev nD) : sProp 𝕄 := bigSep Finset.univ fun k : Kd => atPos ER (cell c k) 0 ∅ 0
/-- the round each cell is at in the end, -/
def finR (c : Dev nD) : Kd → ℕ
  | .snd _ s => 11 - s.val | .rcv _ t => 10 + t.val | .cred _ => 21 | .bar => 1
  | .sa o => if o = 0 then 0 else 1 | .ra j => if j = c then 0 else 1
/-- the places a device ends at, -/
def endAll (c : Dev nD) : sProp 𝕄 := bigSep Finset.univ fun k : Kd => atPos ER (cell c k) (finR c k) ∅ 0
/-- and the counters of its cells, at rest. -/
def semAll (c : Dev nD) : sProp 𝕄 := bigSep Finset.univ fun k : Kd => semVal (cell c k) 0

/-- From the round a cell ends at on, it has no duty. -/
theorem duties_fin (V : Sent F) (c : Dev nD) (k : Kd) : ∀ r, finR c k ≤ r → (rd V).duties (cell c k) r = ∅ := by
  cases k with
  | snd b s => exact duties_later V c _ _ (Nat.le_refl _)
  | rcv b t => exact duties_later V c _ _ (Nat.le_refl _)
  | cred b => exact duties_later V c _ _ (Nat.le_refl _)
  | bar => exact duties_later V c _ _ (Nat.le_refl _)
  | sa o =>
    by_cases h : o = 0
    · subst h; exact fun r _ => duties_sa0 V c r (Nat.zero_le _)
    · simp only [finR, if_neg h]; exact duties_later V c _ _ (Nat.le_refl _)
  | ra j =>
    by_cases h : j = c
    · subst h; exact fun r _ => duties_ra_self V j r (Nat.zero_le _)
    · simp only [finR, if_neg h]; exact duties_later V c _ _ (Nat.le_refl _)

/-- What persists may be used in every one of many. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cells close: their counters are at rest. -/
theorem close_all (V : Sent F) (K : Dev nD × Kd → ℕ) (c : Dev nD) : iprop(Recs V K ∗ endAll (F := F) c) ⊢ (|={Set.univ}=> semAll (F := F) c : sProp 𝕄) := by
  unfold endAll semAll
  refine (with_all (R := Recs V K) (Ψ := fun k : Kd => iprop(|={Set.univ}=> semVal (cell c k) 0)) fun k _ => ?_).trans (bigSep_fupd _ _)
  iintro ⟨#HR, Hat⟩
  iapply (Rounds.cell_close ER (rd V) (Set.mem_univ (K (c, k))) (fun h => h) (R := finR c k) (duties_fin V c k))
  isplitr; · iapply (inv_at V K); iexact HR
  iexact Hat

/-- The place a cell starts at, with the knowledge that its first round is reached. -/
theorem at_first (V : Sent F) (K : Dev nD × Kd → ℕ) (c : Dev nD) (q : Kd) :
    iprop(Recs V K ∗ atPos ER (cell c q) 0 ∅ 0) ⊢ (At c q 0 : sProp 𝕄) := by
  unfold At
  iintro ⟨#HR, Ha⟩
  isplitl [Ha]; · iexact Ha
  iapply (reached_at V K c q); iexact HR

/-- The places of a direction before the first hop. -/
theorem pos_first (V : Sent F) (K : Dev nD × Kd → ℕ) (c : Dev nD) (b : Bool) :
    iprop(Recs V K ∗ atPos ER (cell c (.snd b 0)) 0 ∅ 0 ∗ atPos ER (cell c (.snd b 1)) 0 ∅ 0 ∗ atPos ER (cell c (.rcv b 0)) 0 ∅ 0
      ∗ atPos ER (cell c (.rcv b 1)) 0 ∅ 0) ⊢ (Pos b 0 c : sProp 𝕄) := by
  unfold Pos
  rw [show par 0 = 0 from rfl, show par (0 + 1) = 1 from rfl, show 0 / 2 = 0 from rfl]
  iintro ⟨#HR, H1, H2, H3, H4⟩
  isplitl [H1]; · iapply (at_first V K); isplitr <;> iassumption
  isplitl [H2]; · iapply (at_first V K); isplitr <;> iassumption
  isplitl [H4]; · iapply (at_first V K); isplitr <;> iassumption
  iapply (at_first V K); isplitr <;> iassumption

/-- What a device starts with of the protocol, -/
def Linear (c : Dev nD) : sProp 𝕄 :=
  iprop(dutyTok ER (cell (sh 7 c) .bar) 0 false ∗ dutyTok ER (cell (sh 1 c) .bar) 0 true ∗ cred (tallyAt (cell c .bar) 0 2)
    ∗ Rem (F := F) false 0 c ∗ Rem (F := F) true 0 c ∗ all7 (TokA (F := F) c) ∗ all7 (fun i => cred (tallyAt (cell c (.ra (sh (1 + i.val) c))) 0 NA)) ∗ atAll (F := F) c)
/-- its buffers, -/
def Bufs (c : Dev nD) : sProp 𝕄 :=
  iprop(scr (F := F) c cc0_scratch0 ∗ scr (F := F) c cc0_scratch1 ∗ scr (F := F) c cc0_scratch2 ∗ scr (F := F) c cc0_scratch3 ∗ scr (F := F) c cc0_scratch4 ∗ scr (F := F) c cc0_scratch5)
/-- and what it owes. -/
def Owe₀ (c : Dev nD) : CellTallies nD τ sig ℕ := Owe (oweA c) c 0 + tallyAt (cell (sh 1 c) .bar) 0 1 + tallyAt (cell (sh 7 c) .bar) 0 1

variable (x : Dev nD → Vec F S4096x512 .f32) (w : Dev nD → Vec F S512x8192 .f32) (K : Dev nD × Kd → ℕ)

section Rules

variable (c : Dev nD) {α : Type}

/-- The kernel's body on device `c`. -/
theorem wp_steps {Q : α → sProp 𝕄} {k : PUnit → Pr F α} :
    iprop(Recs (sent x w) K ∗ ows c (Owe₀ c) ∗ Linear (F := F) c ∗ Bufs (F := F) c ∗ ins c (x c) (w c)
        ∗ (∃ X, owns (c : Thread nD τ) oM fullShare X) ∗ Idles (F := F) c)
      ⊢ iprop(((ows c 0 ∗ semAll (F := F) c ∗ Bufs (F := F) c ∗ ins c (x c) (w c) ∗ owns (c : Thread nD τ) oM fullShare (result x w c) ∗ Idles (F := F) c)
            -∗ WP c (k ⟨⟩) Q)
          -∗ WP c (steps c >>= k) Q) := by
  have hS (b : Bool) := scr_slots (F := F) c b
  have hB (b : Bool) := scr_bslots (F := F) c b
  unfold Linear Bufs atAll Owe₀
  rw [kinds (fun k : Kd => (atPos ER (cell c k) 0 ∅ 0 : sProp 𝕄)) c, hS false, hS true, hB false, hB true, scr_whole, scr_whole]
  iintro ⟨#HR, HO, ⟨HbarT, HbarT', HbarC, HRf, HRt, HTA, HCA, HAT⟩, ⟨⟨Sf0, Sf1⟩, ⟨St0, St1⟩, ⟨Bf0, Bf1⟩, ⟨Bt0, Bt1⟩, Hrb, Hsb⟩, Hin, ⟨%X, Hout⟩, HI⟩ Hk
  icases HAT with ⟨A1, A2, A3, A4, A5, A6, A7, A8, A9, A10, A11, A12, A13, A14, A15, A16, A17, A18, A19, A20, A21, A22, A23, A24, A25, A26, A27⟩
  simp only [steps, bind_assoc]
  ihave Hout := (out_todo c X) $$ Hout
  ihave Hout := (Entails.of_eq (todo_succ (F := F) 7 c)) $$ Hout
  icases Hout with ⟨Hown, Htodo⟩
  unfold Outs Idles
  rw [show bk false (7 - 7) c = c from bk_zero false c, show bk true (7 - 7) c = c from bk_zero true c]
  icases Hown with ⟨O0, O1, O2, O3⟩
  icases HI with ⟨I0, I1, I2, I3⟩
  iapply (wp_entry (sent x w) K c) $$ [HO HbarT HbarT' Sf1 St1 HbarC A11 Hrb]
  · isplitr; · iexact HR
    isplitl [HO]; · iexact HO
    isplitl [HbarT]; · iexact HbarT
    isplitl [HbarT']; · iexact HbarT'
    isplitl [Sf1]; · iexact Sf1
    isplitl [St1]; · iexact St1
    isplitl [HbarC]; · iexact HbarC
    isplitl [A11]; · iexact A11
    iexact Hrb
  iintro ⟨HO, HGf, HGt, A11, Hrow, Hrows⟩
  ihave Hready : Ready (F := F) (oweA c) 0 c $$ [A1 A2 A3 A4 A5 A6 A7 A8 A9 A10 HRf HRt Hrows HO HGf HGt]
  · unfold Ready Base
    rw [row_ne (oweA_ne c)]
    isplitl [A1 A2 A3 A4 A5 A6 A7 A8 HRf HRt Hrows HO]
    · isplitl [A1 A2 A5 A6]
      · iapply (pos_first (sent x w) K)
        isplitr; · iexact HR
        isplitl [A1]; · iexact A1
        isplitl [A2]; · iexact A2
        isplitl [A5] <;> iassumption
      isplitl [A3 A4 A7 A8]
      · iapply (pos_first (sent x w) K)
        isplitr; · iexact HR
        isplitl [A3]; · iexact A3
        isplitl [A4]; · iexact A4
        isplitl [A7] <;> iassumption
      isplitl [HRf]; · iexact HRf
      isplitl [HRt]; · iexact HRt
      isplitl [Hrows]; · iexact Hrows
      iexact HO
    isplitl [A9 A10]
    · isplitl [A9]
      · iapply (at_first (sent x w) K); isplitr <;> iassumption
      iapply (at_first (sent x w) K); isplitr <;> iassumption
    isplitl [HGf] <;> iassumption
  iapply (wp_pass₀ x w K c) $$ [Hready Sf0 St0 Hin O0 O1 I0 I1]
  · isplitr; · iexact HR
    isplitl [Hready]; · iexact Hready
    isplitl [Sf0]; · iexact Sf0
    isplitl [St0]; · iexact St0
    isplitl [Hin]; · iexact Hin
    isplitl [O0]; · iexact O0
    isplitl [O1]; · iexact O1
    isplitl [I0] <;> iassumption
  iintro ⟨Hd, Sf1, St1, Hin, O0, O1, I0, I1⟩
  iapply (wp_pass₁ x w K c _) $$ [Hd Sf1 St1 Hin Bf1 Bt1 O2 O3 I0 I1]
  · isplitr; · iexact HR
    isplitl [Hd]; · iexact Hd
    isplitl [Sf1]; · iexact Sf1
    isplitl [St1]; · iexact St1
    isplitl [Hin]; · iexact Hin
    isplitl [Bf1]; · iexact Bf1
    isplitl [Bt1]; · iexact Bt1
    isplitl [O2]; · iexact O2
    isplitl [O3]; · iexact O3
    isplitl [I0] <;> iassumption
  iintro ⟨Hd, ⟨Sf0, St0, Sf1, St1⟩, Hin, O2, O3, I0, I1⟩
  unfold all7
  icases HCA with ⟨C0, C1, C2, C3, C4, C5, C6⟩
  iapply (wp_codes x w c K) $$ [Hd Sf0 St0 Sf1 St1 O0 O1 O2 O3 I0 I1 I2 I3 Bf0 Bt0 Hrow Hsb HTA C0 C1 C2 C3 C4 C5 C6 A14 A15 A16 A17 A18 A19 A20 A21 A22 A23 A24 A25 A26 A27]
  · isplitr; · iexact HR
    isplitl [Hd]; · iexact Hd
    isplitl [Sf0 St0 Sf1 St1]
    · unfold Slots
      isplitl [Sf0]; · iexact Sf0
      isplitl [Sf1]; · iexact Sf1
      isplitl [St0] <;> iassumption
    isplitl [O0 O1 O2 O3]
    · unfold OwnSums
      isplitl [O0]; · iexact O0
      isplitl [O1]; · iexact O1
      isplitl [O2]; · iexact O2
      iexact O3
    isplitl [I0 I1 I2 I3]
    · unfold Idles
      isplitl [I0]; · iexact I0
      isplitl [I1]; · iexact I1
      isplitl [I2] <;> iassumption
    isplitl [Bf0]; · iexact Bf0
    isplitl [Bt0]; · iexact Bt0
    unfold ExIn all7 WaitA StayA
    isplitl [Hrow]; · iexact Hrow
    isplitl [Hsb]; · iexact Hsb
    isplitl [HTA]; · iexact HTA
    isplitl [C0 A21 C1 A22 C2 A23 C3 A24 C4 A25 C5 A26 C6 A27]
    · isplitl [C0 A21]; · (isplitl [C0] <;> iassumption)
      isplitl [C1 A22]; · (isplitl [C1] <;> iassumption)
      isplitl [C2 A23]; · (isplitl [C2] <;> iassumption)
      isplitl [C3 A24]; · (isplitl [C3] <;> iassumption)
      isplitl [C4 A25]; · (isplitl [C4] <;> iassumption)
      isplitl [C5 A26]; · (isplitl [C5] <;> iassumption)
      isplitl [C6] <;> iassumption
    isplitl [A14]; · iexact A14
    isplitl [A15]; · iexact A15
    isplitl [A16]; · iexact A16
    isplitl [A17]; · iexact A17
    isplitl [A18]; · iexact A18
    isplitl [A19]; · iexact A19
    iexact A20
  iintro ⟨Hd, HBf, HBt, HS, Hown, HI, HX⟩
  unfold ExOut
  icases HX with ⟨Hrb, Hsb, HV⟩
  iapply (wp_gather (sent x w) K c (scaleOf (amaxAll x w c))) $$ [Hd HBf HBt HS Hown Htodo HI]
  · isplitr; · iexact HR
    unfold GS
    rw [show bk false 0 c = c from bk_zero false c, show bk true 0 c = c from bk_zero true c]
    isplitl [Hd]; · iexact Hd
    isplitl [HBf]; · iexact HBf
    isplitl [HBt]; · iexact HBt
    isplitl [HS]; · iexact HS
    isplitl [Hown Htodo]
    · iapply (Entails.of_eq (todo_succ (F := F) 7 c).symm)
      rw [show bk false (7 - 7) c = c from bk_zero false c, show bk true (7 - 7) c = c from bk_zero true c]
      isplitl [Hown] <;> iassumption
    isplitr; · iapply (Entails.of_eq (show (iprop(emp) : sProp 𝕄) = Made (sent x w) (scaleOf (amaxAll x w c)) 0 c from rfl)); iempintro
    isplitl [HI]; · iexact HI
    unfold keptB
    rw [if_neg (show ¬ (13 + 0 = 20) by omega), if_neg (show ¬ (13 + 0 = 20) by omega)]
    isplitr <;> iempintro
  iintro ⟨Hready, HS, HM, HI, ⟨Bf0, Bf1⟩, ⟨Bt0, Bt1⟩⟩
  unfold Ready Base Pos At Slots all7 OverA
  rw [Owe_end]
  icases Hready with ⟨⟨⟨⟨A1, -⟩, ⟨A2, -⟩, ⟨A3, -⟩, ⟨A4, -⟩⟩, ⟨⟨A5, -⟩, ⟨A6, -⟩, ⟨A7, -⟩, ⟨A8, -⟩⟩, -, -, -, HO⟩, ⟨⟨A9, -⟩, ⟨A10, -⟩⟩, -, -⟩
  icases HV with ⟨⟨E0, D0⟩, ⟨E1, D1⟩, ⟨E2, D2⟩, ⟨E3, D3⟩, ⟨E4, D4⟩, ⟨E5, D5⟩, ⟨E6, D6⟩⟩
  icases HS with ⟨Sf0, Sf1, St0, St1⟩
  ihave He : endAll (F := F) c $$ [A1 A2 A3 A4 A5 A6 A7 A8 A9 A10 A11 A12 A13 E0 E1 E2 E3 E4 E5 E6 D0 D1 D2 D3 D4 D5 D6]
  · unfold endAll
    have hs (i : Fin 7) : finR c (.sa i.succ) = 1 := (if_neg (Fin.succ_ne_zero i) : (if i.succ = 0 then 0 else 1) = 1)
    have hr (i : Fin 7) : finR c (.ra (sh (1 + i.val) c)) = 1 := (if_neg (sh_ne c i) : (if sh (1 + i.val) c = c then 0 else 1) = 1)
    rw [kinds (fun k : Kd => (atPos ER (cell c k) (finR c k) ∅ 0 : sProp 𝕄)) c]
    simp only [hs, hr]
    rw [show finR c (.ra c) = 0 from (if_pos rfl : (if c = c then 0 else 1) = 0)]
    isplitl [A2]; · iexact A2
    isplitl [A1]; · iexact A1
    isplitl [A6]; · iexact A6
    isplitl [A5]; · iexact A5
    isplitl [A3]; · iexact A3
    isplitl [A4]; · iexact A4
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [D0]; · iexact D0
    isplitl [D1]; · iexact D1
    isplitl [D2]; · iexact D2
    isplitl [D3]; · iexact D3
    isplitl [D4]; · iexact D4
    isplitl [D5]; · iexact D5
    iexact D6
  imod (close_all (sent x w) K c) $$ [He] with Hz
  · isplitr; · iexact HR
    iexact He
  iapply Hk
  isplitl [HO]; · iexact HO
  isplitl [Hz]; · iexact Hz
  isplitl [Sf0 Sf1 St0 St1 Bf0 Bf1 Bt0 Bt1 Hrb Hsb]
  · isplitl [Sf0 Sf1]; · isplitl [Sf0] <;> iassumption
    isplitl [St0 St1]; · isplitl [St0] <;> iassumption
    isplitl [Bf0 Bf1]; · isplitl [Bf0] <;> iassumption
    isplitl [Bt0 Bt1]; · isplitl [Bt0] <;> iassumption
    isplitl [Hrb] <;> iassumption
  isplitl [Hin]; · iexact Hin
  isplitl [HM]; · iapply (made_out x w c); iexact HM
  iapply (Entails.of_eq (show Idles (F := F) c = iprop(idle (F := F) c 0 ∗ idle (F := F) c 1 ∗ idle (F := F) c 2 ∗ idle (F := F) c 3) from rfl)); iexact HI

end Rules

end Cert.Dist

end
-- ==== Proof.Fund.lean ====
/-
  What the launch gives each device: the duties' tokens, the counters, the credits.
-/
module

public import proofs.«01_k».proof.Proof.Body
public import Idealize.ShloMosaic.Lib.Pipeline.Launch
public import Idealize.ShloMosaic.Lib.Pipeline.Kit

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The tokens -/

/-- What a device pays: three duties per hop and direction, a unit to each neighbour's barrier, and for every other
    device the departure and the arrival of its maximum. -/
abbrev Tk : Type := (Fin 21 × Bool × Fin 3) ⊕ (Bool ⊕ (Fin 7 ⊕ Fin 7))

/-- The duty each of these stands for. -/
def tokOf : Dev nD × Tk → GSem nD τ sig × ℕ × Bool
  | (c, .inl (k, b, 0)) => (cell c (.snd b (par k.val)), k.val / 2, false)
  | (c, .inl (k, b, 1)) => (cell (fwd b c) (.rcv b (par (k.val + 1))), k.val / 2, false)
  | (c, .inl (k, b, 2)) => (cell (bk b 1 c) (.cred b), k.val, false)
  | (c, .inr (.inl b)) => (cell (bk b 1 c) .bar, 0, b)
  | (c, .inr (.inr (.inl i))) => (cell c (.sa i.succ), 0, false)
  | (c, .inr (.inr (.inr i))) => (cell (sh (1 + i.val) c) (.ra c), 0, false)

/-- The payer and the place of a duty, read off it. -/
def payer (d : Dev nD) (r : ℕ) (e : Bool) : Option Kd → Dev nD × ℕ
  | some (.snd b s) => (d, 100 + 10 * (2 * r + s.val) + (bif b then 1 else 0))
  | some (.rcv b t) => (bk b 1 d, 1100 + 10 * (2 * r + (1 - t.val)) + (bif b then 1 else 0))
  | some (.cred b) => (fwd b d, 2100 + 10 * r + (bif b then 1 else 0))
  | some .bar => (fwd e d, 10 + (bif e then 1 else 0))
  | some (.sa o) => (d, 20 + o.val)
  | some (.ra j) => (j, 30 + (d.val + 8 - j.val) % 8)
  | none => (d, 0)
def placeOf : Tk → ℕ
  | .inl (k, b, i) => 100 + 1000 * i.val + 10 * k.val + (bif b then 1 else 0)
  | .inr (.inl b) => 10 + (bif b then 1 else 0)
  | .inr (.inr (.inl i)) => 21 + i.val
  | .inr (.inr (.inr i)) => 31 + i.val

/-- Different duties of one device have different places. -/
theorem placeOf_inj : Function.Injective placeOf := by
  rintro (⟨⟨k, hk⟩, b, ⟨i, hi⟩⟩ | b | ⟨i, hi⟩ | ⟨i, hi⟩) (⟨⟨k', hk'⟩, b', ⟨i', hi'⟩⟩ | b' | ⟨i', hi'⟩ | ⟨i', hi'⟩) h <;>
    (try cases b) <;> (try cases b') <;> simp only [placeOf, cond_true, cond_false] at h <;> first
    | omega
    | (obtain rfl : k = k' := by omega
       obtain rfl : i = i' := by omega
       rfl)
    | (obtain rfl : i = i' := by omega
       rfl)
    | rfl

/-- Payer and place read off a duty are those it was made from. -/
theorem payer_tokOf (p : Dev nD × Tk) : payer (tokOf p).1.1.1 (tokOf p).2.1 (tokOf p).2.2 (kindOf (tokOf p).1.2) = (p.1, placeOf p.2) := by
  revert p; decide +kernel

/-- Different payers or places stand for different duties. -/
theorem tokOf_inj : Function.Injective tokOf := fun p p' h => by
  have := payer_tokOf p
  rw [h, payer_tokOf p'] at this
  exact Prod.ext (congrArg Prod.fst this).symm (placeOf_inj (congrArg Prod.snd this).symm)

/-- Different devices or kinds have different cells. -/
theorem cellP_inj : Function.Injective fun p : Dev nD × Kd => cell p.1 p.2 := fun _ _ h => cell_inj h
/-- All cells, -/
def theCells : Finset (GSem nD τ sig) := Finset.univ.map ⟨fun p : Dev nD × Kd => cell p.1 p.2, cellP_inj⟩
/-- all duties, -/
def theToks : Finset (GSem nD τ sig × ℕ × Bool) := Finset.univ.map ⟨tokOf, tokOf_inj⟩
/-- and the state the run starts with. -/
def u₀ : UU := (initOf (Pipeline.cells cfgs cellOf_inj) (Pipeline.launchToks cfgs cellOf_inj), (initOf theCells theToks, 1))

/-- What a device is given to pay with. -/
def toksOf (c : Dev nD) : sProp 𝕄 :=
  bigSep Finset.univ fun t : Tk => dutyTok ER (tokOf (c, t)).1 (tokOf (c, t)).2.1 (tokOf (c, t)).2.2

variable (V : Sent F)

/-- What a device gets at launch. -/
def G (c : Dev nD) : sProp 𝕄 :=
  iprop((bigSep Finset.univ fun k : Kd => roundState ER (rd V) (cell c k) 0)
    ∗ (bigSep Finset.univ fun k : Kd => iprop(atPos ER (cell c k) 0 ∅ 0 ∗ reached ER (cell c k) 0)) ∗ toksOf (F := F) c)

/-- The state of all cells and duties gives each device its part. -/
theorem fund_all : BI.own ((ER : Emb UB 𝕄) (initOf theCells theToks)) ⊢ (|==> bigSep Finset.univ (G V) : sProp 𝕄) := by
  have hX (Φ : GSem nD τ sig → sProp 𝕄) : bigSep theCells Φ = bigSep Finset.univ fun c : Dev nD => bigSep Finset.univ fun k : Kd => Φ (cell c k) := by
    unfold theCells; rw [bigSep_map, bigSep_univ_prod]; rfl
  have hT : bigSep theToks (fun x => (dutyTok ER x.1 x.2.1 x.2.2 : sProp 𝕄)) = bigSep Finset.univ fun c : Dev nD => toksOf c := by
    unfold theToks; rw [bigSep_map, bigSep_univ_prod]; rfl
  iintro HX
  imod (Rounds.fund ER (rd V) theCells theToks) $$ HX with ⟨Hst, Hr, Hat, Htok⟩
  imodintro
  ihave Hst' := (Entails.of_eq (hX fun g => roundState ER (rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The kernel's own semaphores: the cells without the barrier, and the local copies'. -/
def osem : Fin 30 → SemLoc sig := ![semOf (.snd false 0), semOf (.snd false 1), semOf (.snd true 0), semOf (.snd true 1),
  semOf (.rcv false 0), semOf (.rcv false 1), semOf (.rcv true 0), semOf (.rcv true 1), semOf (.cred false), semOf (.cred true),
  semOf (.sa 0), semOf (.sa 1), semOf (.sa 2), semOf (.sa 3), semOf (.sa 4), semOf (.sa 5), semOf (.sa 6), semOf (.sa 7),
  semOf (.ra 0), semOf (.ra 1), semOf (.ra 2), semOf (.ra 3), semOf (.ra 4), semOf (.ra 5), semOf (.ra 6), semOf (.ra 7),
  .dma (locS 0), .dma (locS 1), .dma (locS 2), .dma (locS 3)]

/-- The semaphores listed are the kernel's own, each once. -/
theorem ownSemFacts : Pipeline.OwnSemFacts cfg0.spec osem := by decide

/-- Something for each kind of cell, the barrier last. -/
theorem kinds' (Φ : Kd → sProp 𝕄) : (bigSep Finset.univ Φ : sProp 𝕄)
    = iprop(Φ (.snd false 0) ∗ Φ (.snd false 1) ∗ Φ (.snd true 0) ∗ Φ (.snd true 1)
      ∗ Φ (.rcv false 0) ∗ Φ (.rcv false 1) ∗ Φ (.rcv true 0) ∗ Φ (.rcv true 1) ∗ Φ (.cred false) ∗ Φ (.cred true)
      ∗ Φ (.sa 0) ∗ Φ (.sa 1) ∗ Φ (.sa 2) ∗ Φ (.sa 3) ∗ Φ (.sa 4) ∗ Φ (.sa 5) ∗ Φ (.sa 6) ∗ Φ (.sa 7)
      ∗ Φ (.ra 0) ∗ Φ (.ra 1) ∗ Φ (.ra 2) ∗ Φ (.ra 3) ∗ Φ (.ra 4) ∗ Φ (.ra 5) ∗ Φ (.ra 6) ∗ Φ (.ra 7) ∗ Φ .bar) := by
  rw [bigSep_univ_eq_bigSepL [.snd false 0, .snd false 1, .snd true 0, .snd true 1, .rcv false 0, .rcv false 1, .rcv true 0, .rcv true 1,
    .cred false, .cred true, .sa 0, .sa 1, .sa 2, .sa 3, .sa 4, .sa 5, .sa 6, .sa 7, .ra 0, .ra 1, .ra 2, .ra 3, .ra 4, .ra 5, .ra 6, .ra 7, .bar]
    (by decide) (by decide)]
  rfl

/-- The kernel's own semaphores on a device, one by one. -/
theorem own_eq (c : Dev nD) : (Pipeline.ownSems0 (Ix := ℕ) (Name := ℕ) (U := UU) (Lvl := ℕ) (Val := Elt F) (τ := τ) osem c : sProp 𝕄)
    = bigSepL (List.finRange 30) fun i => semVal ((c : Thread nD τ), osem i) 0 :=
  Pipeline.ownSems0_eq_of_list c osem (List.finRange 30) (by decide) (by decide)
/-- The only other semaphore is the barrier. -/
theorem bar_eq (c : Dev nD) : (unscopedSems0 c : sProp 𝕄) = semVal (cell c .bar) 0 := by
  unfold unscopedSems0; rw [bigSep_eq_bigSepL_of_eq [SemLoc.reg barS] (by decide) (by decide)]; rfl

/-- Two assertions that entail each other are the same. -/
theorem eq_of_both {A B : sProp 𝕄} (h : A ⊢ B) (h' : B ⊢ A) : A = B := BI.equiv_iff.mp ⟨h, h'⟩

/-- The counters at launch are the cells' and the local copies'. -/
theorem sems_eq (c : Dev nD) :
    (iprop(Pipeline.ownSems0 (Ix := ℕ) (Name := ℕ) (U := UU) (Lvl := ℕ) (Val := Elt F) (τ := τ) osem c ∗ unscopedSems0 c) : sProp 𝕄)
      = iprop(semAll (F := F) c ∗ Idles (F := F) c) := by
  rw [own_eq, bar_eq]
  unfold semAll Idles idle
  rw [kinds']
  rw [show List.finRange 30 = [0, 1, 2, 3, 4, 5, 6, 7, 8, 9, 10, 11, 12, 13, 14, 15, 16, 17, 18, 19, 20, 21, 22, 23, 24, 25, 26, 27, 28, 29] from by decide]
  rw [show ∀ Φ : Fin 30 → sProp 𝕄, bigSepL [0, 1, 2, 3, 4, 5, 6, 7, 8, 9, 10, 11, 12, 13, 14, 15, 16, 17, 18, 19, 20, 21, 22, 23, 24, 25, 26, 27, 28, 29] Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) from fun _ => rfl]
  refine eq_of_both ?_ ?_
  · iintro ⟨⟨S0, S1, S2, S3, S4, S5, S6, S7, S8, S9, S10, S11, S12, S13, S14, S15, S16, S17, S18, S19, S20, S21, S22, S23, S24, S25, S26, S27, S28, S29⟩, B⟩
    isplitl [S0 S1 S2 S3 S4 S5 S6 S7 S8 S9 S10 S11 S12 S13 S14 S15 S16 S17 S18 S19 S20 S21 S22 S23 S24 S25 B]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      iexact B
    isplitl [S26]; · iexact S26
    isplitl [S27]; · iexact S27
    isplitl [S28]; · iexact S28
    iexact S29
  · iintro ⟨⟨S0, S1, S2, S3, S4, S5, S6, S7, S8, S9, S10, S11, S12, S13, S14, S15, S16, S17, S18, S19, S20, S21, S22, S23, S24, S25, B⟩, ⟨S26, S27, S28, S29⟩⟩
    isplitr [B]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      iexact S29
    iexact B

/-! ### The global step -/

/-- What each device has once the invariants are there: its places, its tokens, its local copies' counters. -/
def Mine (c : Dev nD) : sProp 𝕄 := iprop(atAll (F := F) c ∗ toksOf (F := F) c ∗ Idles (F := F) c)
/-- With what all know but for the levels. -/
def G' (c : Dev nD) : sProp 𝕄 := iprop((∃ K : Dev nD × Kd → ℕ, bigSep Finset.univ (fun ck : Dev nD × Kd => cellInv ER (rd V) (K ck) (cell ck.1 ck.2))
    ∗ bigSep Finset.univ (fun ck : Dev nD × Kd => reached ER (cell ck.1 ck.2) 0)) ∗ Mine (F := F) c)

/-- A device's semaphores at zero and its part of the state become its cells' invariants and what it keeps for itself. -/
theorem core_alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k : Kd => iprop(∃ κ : ℕ, cellInv ER (rd V) κ (cell c k)))
          ∗ (bigSep Finset.univ fun k : Kd => reached ER (cell c k) 0) ∗ Mine (F := F) c) := by
  have hal : iprop((bigSep Finset.univ fun k : Kd => semVal (cell c k) 0) ∗ bigSep Finset.univ fun k : Kd => roundState ER (rd V) (cell c k) 0)
      ⊢ (|={Set.univ}=> bigSep Finset.univ fun k : Kd => iprop(∃ κ : ℕ, cellInv ER (rd V) κ (cell c k)) : sProp 𝕄) := by
    rw [← bigSep_sep']
    exact (bigSep_mono fun k _ => (Rounds.body_intro ER (rd V) (cell c k)).trans inv_alloc).trans (bigSep_fupd _ _)
  unfold G; rw [bigSep_sep']
  iintro ⟨Hos, Hus, Hst, ⟨Hat, Hr⟩, Htok⟩
  ihave Hv := (Entails.of_eq (sems_eq (F := F) c)) $$ [Hos Hus]
  · isplitl [Hos] <;> iassumption
  unfold semAll
  icases Hv with ⟨Hv, HI⟩
  imod hal $$ [Hv Hst] with Hinv
  · isplitl [Hv] <;> iassumption
  imodintro
  isplitl [Hinv]; · iexact Hinv
  isplitl [Hr]; · iexact Hr
  unfold Mine atAll
  isplitl [Hat]; · iexact Hat
  isplitl [Htok] <;> iassumption

/-- What the devices have, taken together, lets each know the invariants of all. -/
theorem regroup :
    (bigSep Finset.univ fun c : Dev nD => iprop((bigSep Finset.univ fun k : Kd => iprop(∃ κ : ℕ, cellInv ER (rd V) κ (cell c k)))
          ∗ (bigSep Finset.univ fun k : Kd => reached ER (cell c k) 0) ∗ Mine (F := F) c) : sProp 𝕄)
      ⊢ bigSep Finset.univ (G' V) := by
  rw [bigSep_sep', bigSep_sep', ← bigSep_univ_prod (fun ck : Dev nD × Kd => iprop(∃ κ : ℕ, cellInv ER (rd V) κ (cell ck.1 ck.2))),
    ← bigSep_univ_prod (fun ck : Dev nD × Kd => (reached ER (cell ck.1 ck.2) 0 : sProp 𝕄))]
  iintro ⟨HI, #HR, HM⟩
  ihave HK := (BI.bigSep_exists_pi Finset.univ (fun (ck : Dev nD × Kd) (κ : ℕ) => (cellInv ER (rd V) κ (cell ck.1 ck.2) : sProp 𝕄))) $$ HI
  icases HK with ⟨%K, #HI⟩
  iapply (with_all (R := iprop(bigSep Finset.univ (fun ck : Dev nD × Kd => cellInv ER (rd V) (K ck) (cell ck.1 ck.2))
    ∗ bigSep Finset.univ (fun ck : Dev nD × Kd => reached ER (cell ck.1 ck.2) 0))) (Φ := Mine (F := F)) fun c _ => by
      unfold G'; iintro ⟨⟨#H1, #H2⟩, H3⟩
      isplitr
      · iexists K; isplitr
        · iexact H1
        iexact H2
      iexact H3)
  isplitr
  · isplitr
    · iexact HI
    iexact HR
  iexact HM

/-- All devices' counters and states become the invariants. -/
theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ### The credits -/

/-- Turning the pairs of a device and a distance round. -/
def turn (p : Dev nD × Fin 7) : Dev nD × Fin 7 := (sh (1 + p.2.val) p.1, p.2.rev)
/-- Turning twice changes nothing. -/
theorem turn_turn : Function.Involutive turn := by intro p; revert p; decide
/-- Going the turned distance from the turned device leads back. -/
theorem turn_back (p : Dev nD × Fin 7) : sh (1 + (turn p).2.val) (turn p).1 = p.1 := by revert p; decide

/-- Where a sum of debts is not zero, one of them is not. -/
theorem sum_at {ι : Type} (s : Finset ι) (D : ι → CellTallies nD τ sig ℕ) (g : GSem nD τ sig) (h : (∑ i ∈ s, D i) g ≠ 0) : ∃ i ∈ s, D i g ≠ 0 := by
  by_contra hn
  push Not at hn
  exact h (by rw [Finset.sum_apply]; exact Finset.sum_eq_zero hn)

/-- Owing all maxima, the devices are also owed one from each other device. -/
theorem cred_A (c : Dev nD) : (Pipeline.launchCred oweA c : sProp 𝕄) ⊢ all7 fun i => cred (tallyAt (cell c (.ra (sh (1 + i.val) c))) 0 NA) := by
  rw [Pipeline.launchCred_of_sum oweA (fun d => ∑ i : Fin 7, tallyAt (cell d (.ra (sh (1 + i.val) d))) 0 NA) ?_ ?_ c,
    Pipeline.cred_finsetSum, bigSep_univ_eq_bigSepL [(0 : Fin 7), 1, 2, 3, 4, 5, 6] (by decide) (by decide)]
  · exact Entails.of_eq rfl
  · unfold oweA
    rw [← Fintype.sum_prod_type' (fun (d : Dev nD) (i : Fin 7) => (tallyAt (cell (sh (1 + i.val) d) (.ra d)) 0 NA : CellTallies nD τ sig ℕ)),
      ← Fintype.sum_prod_type' (fun (d : Dev nD) (i : Fin 7) => (tallyAt (cell d (.ra (sh (1 + i.val) d))) 0 NA : CellTallies nD τ sig ℕ))]
    exact Fintype.sum_equiv turn_turn.toPerm _ _ fun p => by
      show _ = tallyAt (cell (turn p).1 (.ra (sh (1 + (turn p).2.val) (turn p).1))) 0 NA
      rw [turn_back]; rfl
  · intro d g h
    obtain ⟨i, _, hi⟩ := sum_at _ _ g h
    by_contra hne
    exact hi (tallyAt_ne_cell (fun e => hne (congrArg Prod.fst e)) 0 NA)

/-- The credits of a hop. -/
def hopCreds (c : Dev nD) (k : ℕ) : sProp 𝕄 :=
  iprop(cred (tallyAt (cell c (.rcv false (par (k + 1)))) k (NH k)) ∗ cred (tallyAt (cell c (.cred false)) k 1)
    ∗ cred (tallyAt (cell c (.rcv true (par (k + 1)))) k (NH k)) ∗ cred (tallyAt (cell c (.cred true)) k 1))

/-- Owing all that hop `k` pays, each device is owed that hop's landings and credits. -/
theorem cred_due (k : ℕ) (c : Dev nD) : (Pipeline.launchCred (fun d => due d k) c : sProp 𝕄) ⊢ hopCreds c k := by
  unfold due due₁ due₂ due₃ hopCreds
  rw [Pipeline.launchCred_add, Pipeline.launchCred_add, Pipeline.launchCred_add]
  have h1 := Pipeline.launchCred_tallyAt (τ := τ) (Val := Elt F) (Name := ℕ) (U := UU) (Lvl := ℕ) (semOf (.cred true)) (bk true 1) (fwd true) (bk_fwd true) (fwd_bk true) k 1 c
  have h2 := Pipeline.launchCred_tallyAt (τ := τ) (Val := Elt F) (Name := ℕ) (U := UU) (Lvl := ℕ) (semOf (.cred false)) (bk false 1) (fwd false) (bk_fwd false) (fwd_bk false) k 1 c
  have h3 := Pipeline.launchCred_tallyAt (τ := τ) (Val := Elt F) (Name := ℕ) (U := UU) (Lvl := ℕ) (semOf (.rcv true (par (k + 1)))) (fwd true) (bk true 1) (fwd_bk true) (bk_fwd true) k (NH k) c
  have h4 := Pipeline.launchCred_tallyAt (τ := τ) (Val := Elt F) (Name := ℕ) (U := UU) (Lvl := ℕ) (semOf (.rcv false (par (k + 1)))) (fwd false) (bk false 1) (fwd_bk false) (bk_fwd false) k (NH k) c
  iintro ⟨⟨⟨H1, H2⟩, H3⟩, H4⟩
  isplitl [H4]; · iapply h4; iexact H4
  isplitl [H2]; · iapply h2; iexact H2
  isplitl [H3]; · iapply h3; iexact H3
  iapply h1; iexact H1

/-- A device is owed, at launch, the maxima, all hops' landings and credits, and the two barrier signals. -/
theorem creds (c : Dev nD) : (Pipeline.launchCred Owe₀ c : sProp 𝕄)
    ⊢ iprop((all7 fun i => cred (tallyAt (cell c (.ra (sh (1 + i.val) c))) 0 NA)) ∗ bigSep (from_ 0) (hopCreds (F := F) c) ∗ cred (tallyAt (cell c .bar) 0 2)) := by
  have e : (Pipeline.launchCred Owe₀ c : sProp 𝕄) = iprop(((Pipeline.launchCred oweA c ∗ bigSep (from_ 0) fun k => Pipeline.launchCred (fun d => due d k) c)
      ∗ Pipeline.launchCred (fun d => tallyAt (cell (sh 1 d) .bar) 0 1) c) ∗ Pipeline.launchCred (fun d => tallyAt (cell (sh 7 d) .bar) 0 1) c) := by
    rw [show (Owe₀ : Dev nD → CellTallies nD τ sig ℕ) = fun d => (oweA d + ∑ k ∈ from_ 0, due d k + tallyAt (cell (sh 1 d) .bar) 0 1) + tallyAt (cell (sh 7 d) .bar) 0 1 from rfl,
      Pipeline.launchCred_add, Pipeline.launchCred_add, Pipeline.launchCred_add, Pipeline.launchCred_sum (from_ 0) (fun k d => due d k)]
  have h17 (d : Dev nD) : sh 1 (sh 7 d) = d := by revert d; decide
  have h71 (d : Dev nD) : sh 7 (sh 1 d) = d := by revert d; decide
  have h1 := Pipeline.launchCred_tallyAt (τ := τ) (Val := Elt F) (Name := ℕ) (U := UU) (Lvl := ℕ) (semOf .bar) (sh 1) (sh 7) h17 h71 0 1 c
  have h2 := Pipeline.launchCred_tallyAt (τ := τ) (Val := Elt F) (Name := ℕ) (U := UU) (Lvl := ℕ) (semOf .bar) (sh 7) (sh 1) h71 h17 0 1 c
  rw [e]
  iintro ⟨⟨⟨HA, HD⟩, H1⟩, H2⟩
  isplitl [HA]; · iapply (cred_A c); iexact HA
  isplitl [HD]; · iapply (show bigSep (from_ 0) (fun k => Pipeline.launchCred (fun d => due d k) c) ⊢ bigSep (from_ 0) (hopCreds (F := F) c) from bigSep_mono fun k _ => cred_due k c); iexact HD
  rw [show (tallyAt (cell c .bar) 0 2 : CellTallies nD τ sig ℕ) = tallyAt (cell c .bar) 0 1 + tallyAt (cell c .bar) 0 1 from by rw [tallyAt_add]]
  iapply (cred_add _ _).2
  isplitl [H1]; · iapply h1; iexact H1
  iapply h2; iexact H2

/-! ### What a device starts with -/

/-- The duties of a hop. -/
def hopToks (c : Dev nD) (b : Bool) (k : ℕ) : sProp 𝕄 :=
  iprop(dutyTok ER (cell c (.snd b (par k))) (k / 2) false ∗ dutyTok ER (cell (fwd b c) (.rcv b (par (k + 1)))) (k / 2) false
    ∗ dutyTok ER (cell (bk b 1 c) (.cred b)) k false)

/-- Something for each number below `n`, in two spellings. -/
theorem range_fin (n : ℕ) (Φ : ℕ → sProp 𝕄) : bigSep (Finset.univ : Finset (Fin n)) (fun i => Φ i.val) = bigSep (Finset.range n) Φ := by
  rw [show Finset.range n = (Finset.univ : Finset (Fin n)).map Fin.valEmbedding from by
    ext i; simp only [Finset.mem_range, Finset.mem_map, Finset.mem_univ, Fin.valEmbedding_apply, true_and]
    exact ⟨fun h => ⟨⟨i, h⟩, rfl⟩, fun ⟨j, hj⟩ => hj ▸ j.isLt⟩, bigSep_map]
  rfl

/-- A device's duties: those of its hops, the two of the barrier, those of the maxima. -/
theorem toks_split (c : Dev nD) : (toksOf c : sProp 𝕄) ⊢ iprop(bigSep (from_ 0) (fun k => iprop(hopToks (F := F) c false k ∗ hopToks (F := F) c true k))
    ∗ (dutyTok ER (cell (sh 7 c) .bar) 0 false ∗ dutyTok ER (cell (sh 1 c) .bar) 0 true) ∗ all7 (TokA (F := F) c)) := by
  have eb (Φ : Bool → sProp 𝕄) : bigSep Finset.univ Φ = iprop(Φ false ∗ Φ true) := bigSep_univ_eq_bigSepL [false, true] (by decide) (by decide) Φ
  have e7 (Φ : Fin 7 → sProp 𝕄) : bigSep Finset.univ Φ = all7 Φ := bigSep_univ_eq_bigSepL [(0 : Fin 7), 1, 2, 3, 4, 5, 6] (by decide) (by decide) Φ
  have e3 (Φ : Fin 3 → sProp 𝕄) : bigSep Finset.univ Φ = iprop(Φ 0 ∗ Φ 1 ∗ Φ 2) := bigSep_univ_eq_bigSepL [(0 : Fin 3), 1, 2] (by decide) (by decide) Φ
  have h1 : (bigSep Finset.univ fun k : Fin 21 => bigSep Finset.univ fun t : Bool × Fin 3 =>
        (dutyTok ER (tokOf (c, .inl (k, t))).1 (tokOf (c, .inl (k, t))).2.1 (tokOf (c, .inl (k, t))).2.2 : sProp 𝕄))
      = bigSep (from_ 0) (fun k => iprop(hopToks (F := F) c false k ∗ hopToks (F := F) c true k)) := by
    rw [from_zero, ← range_fin 21 (fun k => iprop(hopToks (F := F) c false k ∗ hopToks (F := F) c true k))]
    refine bigSep_congr fun k _ => ?_
    rw [bigSep_univ_prod, eb, e3, e3]
    rfl
  unfold toksOf
  rw [show ∀ Φ : Tk → sProp 𝕄, bigSep Finset.univ Φ = iprop(bigSep Finset.univ (fun a => Φ (.inl a)) ∗ bigSep Finset.univ (fun b => Φ (.inr b))) from BI.bigSep_univ_sum,
    show ∀ Φ : Bool ⊕ (Fin 7 ⊕ Fin 7) → sProp 𝕄, bigSep Finset.univ Φ = iprop(bigSep Finset.univ (fun a => Φ (.inl a)) ∗ bigSep Finset.univ (fun b => Φ (.inr b))) from BI.bigSep_univ_sum,
    show ∀ Φ : Fin 7 ⊕ Fin 7 → sProp 𝕄, bigSep Finset.univ Φ = iprop(bigSep Finset.univ (fun a => Φ (.inl a)) ∗ bigSep Finset.univ (fun b => Φ (.inr b))) from BI.bigSep_univ_sum,
    ← bigSep_sep', eb, e7, bigSep_univ_prod, h1]
  exact Entails.of_eq rfl

/-- Its tokens, its credits and its places make up what it starts with. -/
theorem linear_intro (c : Dev nD) : iprop(Pipeline.launchCred Owe₀ c ∗ Mine (F := F) c) ⊢ iprop(Linear (F := F) c ∗ Idles (F := F) c) := by
  have hR : iprop(bigSep (from_ 0) (fun k => iprop(hopToks (F := F) c false k ∗ hopToks (F := F) c true k)) ∗ bigSep (from_ 0) (hopCreds (F := F) c))
      ⊢ iprop(Rem (F := F) false 0 c ∗ Rem (F := F) true 0 c) := by
    unfold Rem
    rw [← bigSep_sep', ← bigSep_sep']
    exact bigSep_mono fun k _ => show iprop((hopToks (F := F) c false k ∗ hopToks (F := F) c true k) ∗ hopCreds (F := F) c k)
        ⊢ iprop(Use (F := F) false c k ∗ Use (F := F) true c k) from by
      unfold hopToks hopCreds Use
      iintro ⟨⟨⟨T1, T2, T3⟩, ⟨T4, T5, T6⟩⟩, C1, C2, C3, C4⟩
      isplitl [T1 T2 T3 C1 C2]
      · isplitl [T1]; · iexact T1
        isplitl [T2]; · iexact T2
        isplitl [T3]; · iexact T3
        isplitl [C1] <;> iassumption
      isplitl [T4]; · iexact T4
      isplitl [T5]; · iexact T5
      isplitl [T6]; · iexact T6
      isplitl [C3] <;> iassumption
  unfold Mine Linear
  iintro ⟨Hc, Hat, Htok, HI⟩
  ihave Hc := (creds (F := F) c) $$ Hc
  ihave Ht := (toks_split (F := F) c) $$ Htok
  icases Hc with ⟨HA, HH, HB⟩
  icases Ht with ⟨Ht, ⟨B1, B2⟩, TA⟩
  isplitr [HI]
  · isplitl [B1]; · iexact B1
    isplitl [B2]; · iexact B2
    isplitl [HB]; · iexact HB
    ihave HR : iprop(Rem (F := F) false 0 c ∗ Rem (F := F) true 0 c) $$ [HH Ht]
    · iapply hR
      isplitl [Ht] <;> iassumption
    icases HR with ⟨R1, R2⟩
    isplitl [R1]; · iexact R1
    isplitl [R2]; · iexact R2
    isplitl [TA]; · iexact TA
    isplitl [HA]; · iexact HA
    iexact Hat
  iexact HI

end Cert.Dist

end
-- ==== Proof.Launch.lean ====
/-
  The run of the kernel on all devices.
-/
module

public import proofs.«01_k».proof.Proof.Fund
public import Idealize.ShloMosaic.Lib.Pipeline.CollectiveSegs

@[expose] public section

noncomputable section

namespace Cert.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-- The blocks of the inputs, as the launch stages them. -/
def xIn (c : Dev nD) : Vec F S4096x512 .f32 := (win0_0.blk (0 : Fin 1)).view.read (Elt F) (m ((c : Thread nD τ).loc main_arg0))
def wIn (c : Dev nD) : Vec F S512x8192 .f32 := (win0_1.blk (0 : Fin 1)).view.read (Elt F) (m ((c : Thread nD τ).loc main_arg1))

/-- What a device's body starts from. -/
def start (c : Dev nD) : sProp 𝕄 :=
  iprop((∃ K, Recs (sent (xIn m) (wIn m)) K) ∗ Linear (F := F) c ∗ Idles (F := F) c ∗ (∃ X, owns (c : Thread nD τ) oM fullShare X))
def Φ₀ (c : Dev nD) : sProp 𝕄 := iprop(start m c ∗ Bufs (F := F) c)
/-- What it ends with. -/
def Φ₁ (c : Dev nD) : sProp 𝕄 :=
  iprop(semAll (F := F) c ∗ Idles (F := F) c ∗ Bufs (F := F) c ∗ owns (c : Thread nD τ) oM fullShare (result (xIn m) (wIn m) c))

/-- The one point's data: what the windows hold, what is held beside them, what is owed. -/
def dats (_ : Fin 1) (c : Dev nD) : Dat τ (Elt F) ℕ ℕ UU ℕ cfg0 c where
  A w := m ((cfg0.win w).arr.view.loc (c : Thread nD τ))
  after w _ := match w with
    | ⟨0, _⟩ => xIn m c
    | ⟨1, _⟩ => wIn m c
  Φ t := match t with
    | ⟨0, _⟩ => Φ₀ m c
    | ⟨_ + 1, _⟩ => Φ₁ m c
  q _ := fullShare
  owed t := match t with
    | ⟨0, _⟩ => Owe₀ c
    | ⟨_ + 1, _⟩ => 0

/-- Both inputs are fetched. -/
theorem fetch_all (w : Fin cfg0.W) (t : Fin cfg0.N) : (cfg0.win w).fetch t = true := by
  rw [fin_N0 t]; revert w; decide

/-! ### The body -/

def bodyPre (c : Dev nD) : sProp 𝕄 :=
  iprop(Φ₀ m c ∗ (dats m 0 c).owesAt 0 (t0_0 : Fin cfg0.N).castSucc
    ∗ (∃ d, owns (c : Thread nD τ) xM fullShare ((dats m 0 c).before (0 : Fin 2) t0_0 d))
    ∗ (∃ d, owns (c : Thread nD τ) wM fullShare ((dats m 0 c).before (1 : Fin 2) t0_0 d)))
def bodyPost (c : Dev nD) : sProp 𝕄 :=
  iprop(Φ₁ m c ∗ (dats m 0 c).owesAt 0 (t0_0 : Fin cfg0.N).succ
    ∗ owns (c : Thread nD τ) xM fullShare (xIn m c) ∗ owns (c : Thread nD τ) wM fullShare (wIn m c))

/-- The kernel's body on a device, with what the launch gives it. -/
theorem wp_body (c : Dev nD) : bodyPre m c ⊢ WP c (cc0_body (F := F) xM (Memref.isWhole_whole _) wM (Memref.isWhole_whole _) oM (Memref.isWhole_whole _)
      cwM (Memref.isWhole_whole _) ccwM (Memref.isWhole_whole _) cwB (Memref.isWhole_whole _) ccwB (Memref.isWhole_whole _)
      rbM (Memref.isWhole_whole _) sbM (Memref.isWhole_whole _) cc0_scratch6 cc0_scratch7 cc0_scratch8 cc0_scratch9
      cc0_scratch10 cc0_scratch11 cc0_scratch12 cc0_scratch13 cc0_scratch14) (fun _ => bodyPost m c) := by
  have h0 (d) : (dats m 0 c).before (0 : Fin 2) t0_0 d = xIn m c := by unfold Dat.before; rw [if_pos (fetch_all 0 t0_0)]; rfl
  have h1 (d) : (dats m 0 c).before (1 : Fin 2) t0_0 d = wIn m c := by unfold Dat.before; rw [if_pos (fetch_all 1 t0_0)]; rfl
  rw [body_eq]
  unfold WP bodyPre bodyPost Φ₀ Φ₁ start Dat.owesAt Pipeline.owesWithin
  simp only [h0, h1]
  rw [show (dats m 0 c).owed (t0_0 : Fin cfg0.N).castSucc = Owe₀ c from rfl, show (dats m 0 c).owed (t0_0 : Fin cfg0.N).succ = 0 from rfl,
    show (Prog.lift (TpuEff.deviceId (nD := nD) (τ := τ) (sig := sig) (Val := Elt F) (Λ := Λ₀)) >>= fun d => steps d : Pr F PUnit)
      = Prog.op .deviceId (fun d => steps d) from by simp only [Prog.lift, Prog.bind_op, Prog.bind_ret],
    wp_deviceId 𝒱₀ (c : Thread nD τ) none Set.univ]
  iintro ⟨⟨⟨⟨%K, #HR⟩, HL, HI, HX⟩, HB⟩, ⟨%W, -, HO⟩, ⟨%d, Hx⟩, ⟨%d', Hw⟩⟩
  rw [← bind_pure (steps (F := F) c)]
  ihave Hx := (Entails.of_eq (owns_whole (c : Thread nD τ) cc0_stg0_0 fullShare (xIn m c))) $$ Hx
  ihave Hw := (Entails.of_eq (owns_whole (c : Thread nD τ) cc0_stg1_0 fullShare (wIn m c))) $$ Hw
  iapply (wp_steps (xIn m) (wIn m) K c) $$ [HL HI HX HB HO Hx Hw]
  · isplitr; · iexact HR
    isplitl [HO]
    · unfold ows; iexists W; iexact HO
    isplitl [HL]; · iexact HL
    isplitl [HB]; · iexact HB
    isplitl [Hx Hw]
    · unfold ins; isplitl [Hx] <;> iassumption
    isplitl [HX] <;> iassumption
  iintro ⟨HO, HS, HB, HIn, HX, HI⟩
  rw [Prog.pure_eq_ret]; unfold WP; rw [wp_ret]; imodintro
  isplitl [HS HB HX HI]
  · isplitl [HS]; · iexact HS
    isplitl [HI]; · iexact HI
    isplitl [HB] <;> iassumption
  isplitl [HO]
  · unfold ows
    icases HO with ⟨%W', HO⟩
    iexists W'
    isplitr; · ipureintro; exact fun _ _ => Or.inl trivial
    iexact HO
  unfold ins
  icases HIn with ⟨Hx, Hw⟩
  isplitl [Hx]
  · iapply (Entails.of_eq (owns_whole (c : Thread nD τ) cc0_stg0_0 fullShare (xIn m c)).symm); iexact Hx
  iapply (Entails.of_eq (owns_whole (c : Thread nD τ) cc0_stg1_0 fullShare (wIn m c)).symm); iexact Hw

/-- The body the launch runs is the kernel's. -/
theorem args_eq : (defs₀ (F := F)) .tc cfg0.body (cfg0.bodyArgs (t0_0 : Fin cfg0.N) (cfg0.slots (t0_0 : Fin cfg0.N)))
    = cc0_body (F := F) xM (Memref.isWhole_whole _) wM (Memref.isWhole_whole _) oM (Memref.isWhole_whole _)
      cwM (Memref.isWhole_whole _) ccwM (Memref.isWhole_whole _) cwB (Memref.isWhole_whole _) ccwB (Memref.isWhole_whole _)
      rbM (Memref.isWhole_whole _) sbM (Memref.isWhole_whole _) cc0_scratch6 cc0_scratch7 cc0_scratch8 cc0_scratch9
      cc0_scratch10 cc0_scratch11 cc0_scratch12 cc0_scratch13 cc0_scratch14 := by
  chain_rfl

set_option maxRecDepth 8000 in
/-- What the launch asks of the body. -/
theorem body_obligation (c : Dev nD) : BodyObligation (dats m 0 c) (defs₀ (F := F)) 𝒱₀ 0 Set.univ := fun t => by
  rw [fin_N0 t]
  rw [bigSep_W0, bigSep_W0, args_eq]
  have p0 : (dats m 0 c).Φ (t0_0 : Fin cfg0.N).castSucc = Φ₀ m c := rfl
  have p1 : (dats m 0 c).Φ (t0_0 : Fin cfg0.N).succ = Φ₁ m c := rfl
  have h := wp_body m c
  unfold bodyPre bodyPost at h
  have a0 : (dats m 0 c).after (0 : Fin 2) t0_0 = xIn m c := rfl
  have a1 : (dats m 0 c).after (1 : Fin 2) t0_0 = wIn m c := rfl
  dsimp only []
  rw [p0, p1, a0, a1]
  unfold WP at h
  refine BIBase.Entails.trans ?_ (BIBase.Entails.trans h ?_)
  · refine sep_mono_right (sep_mono_right ?_)
    exact Entails.of_eq rfl
  · apply Entails.of_eq
    have e0 : (owns (c : Thread nD τ) (stage0_0 0) fullShare (xIn m c) : sProp 𝕄) = owns (c : Thread nD τ) xM fullShare (xIn m c) := rfl
    have e1 : (owns (c : Thread nD τ) (stage0_1 0) fullShare (wIn m c) : sProp 𝕄) = owns (c : Thread nD τ) wM fullShare (wIn m c) := rfl
    generalize cc0_body (F := F) xM (Memref.isWhole_whole _) wM (Memref.isWhole_whole _) oM (Memref.isWhole_whole _)
      cwM (Memref.isWhole_whole _) ccwM (Memref.isWhole_whole _) cwB (Memref.isWhole_whole _) ccwB (Memref.isWhole_whole _)
      rbM (Memref.isWhole_whole _) sbM (Memref.isWhole_whole _) cc0_scratch6 cc0_scratch7 cc0_scratch8 cc0_scratch9
      cc0_scratch10 cc0_scratch11 cc0_scratch12 cc0_scratch13 cc0_scratch14 = P
    rw [← e0, ← e1]

/-! ### The launch -/

/-- The windows' arrays are held whole. -/
theorem share_eq (c : Dev nD) (w : Fin cfg0.W) : (dats m 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred Owe₀ c ∗ prngReg c (ρ c) ∗ G' (sent (xIn m) (wIn m)) c)
      ⊢ |={Set.univ}=> iprop(start m c ∗ emp) := by
  rw [Pipeline.unscopedRestP_none, unscopedRest0_eq]
  unfold G' start
  iintro ⟨Hu, #Hlev, Hcr, -, ⟨⟨%K, #HI, #HR⟩, HM⟩⟩
  ihave HL := (linear_intro (F := F) c) $$ [Hcr HM]
  · isplitl [Hcr] <;> iassumption
  icases HL with ⟨HL, HId⟩
  imodintro
  isplitl
  · isplitr
    · iexists K; unfold Recs
      isplitr; · iexact HI
      isplitr; · iexact HR
      iexact Hlev
    isplitl [HL]; · iexact HL
    isplitl [HId]; · iexact HId
    iexists _
    iapply (Entails.of_eq (owns_whole (c : Thread nD τ) main_v1 fullShare (m ((c : Thread nD τ).loc main_v1))).symm)
    iexact Hu
  · iempintro

/-- With the scratch buffers it is what is held beside the windows before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Bufs
  iintro ⟨Hs, -, Hr⟩
  isplitl [Hs]; · iexact Hs
  iexact Hr

/-- What is held after the body gives back the semaphores, the scratch buffers and the result. -/
theorem phi1_exit (c : Dev nD) :
    (dats m 0 c).Φ (Fin.last cfg0.N) ⊢ iprop((unscopedSems0 c ∗ owns (c : Thread nD τ) oM fullShare (result (xIn m) (wIn m) c))
      ∗ Pipeline.ownSems0 osem c ∗ Pipeline.scopedRest cfg0.spec c) := by
  rw [show (dats m 0 c).Φ (Fin.last cfg0.N) = Φ₁ m c from rfl, scopedRest0_eq]
  unfold Φ₁ Bufs
  iintro ⟨HS, HI, HB, HX⟩
  ihave HS := (Entails.of_eq (sems_eq (F := F) c).symm) $$ [HS HI]
  · isplitl [HS] <;> iassumption
  icases HS with ⟨Ho, Hu⟩
  isplitl [Hu HX]
  · isplitl [Hu] <;> iassumption
  isplitl [Ho]; · iexact Ho
  iexact HB

/-- All that is owed at launch lies above level 0. -/
theorem owe₀_above (c : Dev nD) : Above 0 (Owe₀ c) :=
  ((above_Owe _ c (above_oweA c (by omega)) (by omega)).add (Above.tally _ _ _ _ (by omega) (by decide))).add
    (Above.tally _ _ _ _ (by omega) (by decide))

/-- The staging copies' semaphores lie lowest. -/
theorem lv_stage (c : Dev nD) (w : Fin cfg0.W) (s : Fin (cfg0.win w).nbuf) : lv ((c : Thread nD τ), SemLoc.dma ((cfg0.win w).sem s)) 0 = 0 := by
  have h : ∀ (w : Fin cfg0.W) (s : Fin (cfg0.win w).nbuf), kindOf (SemLoc.dma ((cfg0.win w).sem s)) = none := by decide
  unfold lv; rw [show kindOf ((c : Thread nD τ), SemLoc.dma ((cfg0.win w).sem s)).2 = none from h w s]; rfl

/-- Waiting for the inputs' copies is allowed, whatever is owed. -/
theorem waits (c : Dev nD) : (levAts L lv : sProp 𝕄) ⊢ Pipeline.cellsWaits cfgs (dats m) 0 0 c :=
  Pipeline.cellsWaits_intro cfgs (dats m) 0 0 c fun w s t =>
    mayWait c _ 0 (by omega) _ (by
      rw [lv_stage c w s]
      rcases t with ⟨_ | _, ht⟩
      · exact owe₀_above c
      · exact Above.zero 0)

/-- The result a device ends with. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_v1) = result (xIn m) (wIn m) c

/-- What a device holds in the end fixes its memory: the result, and its semaphores at zero. -/
theorem read_end (c : Dev nD) (s' : Phys nD τ sig (Elt F)) :
    iprop((unscopedSems0 c ∗ owns (c : Thread nD τ) oM fullShare (result (xIn m) (wIn m) c)) ∗ emp ∗ SI s')
      ⊢ (|={Set.univ}=> iprop(⌜Ends m c s'.mem⌝ ∗ SI s') : sProp 𝕄) := by
  iintro ⟨⟨Hu, HX⟩, -, HSI⟩
  imod (Pipeline.unscopedSems0_read (X := unscopedSems0 c) (c := c) fupd_intro s') $$ [Hu HSI] with ⟨%h, HSI⟩
  · isplitl [Hu] <;> iassumption
  ihave HX := (Entails.of_eq (owns_whole (c : Thread nD τ) main_v1 fullShare (result (xIn m) (wIn m) c))) $$ HX
  ihave H := (pointsTo_read_all ({()} : Finset Unit) (fun _ => (c : Thread nD τ).loc main_v1) (fun _ => result (xIn m) (wIn m) c) s') $$ [HX HSI]
  · isplitl [HX]
    · iapply (Entails.of_eq (bigSep_singleton (i := ()) (Φ := fun _ => (((c : Thread nD τ).loc main_v1) ↦{fullShare} (result (xIn m) (wIn m) c) : sProp 𝕄))).symm); iexact HX
    iexact HSI
  icases H with ⟨%h', HSI⟩
  imodintro
  isplitr; · ipureintro; exact ⟨h, h' () (Finset.mem_singleton_self _)⟩
  iexact HSI

set_option maxRecDepth 100000 in
/-- At the eight devices, for any float values, from any memory with all counters zero: every fair execution of the
    eight kernels ends, each device's result is the computed one, its arguments are unchanged, and all counters are zero again. -/
theorem run_main : θ_run defs (onTc (τ := τ) (main (F := F))) ⟨m, fun _ => 0, ρ⟩ (fun r =>
    (∀ c : Dev nD, r.2.mem ((c : Thread nD τ).loc main_v1) = result (xIn m) (wIn m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0)
    (hshare := share_eq m) (hdistinct := winFacts0.arr_inj)
    (O₀ := Owe₀) (howed₀ := fun _ => rfl) (howedN := fun _ => rfl)
    (L := L) (lv := lv) (hL := L_of_ne) (hwaits := waits m)
    (G := G (sent (xIn m) (wIn m))) (G' := G' (sent (xIn m) (wIn m))) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (Entails.of_eq (show BI.own ((((Emb.inl : Emb UB (UB × Counters)).trans embR)) (initOf theCells theToks)) = (BI.own ((ER : Emb UB 𝕄) (initOf theCells theToks)) : sProp 𝕄) from rfl)) $$ HX
      imod (fund_all (sent (xIn m) (wIn m))) $$ HX with HG
      imodintro
      isplitl [HP] <;> iassumption)
    (hglob := glob (sent (xIn m) (wIn m)))
    (hA := fun _ _ => rfl) (hpf := fun _ k => k.elim0)
    (X := start m) (Y := fun c => iprop(unscopedSems0 c ∗ owns (c : Thread nD τ) oM fullShare (result (xIn m) (wIn m) c))) (Z := fun _ => iprop(emp))
    (hX := start_intro m ρ) (hin := phi0_intro m) (hout := phi1_exit m)
    (QY := Ends m) (hY := read_end m)
    (hQ := fun _ h hs => ⟨fun c => ⟨(h c).2.2.2, ((h c).1 (0 : Fin 2)).trans ((dats m 0 c).arrAt_in (0 : Fin 2) rfl _),
      ((h c).1 (1 : Fin 2)).trans ((dats m 0 c).arrAt_in (1 : Fin 2) rfl _)⟩, sem_eq_zero hs fun c => (h c).2.2.1⟩)

end Cert.Dist

end
-- ==== Proof.Frames.lean ====
/-
  The frames: each program ends, its arguments unchanged and all counters at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Dist

open Idealize.ShloMosaic Idealize.SL.Sem

/-- The kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The two kernels' body tables are the same text. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- So are their whole tables. -/
theorem defs_same {F : FTy → Type} [FloatOps F] : Cert.Kernel.defs (F := F) = Cert.KernelIdeal.defs (F := F) := by
  unfold Cert.Kernel.defs Cert.KernelIdeal.defs
  exact congrArg _ bodies_same

/-- The kernel over bit patterns. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Dist

end
-- ==== Proof.Product.lean ====
/-
  Over the extended reals: the blocks the devices add up round the rings are the blocks of the whole product.
-/
module

public import proofs.«01_k».proof.Proof.Whole
public import Idealize.ShloMosaic.Lib.Layout
public import Idealize.ShloMosaic.Lib.StackMember
public import Idealize.ShloMosaic.Lib.KernelVsHost

@[expose] public section

noncomputable section

namespace Cert.Dist

open Cert.KernelIdeal Cert.KernelIdeal.Gen
open Idealize.ShloMosaic Idealize.ShloMosaic.ValueIdx

/-- The whole `x`, the whole `w`, -/
abbrev WholeX := (⟨2, ![4096, 4096]⟩ : Shape).Idx → EReal
abbrev WholeW := (⟨2, ![4096, 8192]⟩ : Shape).Idx → EReal

/-- one element of their product, -/
def prodAt (X : WholeX) (W : WholeW) (i : S4096x8192.Idx) : EReal :=
  ∑ k : Fin 4096, X (ix2 (⟨(i 0).val, (i 0).isLt⟩ : Fin 4096) k) * W (ix2 k (⟨(i 1).val, (i 1).isLt⟩ : Fin 8192))
/-- and of its positive part. -/
def posAt (X : WholeX) (W : WholeW) (i : S4096x8192.Idx) : EReal := max (prodAt X W i) 0

/-- The positive part is not negative. -/
theorem posAt_nonneg (X : WholeX) (W : WholeW) (i : S4096x8192.Idx) : 0 ≤ posAt X W i := le_max_right _ _

/-- The products over the 512 columns of `x` that device `d` holds. -/
def share (X : WholeX) (W : WholeW) (d : Fin 8) (i : S4096x8192.Idx) : EReal :=
  ∑ k : Fin 512, X (ix2 (⟨(i 0).val, (i 0).isLt⟩ : Fin 4096) ⟨512 * d.val + k.val, by have := d.isLt; have := k.isLt; omega⟩)
    * W (ix2 (⟨512 * d.val + k.val, by have := d.isLt; have := k.isLt; omega⟩ : Fin 4096) (⟨(i 1).val, (i 1).isLt⟩ : Fin 8192))

/-- The product is the sum of the devices' shares. -/
theorem prodAt_eq (X : WholeX) (W : WholeW) (i : S4096x8192.Idx) : prodAt X W i = ∑ d : Fin 8, share X W d i := by
  unfold prodAt share
  rw [← Fintype.sum_prod_type', ← Equiv.sum_comp (finProdFinEquiv (m := 8) (n := 512))]
  refine Finset.sum_congr rfl fun t _ => ?_
  have e : (finProdFinEquiv t : Fin 4096) = ⟨512 * t.1.val + t.2.val, by have := t.1.isLt; have := t.2.isLt; omega⟩ :=
    Fin.ext (by show t.2.val + 512 * t.1.val = 512 * t.1.val + t.2.val; omega)
  rw [e]

section Blocks

variable (a : Vec Ideal S512x512 .f32) (b : Vec Ideal S512x2048 .f32)

/-- One element of the product of two blocks. -/
theorem gemm_at (r : Fin 512) (s : Fin 2048) :
    gemm a b (ix2 r s) = ∑ k : Fin 512, (a (ix2 r k) : EReal) * b (ix2 k s) := by
  unfold gemm
  rw [shapeCast_self, shapeCast_self]
  refine (congrFun (matmul_zero_eq_dotGeneral _ none a b) (ix2 r s)).trans ?_
  exact StackMember.dotGeneral_plain_apply (m := 512) (k := 512) (n := 2048) none a b r s

/-- Where a block of `x` and a quarter of `w` lie. -/
theorem xAt_at (x : Vec Ideal S4096x512 .f32) (j : Fin 8) (r k : Fin 512) :
    xAt x j (ix2 r k) = x (ix2 (⟨512 * j.val + r.val, by have := j.isLt; have := r.isLt; omega⟩ : Fin 4096) k) := by
  unfold xAt
  rw [View.readAt_apply]
  refine congrArg x (idx_ext _ _ ?_ ?_)
  · show 512 * j.val + 1 * r.val = 512 * j.val + r.val; omega
  · show 0 + 1 * k.val = k.val; omega
/-- An element of quarter `p` of the columns. -/
theorem wAt_at (w : Vec Ideal S512x8192 .f32) (p : Fin 4) (k : Fin 512) (s : Fin 2048) :
    wAt w p (ix2 k s) = w (ix2 k (⟨2048 * p.val + s.val, by have := p.isLt; have := s.isLt; omega⟩ : Fin 8192)) := by
  unfold wAt
  rw [View.readAt_apply]
  refine congrArg w (idx_ext _ _ ?_ ?_)
  · show 0 + 1 * k.val = k.val; omega
  · show 2048 * p.val + 1 * s.val = 2048 * p.val + s.val; omega

end Blocks

/-- Device `c`'s `x` is block `c` of the columns of the whole, its `w` block `c` of the rows. -/
def CutX (X : WholeX) (x : Dev nD → Vec Ideal S4096x512 .f32) : Prop :=
  ∀ c, x c = Layout.block ⟨2, ![4096, 512]⟩ ⟨2, ![4096, 4096]⟩ 1 8 c X
def CutW (W : WholeW) (w : Dev nD → Vec Ideal S512x8192 .f32) : Prop :=
  ∀ c, w c = Layout.block ⟨2, ![512, 8192]⟩ ⟨2, ![4096, 8192]⟩ 0 8 c W

section Rings

variable (X : WholeX) (W : WholeW) (x : Dev nD → Vec Ideal S4096x512 .f32) (w : Dev nD → Vec Ideal S512x8192 .f32)
variable (hx : CutX X x) (hw : CutW W w)

include hx hw

/-- A device's product for a block of the result is its share of it. -/
theorem pr_at (d j : Dev nD) (p : Fin 4) (r : Fin 512) (s : Fin 2048) :
    pr x w d j p (ix2 r s) = share X W d ((qRect (j, p)).emb (ix2 r s)) := by
  unfold pr prodOf
  rw [gemm_at]
  unfold share
  refine Finset.sum_congr rfl fun k _ => ?_
  rw [xAt_at, wAt_at, hx d, hw d]
  refine congrArg₂ (fun u v : EReal => u * v) (congrArg X (idx_ext _ _ ?_ ?_)) (congrArg W (idx_ext _ _ ?_ ?_))
  · show 512 * j.val + r.val = 512 * j.val + 1 * r.val; omega
  · show d.val * 512 + k.val = 512 * d.val + k.val; omega
  · show d.val * 512 + k.val = 512 * d.val + k.val; omega
  · show 2048 * p.val + s.val = 2048 * p.val + 1 * s.val; omega

/-- The partial sum at place `h` of a ring holds the shares of the devices it has come past. -/
theorem sums_at (b : Bool) (p : ℕ) (i : S512x2048.Idx) : ∀ (h : ℕ) (c : Dev nD),
    sums x w b p h c i = ∑ k ∈ Finset.range (h + 1), share X W (bk b k c) ((qRect (bk b (h + 1) c, qtr b p)).emb i)
  | 0, c => by
    rw [Finset.sum_range_one, bk_zero]
    show pr x w c (bk b 1 c) (qtr b p) i = _
    rw [eq_ix2 i]
    exact pr_at X W x w hx hw c (bk b 1 c) (qtr b p) _ _
  | h + 1, c => by
    rw [Finset.sum_range_succ', bk_zero]
    show (sums x w b p h (bk b 1 c) i : EReal) + pr x w c (bk b (h + 2) c) (qtr b p) i = _
    rw [sums_at b p i h (bk b 1 c)]
    refine congrArg₂ (fun u v : EReal => u + v) (Finset.sum_congr rfl fun k _ => ?_) ?_
    · rw [bk_bk b (h + 1) 1 c, bk_bk b k 1 c, Nat.add_comm 1 k, show 1 + (h + 1) = h + 1 + 1 by omega]
    · rw [eq_ix2 i]
      exact pr_at X W x w hx hw c (bk b (h + 2) c) (qtr b p) _ _

/-- The block a device ends with is that block of the positive part of the whole product. -/
theorem final_at (b : Bool) (p : ℕ) (c : Dev nD) (i : S512x2048.Idx) :
    final x w b p c i = posAt X W ((qRect (c, qtr b p)).emb i) := by
  have e : bk b 8 c = c := by unfold bk; cases b <;> exact (sh_congr (by decide) c).trans (sh_zero c)
  unfold final posAt
  show max (sums x w b p 7 c i : EReal) (Ideal.ofBits .f32 0x00000000#32) = _
  rw [Ideal.ofBits_zero_f32, sums_at X W x w hx hw b p i 7 c, e, prodAt_eq, Finset.sum_range]
  exact congrArg (fun u : EReal => max u 0) (Equiv.sum_comp (bkEquiv b c) fun d => share X W d ((qRect (c, qtr b p)).emb i))

/-- So is each quarter of a device's rows. -/
theorem blk_at (q : Fin 4) (o : Dev nD) (i : S512x2048.Idx) : blk x w q o i = posAt X W ((qRect (o, q)).emb i) := by
  match q with
  | ⟨0, _⟩ => exact final_at X W x w hx hw false 0 o i
  | ⟨1, _⟩ => exact final_at X W x w hx hw true 0 o i
  | ⟨2, _⟩ => exact final_at X W x w hx hw false 1 o i
  | ⟨3, _⟩ => exact final_at X W x w hx hw true 1 o i

end Rings

/-- A place of the result is where its quarter has it. -/
theorem emb_q (i : S4096x8192.Idx) : (qRect (qRow i, qCol i)).emb (qIn i) = i := by
  refine idx_ext (m := 4096) (n := 8192) _ _ ?_ ?_
  · show 512 * ((i 0).val / 512) + 1 * ((i 0).val % 512) = (i 0).val; omega
  · show 2048 * ((i 1).val / 2048) + 1 * ((i 1).val % 2048) = (i 1).val; omega

end Cert.Dist

end
-- ==== Proof.Reals.lean ====
/-
  The quantiser over the extended reals, one element at a time: its two spellings agree, and an eight-bit code holds it.
-/
module

public import Idealize.ShloMosaic.PureOps.Ideal.Laws

@[expose] public section

noncomputable section

namespace Cert.Dist

open Idealize.ShloMosaic

/-- The words of 127, -127 and the two ends of a maximum. -/
theorem word_127 : Ideal.ofBits .f32 0x42FE0000#32 = ((127 : ℝ) : EReal) := by
  simp [Ideal.ofBits, Ideal.ieee]; norm_num; rw [← EReal.coe_mul]; norm_num
/-- The word for -127, -/
theorem word_neg127 : Ideal.ofBits .f32 0xC2FE0000#32 = ((-127 : ℝ) : EReal) := by
  simp [Ideal.ofBits, Ideal.ieee]; norm_num; rw [← EReal.coe_mul]; norm_num
/-- and the one for the least value. -/
theorem word_bot : Ideal.ofBits .f32 0xFF800000#32 = (⊥ : EReal) := by simp [Ideal.ofBits, Ideal.ieee]

/-- Rounded and clipped. -/
def clip (z : EReal) : EReal := min ((127 : ℝ) : EReal) (max ((-127 : ℝ) : EReal) (Ideal.liftRound Ideal.roundHalfEven z))

/-- What is rounded and clipped is an integer between -127 and 127. -/
theorem clip_int (z : EReal) : ∃ n : ℤ, -127 ≤ n ∧ n ≤ 127 ∧ clip z = ((n : ℝ) : EReal) := by
  unfold clip
  induction z using EReal.rec with
  | bot =>
    refine ⟨-127, by decide, by decide, ?_⟩
    rw [show Ideal.liftRound Ideal.roundHalfEven ⊥ = ⊥ from rfl, max_eq_left bot_le,
      min_eq_right (EReal.coe_le_coe_iff.mpr (by norm_num))]
    norm_num
  | top =>
    refine ⟨127, by decide, by decide, ?_⟩
    rw [show Ideal.liftRound Ideal.roundHalfEven ⊤ = ⊤ from rfl, max_eq_right le_top, min_eq_left le_top]
    norm_num
  | coe r =>
    refine ⟨min 127 (max (-127) (Ideal.roundHalfEven r)), by omega, by omega, ?_⟩
    rw [show Ideal.liftRound Ideal.roundHalfEven (r : EReal) = ((Ideal.roundHalfEven r : ℝ) : EReal) from rfl,
      ← EReal.coe_strictMono.monotone.map_max, ← EReal.coe_strictMono.monotone.map_min]
    push_cast
    rfl

/-- An eight-bit code holds it exactly. -/
theorem code_clip (z : EReal) : (((Ideal.fptosi 8 (clip z)).toInt : ℝ) : EReal) = clip z := by
  obtain ⟨n, h₁, h₂, h⟩ := clip_int z
  rw [h]
  have e : Ideal.fptosi 8 ((n : ℝ) : EReal) = BitVec.ofInt 8 n := by
    unfold Ideal.fptosi
    rw [Ideal.toIntClamped_coe, Int.floor_intCast, Int.ceil_intCast, ite_self]
    refine congrArg _ ?_
    norm_num
    omega
  rw [e, BitVec.toInt_ofInt]
  have e' : n.bmod (2 ^ 8) = n := by
    rw [Int.bmod_eq_of_le] <;> norm_num <;> omega
  rw [e']

/-- Off zero, an element of a nonnegative array times `127 / A` is it over `A / 127`. -/
theorem ratio_agree {A y : EReal} (h0 : 0 ≤ y) (h1 : y ≤ A) (hA : A ≠ 0) :
    y * Ideal.div ((127 : ℝ) : EReal) A = Ideal.div y (Ideal.div A ((127 : ℝ) : EReal)) := by
  rw [Ideal.div_coe (by norm_num : (127 : ℝ) ≠ 0) A]
  have hp : 0 < A := lt_of_le_of_ne (h0.trans h1) (Ne.symm hA)
  induction A using EReal.rec with
  | bot => exact absurd hp (not_lt.mpr bot_le)
  | top =>
    rw [EReal.top_mul_coe_of_pos (by norm_num)]
    unfold Ideal.div
    rw [if_neg (by simp), if_neg (by simp)]
    simp
  | coe a =>
    have ha : 0 < a := EReal.coe_pos.mp hp
    induction y using EReal.rec with
    | bot => exact absurd h0 (by simp)
    | top => exact absurd h1 (by simp)
    | coe b =>
      rw [← EReal.coe_mul, Ideal.div_coe (ne_of_gt ha), Ideal.div_coe (by positivity), ← EReal.coe_mul, ← EReal.coe_mul, ← EReal.coe_mul]
      refine congrArg _ ?_
      field_simp

/-- The two spellings of the quantiser's round trip agree on a nonnegative array whose largest element is `A`. -/
theorem quant_agree {A y : EReal} (h0 : 0 ≤ y) (h1 : y ≤ A) :
    clip (y * Ideal.div ((127 : ℝ) : EReal) A) * Ideal.div A ((127 : ℝ) : EReal)
      = clip (Ideal.div y (Ideal.div A ((127 : ℝ) : EReal))) * Ideal.div A ((127 : ℝ) : EReal) := by
  by_cases hA : A = 0
  · have e : Ideal.div A ((127 : ℝ) : EReal) = 0 := by rw [Ideal.div_coe (by norm_num : (127 : ℝ) ≠ 0) A, hA, zero_mul]
    rw [e, mul_zero, mul_zero]
  · rw [ratio_agree h0 h1 hA]

end Cert.Dist

end
-- ==== Proof.Largest.lean ====
/-
  Over the extended reals: the largest element that every device finds is that of the whole product's positive part,
  and the kernel's result is the reference's.
-/
module

public import proofs.«01_k».proof.Proof.Product
public import proofs.«01_k».proof.Proof.Reals
public import proofs.«01_k».proof.Proof.Gen.ReferenceIdeal.Run

@[expose] public section

noncomputable section

namespace Cert.Dist

open Cert.KernelIdeal Cert.KernelIdeal.Gen
open Idealize.ShloMosaic Idealize.ShloMosaic.ValueIdx

/-! ### Maxima -/

/-- A maximum over all axes is below a bound just when every element is. -/
theorem reduction_le {s t : Shape} {axes : List (Fin s.rank)} (h : s.Reduces axes t) (ht : ∀ b, t.size b = 1) (v : FVec Ideal s .f32)
    (hφ : FKind.Formats .f32) (hacc : 0xFF800000#32 = FKind.maximumf.neutral .f32 hφ) (j : t.Idx) (B : EReal) :
    (multiReduction .maximumf axes t v 0xFF800000#32 h hφ hacc j : EReal) ≤ B ↔ ∀ i, (v i : EReal) ≤ B := by
  have hj : ∀ i : t.Idx, i = j := fun i => funext fun b => Fin.ext (by
    have := (i b).isLt; have := (j b).isLt; have := ht b; omega)
  rw [multiReduction_maximumf_eq_fold]
  show (Finset.univ.filter fun i => h.drop i = j).fold (max : EReal → EReal → EReal) (Ideal.ofBits .f32 0xFF800000#32) v ≤ B ↔ _
  rw [Finset.fold_max_le, word_bot]
  exact ⟨fun H i => H.2 i (Finset.mem_filter.mpr ⟨Finset.mem_univ _, hj _⟩), fun H => ⟨bot_le, fun i _ => H i⟩⟩

/-- Laying an array out in another shape keeps its elements. -/
theorem cast_le {s t : Shape} (v : s.Idx → EReal) (h : s.ShapeCasts t) (B : EReal) : (∀ i, shapeCast t v h i ≤ B) ↔ ∀ i, v i ≤ B :=
  (Shape.reshapeEquiv _).forall_congr_right (q := fun i => v i ≤ B)

/-- The one element of an array of one, laid out in another shape. -/
theorem extract_cast (z : S1.Idx → EReal) : extractAt ![0, 0, 0] (shapeCast S1x1x1 z Facts₀.shapeCasts_S1_S1x1x1) Facts₀.inpos_S1x1x1_p0_0_0
    = z (Shape.reshapeEquiv Facts₀.shapeCasts_S1_S1x1x1 fun a => ⟨(![0, 0, 0] : Fin 3 → Nat) a, Facts₀.inpos_S1x1x1_p0_0_0 a⟩) := rfl

/-- A block's maximum is at most `B` just when all its elements are. -/
theorem blockMax_le (v : FVec Ideal S512x2048 .f32) (B : EReal) : (blockMax v : EReal) ≤ B ↔ ∀ i, (v i : EReal) ≤ B := by
  unfold blockMax
  rw [extract_cast]
  exact (reduction_le Facts₀.reduces_S1x512x2048_S1 (by decide) (up (F := Ideal) (e := .f32) v) (.inl rfl) rfl _ B).trans
    (cast_le v Facts₀.shapeCasts_S512x2048_S1x512x2048 B)

/-- The running maximum after two more blocks is at most `B` just when it was before and all their elements are. -/
theorem maxStep_le (a : EReal) (u v : FVec Ideal S512x2048 .f32) (B : EReal) :
    (maxStep (F := Ideal) a u v : EReal) ≤ B ↔ a ≤ B ∧ (∀ i, (u i : EReal) ≤ B) ∧ ∀ i, (v i : EReal) ≤ B := by
  unfold maxStep
  rw [Ideal.scalar_maximumf_def, Ideal.scalar_maximumf_def, max_le_iff, max_le_iff, blockMax_le, blockMax_le]

/-- The maximum of the collected maxima and the device's own is at most `B` just when all of them are. -/
theorem allMax_le (a : EReal) (v : Vec Ideal S8x128 .f32) (B : EReal) :
    (allMax (F := Ideal) a v : EReal) ≤ B ↔ (∀ i, (v i : EReal) ≤ B) ∧ a ≤ B := by
  unfold allMax
  rw [Ideal.scalar_maximumf_def, max_le_iff, extract_cast]
  exact and_congr ((reduction_le Facts₀.reduces_S1x8x128_S1 (by decide) (shapeCast S1x8x128 v Facts₀.shapeCasts_S8x128_S1x8x128) (.inl rfl) rfl _ B).trans
    (cast_le v Facts₀.shapeCasts_S8x128_S1x8x128 B)) Iff.rfl

/-! ### Codes -/

/-- The factor before rounding is 127 over the largest value, -/
theorem invOf_eq (A : EReal) : invOf (F := Ideal) A = Ideal.div ((127 : ℝ) : EReal) A :=
  congrArg (fun u : EReal => Ideal.div u A) word_127
/-- and the one after it the largest value over 127. -/
theorem scaleOf_eq (A : EReal) : scaleOf (F := Ideal) A = Ideal.div A ((127 : ℝ) : EReal) :=
  congrArg (fun u : EReal => Ideal.div A u) word_127
/-- One code of a block, -/
theorem quant_at (s : EReal) (v : Vec Ideal S1x512x2048 .f32) (i : S512x2048.Idx) :
    quant (F := Ideal) s v i = Ideal.fptosi 8 (clip ((down (F := Ideal) (e := .f32) v i : EReal) * s)) := by
  unfold quant clip
  rw [← word_127, ← word_neg127]
  rfl
/-- and one element of the block of some codes. -/
theorem dequant_at (s : EReal) (v : Vec Ideal S1x512x2048 .i8) (i : S512x2048.Idx) :
    (dequant (F := Ideal) s v i : EReal) = (((down (F := Ideal) (e := .i8) v i : BitVec 8).toInt : ℝ) : EReal) * s := rfl

section Devices

variable (X : WholeX) (W : WholeW) (x : Dev nD → Vec Ideal S4096x512 .f32) (w : Dev nD → Vec Ideal S512x8192 .f32)

/-- A device's maximum is over its own rows, and from zero. -/
theorem amax_le (c : Dev nD) (B : EReal) : (amax x w c : EReal) ≤ B ↔ 0 ≤ B ∧ ∀ q i, (blk x w q c i : EReal) ≤ B := by
  unfold amax
  rw [maxStep_le, maxStep_le, show (Scalar.ofBits (F := Ideal) .f32 0x00000000#32 : EReal) = 0 from Ideal.ofBits_zero_f32]
  constructor
  · rintro ⟨⟨h, h0, h1⟩, h2, h3⟩
    refine ⟨h, fun q => ?_⟩
    match q with
    | ⟨0, _⟩ => exact h0
    | ⟨1, _⟩ => exact h1
    | ⟨2, _⟩ => exact h2
    | ⟨3, _⟩ => exact h3
  · rintro ⟨h, hq⟩
    exact ⟨⟨h, hq 0, hq 1⟩, hq 2, hq 3⟩

/-- Element of the result, element of a quarter. -/
theorem posAt_blk (hx : CutX X x) (hw : CutW W w) (i : S4096x8192.Idx) :
    blk x w (qCol i) (qRow i) (qIn i) = posAt X W i :=
  (blk_at X W x w hx hw (qCol i) (qRow i) (qIn i)).trans (congrArg (posAt X W) (emb_q i))

variable (hx : CutX X x) (hw : CutW W w)
include hx hw

/-- Every device finds the largest element of the whole. -/
theorem amaxAll_le (c : Dev nD) (B : EReal) : (amaxAll x w c : EReal) ≤ B ↔ ∀ i, posAt X W i ≤ B := by
  unfold amaxAll
  rw [allMax_le]
  constructor
  · rintro ⟨h, hc⟩ i
    have ho : ∀ o : Dev nD, (amax x w o : EReal) ≤ B := fun o => by
      by_cases e : o = c
      · rw [e]; exact hc
      · have := h (ix2 (⟨o.val, o.isLt⟩ : Fin 8) (0 : Fin 128))
        unfold maxima at this
        rwa [if_neg (fun hv => e (Fin.ext hv))] at this
    rw [← posAt_blk X W x w hx hw i]
    exact ((amax_le x w (qRow i) B).mp (ho _)).2 _ _
  · intro h
    have h0 : 0 ≤ B := (posAt_nonneg X W (ix2 (0 : Fin 4096) (0 : Fin 8192))).trans (h _)
    have ho : ∀ o : Dev nD, (amax x w o : EReal) ≤ B := fun o =>
      (amax_le x w o B).mpr ⟨h0, fun q i => by rw [blk_at X W x w hx hw q o i]; exact h _⟩
    refine ⟨fun i => ?_, ho c⟩
    unfold maxima
    split
    · exact (show (Scalar.ofBits (F := Ideal) .f32 0x00000000#32 : EReal) = 0 from Ideal.ofBits_zero_f32).trans_le h0
    · exact ho _

/-- One element of the kernel's result. -/
theorem result_at (c : Dev nD) (A : EReal) (hA : ∀ o : Dev nD, (amaxAll x w o : EReal) = A) (i : S4096x8192.Idx) :
    result x w c i = clip (posAt X W i * Ideal.div ((127 : ℝ) : EReal) A) * Ideal.div A ((127 : ℝ) : EReal) := by
  unfold result glue resBlk
  rw [dequant_at, down_up]
  unfold code
  rw [quant_at, down_up, posAt_blk X W x w hx hw i, hA, hA, invOf_eq, scaleOf_eq, code_clip]

end Devices

end Cert.Dist

end
-- ==== Proof.Value.lean ====
/-
  The reference's value over the extended reals, one element at a time.
-/
module

public import proofs.«01_k».proof.Proof.Largest
public import proofs.«01_k».proof.Proof.Gen.ReferenceIdeal.Run

@[expose] public section

noncomputable section

namespace Cert.Dist

open Cert.ReferenceIdeal Cert.ReferenceIdeal.Gen
open Idealize.ShloMosaic Idealize.ShloMosaic.ValueIdx

/-- An array with one element, no axes. -/
abbrev One := FVec Ideal S_ .f32
/-- Its place. -/
def here : S_.Idx := Shape.Idx.first Facts₀.h_S_

/-- It is the only place. -/
theorem here_eq (j : S_.Idx) : j = here := funext fun a => a.elim0

/-- One number spread over the whole array. -/
def spreadAll (v : One) : FVec Ideal S4096x8192 .f32 := broadcastInDim S4096x8192 ![] Facts₀.bcast_S_S4096x8192 v

/-- Every element of it is that number. -/
theorem spreadAll_at (v : One) (i : S4096x8192.Idx) : spreadAll v i = v here := congrArg v (here_eq _)

/-- The reference's positive part of the product. -/
def refPos (X : WholeX) (W : WholeW) : FVec Ideal S4096x8192 .f32 :=
  maximumf (Host.dotGeneral (F := Ideal) (φ₁ := .f32) (φ₂ := .f32) dot_S4096x4096_S4096x8192_S4096x8192_1_0_0_1_n_n none X W)
    (spreadAll (constant S_ .f32 0x00000000#32))

/-- Each element of it is the product's, cut at zero. -/
theorem refPos_at (X : WholeX) (W : WholeW) (i : S4096x8192.Idx) : refPos X W i = posAt X W i := by
  have e : Host.dotGeneral (F := Ideal) (φ₁ := .f32) (φ₂ := .f32) dot_S4096x4096_S4096x8192_S4096x8192_1_0_0_1_n_n none X W i = prodAt X W i := by
    conv_lhs => rw [eq_ix2 i]
    exact StackMember.dotGeneral_plain_apply (φ₁ := .f32) (φ₂ := .f32) (m := 4096) (k := 4096) (n := 8192) none X W _ _
  unfold refPos posAt
  show max (Host.dotGeneral (F := Ideal) (φ₁ := .f32) (φ₂ := .f32) dot_S4096x4096_S4096x8192_S4096x8192_1_0_0_1_n_n none X W i : EReal)
    (spreadAll (constant S_ .f32 0x00000000#32) i) = _
  rw [e, spreadAll_at]
  exact congrArg (max _) Ideal.ofBits_zero_f32

/-- The largest magnitude of an array. -/
def refMax (y : FVec Ideal S4096x8192 .f32) : One :=
  Host.reduce FloatOps.maximumf (Host.absf y) (constant S_ .f32 0xFF800000#32) Facts₀.reducesTo_S4096x8192_S_d0_1 Facts₀.h_S_

/-- It is at most `B` just when all magnitudes are. -/
theorem refMax_le (y : FVec Ideal S4096x8192 .f32) (B : EReal) : (refMax y here : EReal) ≤ B ↔ ∀ i, max (y i : EReal) (-(y i)) ≤ B := by
  unfold refMax
  rw [Host.reduce_eq_fold]
  show (Finset.univ.filter fun i => (Facts₀.reducesTo_S4096x8192_S_d0_1).drop i = here).fold (max : EReal → EReal → EReal)
    (Ideal.ofBits .f32 0xFF800000#32) (fun i => max (y i : EReal) (-(y i))) ≤ B ↔ _
  rw [Finset.fold_max_le, word_bot]
  exact ⟨fun H i => H.2 i (Finset.mem_filter.mpr ⟨Finset.mem_univ _, here_eq _⟩), fun H => ⟨bot_le, fun i _ => H i⟩⟩

/-- The reference's quantiser on an array and its scale. -/
def refQuant (y : FVec Ideal S4096x8192 .f32) (s : One) : FVec Ideal S4096x8192 .f32 :=
  mulf (minimumf (spreadAll (id (constant S_ .f32 0x42FE0000#32)))
    (maximumf (spreadAll (id (constant S_ .f32 0xC2FE0000#32))) (Host.roundeven (Host.divf y (spreadAll s))))) (spreadAll s)

/-- One element of it: divided by the scale, rounded, clipped and multiplied by the scale. -/
theorem refQuant_at (y : FVec Ideal S4096x8192 .f32) (s : One) (i : S4096x8192.Idx) :
    refQuant y s i = (clip (Ideal.div (y i) (s here)) * s here : EReal) := by
  unfold clip
  rw [← word_127, ← word_neg127, ← spreadAll_at s i]
  rfl

/-- The reference's result. -/
def refOut (X : WholeX) (W : WholeW) : FVec Ideal S4096x8192 .f32 :=
  refQuant (refPos X W) (Host.divf (refMax (refPos X W)) (constant S_ .f32 0x42FE0000#32))

/-- The scale is the largest magnitude over 127. -/
theorem scale_at (v : One) : Host.divf v (constant S_ .f32 0x42FE0000#32) here = Ideal.div (v here) ((127 : ℝ) : EReal) := by
  rw [← word_127]; rfl

/-- One element of it. -/
theorem refOut_at (X : WholeX) (W : WholeW) (i : S4096x8192.Idx) : refOut X W i
    = clip (Ideal.div (posAt X W i) (Ideal.div (refMax (refPos X W) here) ((127 : ℝ) : EReal))) * Ideal.div (refMax (refPos X W) here) ((127 : ℝ) : EReal) := by
  unfold refOut
  rw [refQuant_at, scale_at, refPos_at]

/-- Its largest magnitude is that of the positive part. -/
theorem refMax_pos (X : WholeX) (W : WholeW) (B : EReal) : (refMax (refPos X W) here : EReal) ≤ B ↔ ∀ i, posAt X W i ≤ B := by
  rw [refMax_le]
  refine forall_congr' fun i => ?_
  rw [refPos_at, max_eq_left ((EReal.neg_le_neg_iff.mpr (posAt_nonneg X W i)).trans (by rw [neg_zero]; exact posAt_nonneg X W i))]

/-- What a device's run of the kernel leaves is what the reference leaves. -/
theorem result_eq (X : WholeX) (W : WholeW) (x : Dev Cert.KernelIdeal.nD → Vec Ideal Cert.KernelIdeal.S4096x512 .f32)
    (w : Dev Cert.KernelIdeal.nD → Vec Ideal Cert.KernelIdeal.S512x8192 .f32) (hx : CutX X x) (hw : CutW W w) (c : Dev Cert.KernelIdeal.nD) :
    result x w c = refOut X W := by
  have hA : ∀ o, (amaxAll x w o : EReal) = refMax (refPos X W) here := fun o =>
    eq_of_forall_ge_iff fun B => (amaxAll_le X W x w hx hw o B).trans (refMax_pos X W B).symm
  funext i
  rw [result_at X W x w hx hw c _ hA i, refOut_at]
  exact quant_agree (posAt_nonneg X W i) ((refMax_pos X W _).mp le_rfl i)

end Cert.Dist

end
-- ==== Proof.Agree.lean ====
/-
  Over the reals every device ends with the reference's whole result.
-/
module

public import proofs.«01_k».proof.Proof.Value
public import proofs.«01_k».proof.Proof.Frames

@[expose] public section

noncomputable section

namespace Cert.Dist

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The launch stages each device's blocks as they are. -/
theorem xIn_eq (c : Dev nD) : xIn m c = m ((c : Thread nD τ).loc main_arg0) := by
  funext i
  exact congrArg (m ((c : Thread nD τ).loc main_arg0)) (funext fun a => Fin.ext (by fin_cases a <;> exact (Nat.zero_add _).trans (Nat.one_mul _)))
/-- The same for the other input. -/
theorem wIn_eq (c : Dev nD) : wIn m c = m ((c : Thread nD τ).loc main_arg1) := by
  funext i
  exact congrArg (m ((c : Thread nD τ).loc main_arg1)) (funext fun a => Fin.ext (by fin_cases a <;> exact (Nat.zero_add _).trans (Nat.one_mul _)))

/-- Both programs run; whenever each device starts with its blocks of the reference's arrays, each ends with the reference's result, whole. -/
theorem algebraic : Cert.algebraic_KernelIdeal_ReferenceIdeal := by
  intro m g m' g' _ hcut
  let o : Thread Cert.ReferenceIdeal.nD Cert.ReferenceIdeal.τ := (0 : Dev Cert.ReferenceIdeal.nD).tc
  have hx : CutX (m' (o.loc Cert.ReferenceIdeal.main_arg0)) (xIn m) := fun c => (xIn_eq m c).trans (hcut c).1
  have hw : CutW (m' (o.loc Cert.ReferenceIdeal.main_arg1)) (wIn m) := fun c => (wIn_eq m c).trans (hcut c).2
  exact ⟨refOut (m' (o.loc Cert.ReferenceIdeal.main_arg0)) (m' (o.loc Cert.ReferenceIdeal.main_arg1)),
    (θ_run _ _ _).mono (fun r h c => ⟨(h.1 c).1.trans (result_eq _ _ _ _ hx hw c), (h.1 c).2.1, (h.1 c).2.2⟩) (run_main (F := Ideal) m g),
    (θ_run _ _ _).mono (fun r h => ⟨(h 0).1, (h 0).2.1, (h 0).2.2⟩) (Cert.ReferenceIdeal.Value.run (F := Ideal) m' g')⟩

end Cert.Dist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.Dist.frame_kernel, Cert.Dist.frame_ideal, Cert.Dist.frame_reference, trivial, Cert.Dist.algebraic⟩

end Cert.Proof

end
